-- ==== Defs.lean ====
def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Oproj (m : (ℓ : Loc Cert.Oproj.nD Cert.Oproj.τ Cert.Oproj.sig) → Buf (Elt Bits) ℓ) : Prop :=
  True

def Pre_OprojIdeal (m : (ℓ : Loc Cert.OprojIdeal.nD Cert.OprojIdeal.τ Cert.OprojIdeal.sig) → Buf (Elt Ideal) ℓ) : Prop :=
  True

def Pre_OprojRefIdeal (m : (ℓ : Loc Cert.OprojRefIdeal.nD Cert.OprojRefIdeal.τ Cert.OprojRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Ff (m : (ℓ : Loc Cert.Ff.nD Cert.Ff.τ Cert.Ff.sig) → Buf (Elt Bits) ℓ) : Prop :=
  True

def Pre_FfIdeal (m : (ℓ : Loc Cert.FfIdeal.nD Cert.FfIdeal.τ Cert.FfIdeal.sig) → Buf (Elt Ideal) ℓ) : Prop :=
  True

def Pre_FfRefIdeal (m : (ℓ : Loc Cert.FfRefIdeal.nD Cert.FfRefIdeal.τ Cert.FfRefIdeal.sig) → Buf (Elt Ideal) ℓ) : Prop :=
  True

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_Oproj [hOproj : Cert.Oproj.Facts] : Prop :=
  ∀ (m : (ℓ : Loc Cert.Oproj.nD Cert.Oproj.τ Cert.Oproj.sig) → Buf (Elt Bits) ℓ) (g : Dev Cert.Oproj.nD → PrngReg), Pre_Oproj m →
    θ_run (Cert.Oproj.defs (F := Bits)) (onTc (τ := Cert.Oproj.τ) (Cert.Oproj.main (F := Bits))) ⟨m, fun _ => 0, g⟩ (fun r => (∀ c : Dev Cert.Oproj.nD,
      r.2.mem ((c.tc : Thread Cert.Oproj.nD Cert.Oproj.τ).loc Cert.Oproj.main_arg0) = m ((c.tc : Thread Cert.Oproj.nD Cert.Oproj.τ).loc Cert.Oproj.main_arg0)
      ∧ r.2.mem ((c.tc : Thread Cert.Oproj.nD Cert.Oproj.τ).loc Cert.Oproj.main_arg1) = m ((c.tc : Thread Cert.Oproj.nD Cert.Oproj.τ).loc Cert.Oproj.main_arg1)
      ∧ r.2.mem ((c.tc : Thread Cert.Oproj.nD Cert.Oproj.τ).loc Cert.Oproj.main_arg2) = m ((c.tc : Thread Cert.Oproj.nD Cert.Oproj.τ).loc Cert.Oproj.main_arg2)
      ∧ r.2.mem ((c.tc : Thread Cert.Oproj.nD Cert.Oproj.τ).loc Cert.Oproj.main_arg3) = m ((c.tc : Thread Cert.Oproj.nD Cert.Oproj.τ).loc Cert.Oproj.main_arg3)
      ∧ r.2.mem ((c.tc : Thread Cert.Oproj.nD Cert.Oproj.τ).loc Cert.Oproj.main_arg4) = m ((c.tc : Thread Cert.Oproj.nD Cert.Oproj.τ).loc Cert.Oproj.main_arg4)
      ∧ r.2.mem ((c.tc : Thread Cert.Oproj.nD Cert.Oproj.τ).loc Cert.Oproj.main_arg5) = m ((c.tc : Thread Cert.Oproj.nD Cert.Oproj.τ).loc Cert.Oproj.main_arg5))
      ∧ r.2.sem = fun _ => 0)

def quiescent_OprojIdeal [hOprojIdeal : Cert.OprojIdeal.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
      ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
      ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
      ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5))
      ∧ r.2.sem = fun _ => 0)

def quiescent_OprojRefIdeal [hOprojRefIdeal : Cert.OprojRefIdeal.Facts] : Prop :=
  ∀ (m : (ℓ : Loc Cert.OprojRefIdeal.nD Cert.OprojRefIdeal.τ Cert.OprojRefIdeal.sig) → Buf (Elt Ideal) ℓ) (g : Dev Cert.OprojRefIdeal.nD → PrngReg), Pre_OprojRefIdeal m →
    θ_run (Cert.OprojRefIdeal.defs (F := Ideal)) (onTc (τ := Cert.OprojRefIdeal.τ) (Cert.OprojRefIdeal.main (F := Ideal))) ⟨m, fun _ => 0, g⟩ (fun r => (∀ c : Dev Cert.OprojRefIdeal.nD,
      r.2.mem ((c.tc : Thread Cert.OprojRefIdeal.nD Cert.OprojRefIdeal.τ).loc Cert.OprojRefIdeal.main_arg0) = m ((c.tc : Thread Cert.OprojRefIdeal.nD Cert.OprojRefIdeal.τ).loc Cert.OprojRefIdeal.main_arg0)
      ∧ r.2.mem ((c.tc : Thread Cert.OprojRefIdeal.nD Cert.OprojRefIdeal.τ).loc Cert.OprojRefIdeal.main_arg1) = m ((c.tc : Thread Cert.OprojRefIdeal.nD Cert.OprojRefIdeal.τ).loc Cert.OprojRefIdeal.main_arg1)
      ∧ r.2.mem ((c.tc : Thread Cert.OprojRefIdeal.nD Cert.OprojRefIdeal.τ).loc Cert.OprojRefIdeal.main_arg2) = m ((c.tc : Thread Cert.OprojRefIdeal.nD Cert.OprojRefIdeal.τ).loc Cert.OprojRefIdeal.main_arg2)
      ∧ r.2.mem ((c.tc : Thread Cert.OprojRefIdeal.nD Cert.OprojRefIdeal.τ).loc Cert.OprojRefIdeal.main_arg3) = m ((c.tc : Thread Cert.OprojRefIdeal.nD Cert.OprojRefIdeal.τ).loc Cert.OprojRefIdeal.main_arg3)
      ∧ r.2.mem ((c.tc : Thread Cert.OprojRefIdeal.nD Cert.OprojRefIdeal.τ).loc Cert.OprojRefIdeal.main_arg4) = m ((c.tc : Thread Cert.OprojRefIdeal.nD Cert.OprojRefIdeal.τ).loc Cert.OprojRefIdeal.main_arg4)
      ∧ r.2.mem ((c.tc : Thread Cert.OprojRefIdeal.nD Cert.OprojRefIdeal.τ).loc Cert.OprojRefIdeal.main_arg5) = m ((c.tc : Thread Cert.OprojRefIdeal.nD Cert.OprojRefIdeal.τ).loc Cert.OprojRefIdeal.main_arg5))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6)
      ∧ r.2.mem ((c.tc : Thread Cert.Qkv.nD Cert.Qkv.τ).loc Cert.Qkv.main_arg7) = m ((c.tc : Thread Cert.Qkv.nD Cert.Qkv.τ).loc Cert.Qkv.main_arg7)
      ∧ r.2.mem ((c.tc : Thread Cert.Qkv.nD Cert.Qkv.τ).loc Cert.Qkv.main_arg8) = m ((c.tc : Thread Cert.Qkv.nD Cert.Qkv.τ).loc Cert.Qkv.main_arg8))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
      ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7)
      ∧ r.2.mem ((c.tc : Thread Cert.QkvRefIdeal.nD Cert.QkvRefIdeal.τ).loc Cert.QkvRefIdeal.main_arg8) = m ((c.tc : Thread Cert.QkvRefIdeal.nD Cert.QkvRefIdeal.τ).loc Cert.QkvRefIdeal.main_arg8))
      ∧ r.2.sem = fun _ => 0)

def quiescent_Ff [hFf : Cert.Ff.Facts] : Prop :=
  ∀ (m : (ℓ : Loc Cert.Ff.nD Cert.Ff.τ Cert.Ff.sig) → Buf (Elt Bits) ℓ) (g : Dev Cert.Ff.nD → PrngReg), Pre_Ff m →
    θ_run (Cert.Ff.defs (F := Bits)) (onTc (τ := Cert.Ff.τ) (Cert.Ff.main (F := Bits))) ⟨m, fun _ => 0, g⟩ (fun r => (∀ c : Dev Cert.Ff.nD,
      r.2.mem ((c.tc : Thread Cert.Ff.nD Cert.Ff.τ).loc Cert.Ff.main_arg0) = m ((c.tc : Thread Cert.Ff.nD Cert.Ff.τ).loc Cert.Ff.main_arg0)
      ∧ r.2.mem ((c.tc : Thread Cert.Ff.nD Cert.Ff.τ).loc Cert.Ff.main_arg1) = m ((c.tc : Thread Cert.Ff.nD Cert.Ff.τ).loc Cert.Ff.main_arg1)
      ∧ r.2.mem ((c.tc : Thread Cert.Ff.nD Cert.Ff.τ).loc Cert.Ff.main_arg2) = m ((c.tc : Thread Cert.Ff.nD Cert.Ff.τ).loc Cert.Ff.main_arg2)
      ∧ r.2.mem ((c.tc : Thread Cert.Ff.nD Cert.Ff.τ).loc Cert.Ff.main_arg3) = m ((c.tc : Thread Cert.Ff.nD Cert.Ff.τ).loc Cert.Ff.main_arg3)
      ∧ r.2.mem ((c.tc : Thread Cert.Ff.nD Cert.Ff.τ).loc Cert.Ff.main_arg4) = m ((c.tc : Thread Cert.Ff.nD Cert.Ff.τ).loc Cert.Ff.main_arg4)
      ∧ r.2.mem ((c.tc : Thread Cert.Ff.nD Cert.Ff.τ).loc Cert.Ff.main_arg5) = m ((c.tc : Thread Cert.Ff.nD Cert.Ff.τ).loc Cert.Ff.main_arg5))
      ∧ r.2.sem = fun _ => 0)

def quiescent_FfIdeal [hFfIdeal : Cert.FfIdeal.Facts] : Prop :=
  ∀ (m : (ℓ : Loc Cert.FfIdeal.nD Cert.FfIdeal.τ Cert.FfIdeal.sig) → Buf (Elt Ideal) ℓ) (g : Dev Cert.FfIdeal.nD → PrngReg), Pre_FfIdeal m →
    θ_run (Cert.FfIdeal.defs (F := Ideal)) (onTc (τ := Cert.FfIdeal.τ) (Cert.FfIdeal.main (F := Ideal))) ⟨m, fun _ => 0, g⟩ (fun r => (∀ c : Dev Cert.FfIdeal.nD,
      r.2.mem ((c.tc : Thread Cert.FfIdeal.nD Cert.FfIdeal.τ).loc Cert.FfIdeal.main_arg0) = m ((c.tc : Thread Cert.FfIdeal.nD Cert.FfIdeal.τ).loc Cert.FfIdeal.main_arg0)
      ∧ r.2.mem ((c.tc : Thread Cert.FfIdeal.nD Cert.FfIdeal.τ).loc Cert.FfIdeal.main_arg1) = m ((c.tc : Thread Cert.FfIdeal.nD Cert.FfIdeal.τ).loc Cert.FfIdeal.main_arg1)
      ∧ r.2.mem ((c.tc : Thread Cert.FfIdeal.nD Cert.FfIdeal.τ).loc Cert.FfIdeal.main_arg2) = m ((c.tc : Thread Cert.FfIdeal.nD Cert.FfIdeal.τ).loc Cert.FfIdeal.main_arg2)
      ∧ r.2.mem ((c.tc : Thread Cert.FfIdeal.nD Cert.FfIdeal.τ).loc Cert.FfIdeal.main_arg3) = m ((c.tc : Thread Cert.FfIdeal.nD Cert.FfIdeal.τ).loc Cert.FfIdeal.main_arg3)
      ∧ r.2.mem ((c.tc : Thread Cert.FfIdeal.nD Cert.FfIdeal.τ).loc Cert.FfIdeal.main_arg4) = m ((c.tc : Thread Cert.FfIdeal.nD Cert.FfIdeal.τ).loc Cert.FfIdeal.main_arg4)
      ∧ r.2.mem ((c.tc : Thread Cert.FfIdeal.nD Cert.FfIdeal.τ).loc Cert.FfIdeal.main_arg5) = m ((c.tc : Thread Cert.FfIdeal.nD Cert.FfIdeal.τ).loc Cert.FfIdeal.main_arg5))
      ∧ r.2.sem = fun _ => 0)

def quiescent_FfRefIdeal [hFfRefIdeal : Cert.FfRefIdeal.Facts] : Prop :=
  ∀ (m : (ℓ : Loc Cert.FfRefIdeal.nD Cert.FfRefIdeal.τ Cert.FfRefIdeal.sig) → Buf (Elt Ideal) ℓ) (g : Dev Cert.FfRefIdeal.nD → PrngReg), Pre_FfRefIdeal m →
    θ_run (Cert.FfRefIdeal.defs (F := Ideal)) (onTc (τ := Cert.FfRefIdeal.τ) (Cert.FfRefIdeal.main (F := Ideal))) ⟨m, fun _ => 0, g⟩ (fun r => (∀ c : Dev Cert.FfRefIdeal.nD,
      r.2.mem ((c.tc : Thread Cert.FfRefIdeal.nD Cert.FfRefIdeal.τ).loc Cert.FfRefIdeal.main_arg0) = m ((c.tc : Thread Cert.FfRefIdeal.nD Cert.FfRefIdeal.τ).loc Cert.FfRefIdeal.main_arg0)
      ∧ r.2.mem ((c.tc : Thread Cert.FfRefIdeal.nD Cert.FfRefIdeal.τ).loc Cert.FfRefIdeal.main_arg1) = m ((c.tc : Thread Cert.FfRefIdeal.nD Cert.FfRefIdeal.τ).loc Cert.FfRefIdeal.main_arg1)
      ∧ r.2.mem ((c.tc : Thread Cert.FfRefIdeal.nD Cert.FfRefIdeal.τ).loc Cert.FfRefIdeal.main_arg2) = m ((c.tc : Thread Cert.FfRefIdeal.nD Cert.FfRefIdeal.τ).loc Cert.FfRefIdeal.main_arg2)
      ∧ r.2.mem ((c.tc : Thread Cert.FfRefIdeal.nD Cert.FfRefIdeal.τ).loc Cert.FfRefIdeal.main_arg3) = m ((c.tc : Thread Cert.FfRefIdeal.nD Cert.FfRefIdeal.τ).loc Cert.FfRefIdeal.main_arg3)
      ∧ r.2.mem ((c.tc : Thread Cert.FfRefIdeal.nD Cert.FfRefIdeal.τ).loc Cert.FfRefIdeal.main_arg4) = m ((c.tc : Thread Cert.FfRefIdeal.nD Cert.FfRefIdeal.τ).loc Cert.FfRefIdeal.main_arg4)
      ∧ r.2.mem ((c.tc : Thread Cert.FfRefIdeal.nD Cert.FfRefIdeal.τ).loc Cert.FfRefIdeal.main_arg5) = m ((c.tc : Thread Cert.FfRefIdeal.nD Cert.FfRefIdeal.τ).loc Cert.FfRefIdeal.main_arg5))
      ∧ r.2.sem = fun _ => 0)

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v1) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_Oproj_OprojIdeal : Prop :=
  True

def algebraic_OprojIdeal_OprojRefIdeal [hOprojIdeal : Cert.OprojIdeal.Facts] [hOprojRefIdeal : Cert.OprojRefIdeal.Facts] : Prop :=
  ∀ (m : (ℓ : Loc Cert.OprojIdeal.nD Cert.OprojIdeal.τ Cert.OprojIdeal.sig) → Buf (Elt Ideal) ℓ) (g : Dev Cert.OprojIdeal.nD → PrngReg)
    (m' : (ℓ : Loc Cert.OprojRefIdeal.nD Cert.OprojRefIdeal.τ Cert.OprojRefIdeal.sig) → Buf (Elt Ideal) ℓ) (g' : Dev Cert.OprojRefIdeal.nD → PrngReg), Pre_OprojIdeal m →
    (∀ c : Dev Cert.OprojIdeal.nD,
      m' ((c.tc : Thread Cert.OprojRefIdeal.nD Cert.OprojRefIdeal.τ).loc Cert.OprojRefIdeal.main_arg0) = m ((c.tc : Thread Cert.OprojIdeal.nD Cert.OprojIdeal.τ).loc Cert.OprojIdeal.main_arg0)
      ∧ m' ((c.tc : Thread Cert.OprojRefIdeal.nD Cert.OprojRefIdeal.τ).loc Cert.OprojRefIdeal.main_arg1) = m ((c.tc : Thread Cert.OprojIdeal.nD Cert.OprojIdeal.τ).loc Cert.OprojIdeal.main_arg1)
      ∧ m' ((c.tc : Thread Cert.OprojRefIdeal.nD Cert.OprojRefIdeal.τ).loc Cert.OprojRefIdeal.main_arg2) = m ((c.tc : Thread Cert.OprojIdeal.nD Cert.OprojIdeal.τ).loc Cert.OprojIdeal.main_arg2)
      ∧ m' ((c.tc : Thread Cert.OprojRefIdeal.nD Cert.OprojRefIdeal.τ).loc Cert.OprojRefIdeal.main_arg3) = m ((c.tc : Thread Cert.OprojIdeal.nD Cert.OprojIdeal.τ).loc Cert.OprojIdeal.main_arg3)
      ∧ m' ((c.tc : Thread Cert.OprojRefIdeal.nD Cert.OprojRefIdeal.τ).loc Cert.OprojRefIdeal.main_arg4) = m ((c.tc : Thread Cert.OprojIdeal.nD Cert.OprojIdeal.τ).loc Cert.OprojIdeal.main_arg4)
      ∧ m' ((c.tc : Thread Cert.OprojRefIdeal.nD Cert.OprojRefIdeal.τ).loc Cert.OprojRefIdeal.main_arg5) = m ((c.tc : Thread Cert.OprojIdeal.nD Cert.OprojIdeal.τ).loc Cert.OprojIdeal.main_arg5)) →
    ∃ (v0 : (c : Dev Cert.OprojIdeal.nD) → Buf (Elt Ideal) ((c.tc : Thread Cert.OprojIdeal.nD Cert.OprojIdeal.τ).loc Cert.OprojIdeal.main_v2_0)) (v1 : (c : Dev Cert.OprojIdeal.nD) → Buf (Elt Ideal) ((c.tc : Thread Cert.OprojIdeal.nD Cert.OprojIdeal.τ).loc Cert.OprojIdeal.main_v2_1)) (v2 : (c : Dev Cert.OprojIdeal.nD) → Buf (Elt Ideal) ((c.tc : Thread Cert.OprojIdeal.nD Cert.OprojIdeal.τ).loc Cert.OprojIdeal.main_v2_2)),
      θ_run (Cert.OprojIdeal.defs (F := Ideal)) (onTc (τ := Cert.OprojIdeal.τ) (Cert.OprojIdeal.main (F := Ideal))) ⟨m, fun _ => 0, g⟩ (fun r => ∀ c : Dev Cert.OprojIdeal.nD,
          r.2.mem ((c.tc : Thread Cert.OprojIdeal.nD Cert.OprojIdeal.τ).loc Cert.OprojIdeal.main_v2_0) = v0 c
          ∧ r.2.mem ((c.tc : Thread Cert.OprojIdeal.nD Cert.OprojIdeal.τ).loc Cert.OprojIdeal.main_v2_1) = v1 c
          ∧ r.2.mem ((c.tc : Thread Cert.OprojIdeal.nD Cert.OprojIdeal.τ).loc Cert.OprojIdeal.main_v2_2) = v2 c
          ∧ r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
          ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
          ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
          ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
          ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
          ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5))
      ∧ θ_run (Cert.OprojRefIdeal.defs (F := Ideal)) (onTc (τ := Cert.OprojRefIdeal.τ) (Cert.OprojRefIdeal.main (F := Ideal))) ⟨m', fun _ => 0, g'⟩ (fun r => ∀ c : Dev Cert.OprojRefIdeal.nD,
          r.2.mem ((c.tc : Thread Cert.OprojRefIdeal.nD Cert.OprojRefIdeal.τ).loc Cert.OprojRefIdeal.main_v2_0) = v0 c
          ∧ r.2.mem ((c.tc : Thread Cert.OprojRefIdeal.nD Cert.OprojRefIdeal.τ).loc Cert.OprojRefIdeal.main_v2_1) = v1 c
          ∧ r.2.mem ((c.tc : Thread Cert.OprojRefIdeal.nD Cert.OprojRefIdeal.τ).loc Cert.OprojRefIdeal.main_v2_2) = v2 c
          ∧ r.2.mem ((c.tc : Thread Cert.OprojRefIdeal.nD Cert.OprojRefIdeal.τ).loc Cert.OprojRefIdeal.main_arg0) = m' ((c.tc : Thread Cert.OprojRefIdeal.nD Cert.OprojRefIdeal.τ).loc Cert.OprojRefIdeal.main_arg0)
          ∧ r.2.mem ((c.tc : Thread Cert.OprojRefIdeal.nD Cert.OprojRefIdeal.τ).loc Cert.OprojRefIdeal.main_arg1) = m' ((c.tc : Thread Cert.OprojRefIdeal.nD Cert.OprojRefIdeal.τ).loc Cert.OprojRefIdeal.main_arg1)
          ∧ r.2.mem ((c.tc : Thread Cert.OprojRefIdeal.nD Cert.OprojRefIdeal.τ).loc Cert.OprojRefIdeal.main_arg2) = m' ((c.tc : Thread Cert.OprojRefIdeal.nD Cert.OprojRefIdeal.τ).loc Cert.OprojRefIdeal.main_arg2)
          ∧ r.2.mem ((c.tc : Thread Cert.OprojRefIdeal.nD Cert.OprojRefIdeal.τ).loc Cert.OprojRefIdeal.main_arg3) = m' ((c.tc : Thread Cert.OprojRefIdeal.nD Cert.OprojRefIdeal.τ).loc Cert.OprojRefIdeal.main_arg3)
          ∧ r.2.mem ((c.tc : Thread Cert.OprojRefIdeal.nD Cert.OprojRefIdeal.τ).loc Cert.OprojRefIdeal.main_arg4) = m' ((c.tc : Thread Cert.OprojRefIdeal.nD Cert.OprojRefIdeal.τ).loc Cert.OprojRefIdeal.main_arg4)
          ∧ r.2.mem ((c.tc : Thread Cert.OprojRefIdeal.nD Cert.OprojRefIdeal.τ).loc Cert.OprojRefIdeal.main_arg5) = m' ((c.tc : Thread Cert.OprojRefIdeal.nD Cert.OprojRefIdeal.τ).loc Cert.OprojRefIdeal.main_arg5))

def preserves_Attn_AttnIdeal : Prop :=
  True

def algebraic_AttnIdeal_AttnRefIdeal [hAttnIdeal : Cert.AttnIdeal.Facts] [hAttnRefIdeal : Cert.AttnRefIdeal.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)) →
    ∃ (v0 : (c : Dev Cert.AttnIdeal.nD) → Buf (Elt Ideal) ((c.tc : Thread Cert.AttnIdeal.nD Cert.AttnIdeal.τ).loc Cert.AttnIdeal.main_v0_0)) (v1 : (c : Dev Cert.AttnIdeal.nD) → Buf (Elt Ideal) ((c.tc : Thread Cert.AttnIdeal.nD Cert.AttnIdeal.τ).loc Cert.AttnIdeal.main_v0_1)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0_0) = v0 c
          ∧ r.2.mem ((c.tc : Thread Cert.AttnIdeal.nD Cert.AttnIdeal.τ).loc Cert.AttnIdeal.main_v0_1) = v1 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v33_0) = v0 c
          ∧ r.2.mem ((c.tc : Thread Cert.AttnRefIdeal.nD Cert.AttnRefIdeal.τ).loc Cert.AttnRefIdeal.main_v33_1) = v1 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)
      ∧ m' ((c.tc : Thread Cert.QkvRefIdeal.nD Cert.QkvRefIdeal.τ).loc Cert.QkvRefIdeal.main_arg7) = m ((c.tc : Thread Cert.QkvIdeal.nD Cert.QkvIdeal.τ).loc Cert.QkvIdeal.main_arg7)
      ∧ m' ((c.tc : Thread Cert.QkvRefIdeal.nD Cert.QkvRefIdeal.τ).loc Cert.QkvRefIdeal.main_arg8) = m ((c.tc : Thread Cert.QkvIdeal.nD Cert.QkvIdeal.τ).loc Cert.QkvIdeal.main_arg8)) →
    ∃ (v0 : (c : Dev Cert.QkvIdeal.nD) → Buf (Elt Ideal) ((c.tc : Thread Cert.QkvIdeal.nD Cert.QkvIdeal.τ).loc Cert.QkvIdeal.main_v32_0)) (v1 : (c : Dev Cert.QkvIdeal.nD) → Buf (Elt Ideal) ((c.tc : Thread Cert.QkvIdeal.nD Cert.QkvIdeal.τ).loc Cert.QkvIdeal.main_v32_1)) (v2 : (c : Dev Cert.QkvIdeal.nD) → Buf (Elt Ideal) ((c.tc : Thread Cert.QkvIdeal.nD Cert.QkvIdeal.τ).loc Cert.QkvIdeal.main_v32_2)) (v3 : (c : Dev Cert.QkvIdeal.nD) → Buf (Elt Ideal) ((c.tc : Thread Cert.QkvIdeal.nD Cert.QkvIdeal.τ).loc Cert.QkvIdeal.main_v32_3)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v32_0) = v0 c
          ∧ r.2.mem ((c.tc : Thread Cert.QkvIdeal.nD Cert.QkvIdeal.τ).loc Cert.QkvIdeal.main_v32_1) = v1 c
          ∧ r.2.mem ((c.tc : Thread Cert.QkvIdeal.nD Cert.QkvIdeal.τ).loc Cert.QkvIdeal.main_v32_2) = v2 c
          ∧ r.2.mem ((c.tc : Thread Cert.QkvIdeal.nD Cert.QkvIdeal.τ).loc Cert.QkvIdeal.main_v32_3) = v3 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
          ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
          ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v5_0) = v0 c
          ∧ r.2.mem ((c.tc : Thread Cert.QkvRefIdeal.nD Cert.QkvRefIdeal.τ).loc Cert.QkvRefIdeal.main_v5_1) = v1 c
          ∧ r.2.mem ((c.tc : Thread Cert.QkvRefIdeal.nD Cert.QkvRefIdeal.τ).loc Cert.QkvRefIdeal.main_v56) = v2 c
          ∧ r.2.mem ((c.tc : Thread Cert.QkvRefIdeal.nD Cert.QkvRefIdeal.τ).loc Cert.QkvRefIdeal.main_v55) = v3 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6)
          ∧ r.2.mem ((c.tc : Thread Cert.QkvRefIdeal.nD Cert.QkvRefIdeal.τ).loc Cert.QkvRefIdeal.main_arg7) = m' ((c.tc : Thread Cert.QkvRefIdeal.nD Cert.QkvRefIdeal.τ).loc Cert.QkvRefIdeal.main_arg7)
          ∧ r.2.mem ((c.tc : Thread Cert.QkvRefIdeal.nD Cert.QkvRefIdeal.τ).loc Cert.QkvRefIdeal.main_arg8) = m' ((c.tc : Thread Cert.QkvRefIdeal.nD Cert.QkvRefIdeal.τ).loc Cert.QkvRefIdeal.main_arg8))

def preserves_Ff_FfIdeal : Prop :=
  True

def algebraic_FfIdeal_FfRefIdeal [hFfIdeal : Cert.FfIdeal.Facts] [hFfRefIdeal : Cert.FfRefIdeal.Facts] : Prop :=
  ∀ (m : (ℓ : Loc Cert.FfIdeal.nD Cert.FfIdeal.τ Cert.FfIdeal.sig) → Buf (Elt Ideal) ℓ) (g : Dev Cert.FfIdeal.nD → PrngReg)
    (m' : (ℓ : Loc Cert.FfRefIdeal.nD Cert.FfRefIdeal.τ Cert.FfRefIdeal.sig) → Buf (Elt Ideal) ℓ) (g' : Dev Cert.FfRefIdeal.nD → PrngReg), Pre_FfIdeal m →
    (∀ c : Dev Cert.FfIdeal.nD,
      m' ((c.tc : Thread Cert.FfRefIdeal.nD Cert.FfRefIdeal.τ).loc Cert.FfRefIdeal.main_arg0) = m ((c.tc : Thread Cert.FfIdeal.nD Cert.FfIdeal.τ).loc Cert.FfIdeal.main_arg0)
      ∧ m' ((c.tc : Thread Cert.FfRefIdeal.nD Cert.FfRefIdeal.τ).loc Cert.FfRefIdeal.main_arg1) = m ((c.tc : Thread Cert.FfIdeal.nD Cert.FfIdeal.τ).loc Cert.FfIdeal.main_arg1)
      ∧ m' ((c.tc : Thread Cert.FfRefIdeal.nD Cert.FfRefIdeal.τ).loc Cert.FfRefIdeal.main_arg2) = m ((c.tc : Thread Cert.FfIdeal.nD Cert.FfIdeal.τ).loc Cert.FfIdeal.main_arg2)
      ∧ m' ((c.tc : Thread Cert.FfRefIdeal.nD Cert.FfRefIdeal.τ).loc Cert.FfRefIdeal.main_arg3) = m ((c.tc : Thread Cert.FfIdeal.nD Cert.FfIdeal.τ).loc Cert.FfIdeal.main_arg3)
      ∧ m' ((c.tc : Thread Cert.FfRefIdeal.nD Cert.FfRefIdeal.τ).loc Cert.FfRefIdeal.main_arg4) = m ((c.tc : Thread Cert.FfIdeal.nD Cert.FfIdeal.τ).loc Cert.FfIdeal.main_arg4)
      ∧ m' ((c.tc : Thread Cert.FfRefIdeal.nD Cert.FfRefIdeal.τ).loc Cert.FfRefIdeal.main_arg5) = m ((c.tc : Thread Cert.FfIdeal.nD Cert.FfIdeal.τ).loc Cert.FfIdeal.main_arg5)) →
    ∃ (v0 : (c : Dev Cert.FfIdeal.nD) → Buf (Elt Ideal) ((c.tc : Thread Cert.FfIdeal.nD Cert.FfIdeal.τ).loc Cert.FfIdeal.main_v2_0)) (v1 : (c : Dev Cert.FfIdeal.nD) → Buf (Elt Ideal) ((c.tc : Thread Cert.FfIdeal.nD Cert.FfIdeal.τ).loc Cert.FfIdeal.main_v2_1)),
      θ_run (Cert.FfIdeal.defs (F := Ideal)) (onTc (τ := Cert.FfIdeal.τ) (Cert.FfIdeal.main (F := Ideal))) ⟨m, fun _ => 0, g⟩ (fun r => ∀ c : Dev Cert.FfIdeal.nD,
          r.2.mem ((c.tc : Thread Cert.FfIdeal.nD Cert.FfIdeal.τ).loc Cert.FfIdeal.main_v2_0) = v0 c
          ∧ r.2.mem ((c.tc : Thread Cert.FfIdeal.nD Cert.FfIdeal.τ).loc Cert.FfIdeal.main_v2_1) = v1 c
          ∧ r.2.mem ((c.tc : Thread Cert.FfIdeal.nD Cert.FfIdeal.τ).loc Cert.FfIdeal.main_arg0) = m ((c.tc : Thread Cert.FfIdeal.nD Cert.FfIdeal.τ).loc Cert.FfIdeal.main_arg0)
          ∧ r.2.mem ((c.tc : Thread Cert.FfIdeal.nD Cert.FfIdeal.τ).loc Cert.FfIdeal.main_arg1) = m ((c.tc : Thread Cert.FfIdeal.nD Cert.FfIdeal.τ).loc Cert.FfIdeal.main_arg1)
          ∧ r.2.mem ((c.tc : Thread Cert.FfIdeal.nD Cert.FfIdeal.τ).loc Cert.FfIdeal.main_arg2) = m ((c.tc : Thread Cert.FfIdeal.nD Cert.FfIdeal.τ).loc Cert.FfIdeal.main_arg2)
          ∧ r.2.mem ((c.tc : Thread Cert.FfIdeal.nD Cert.FfIdeal.τ).loc Cert.FfIdeal.main_arg3) = m ((c.tc : Thread Cert.FfIdeal.nD Cert.FfIdeal.τ).loc Cert.FfIdeal.main_arg3)
          ∧ r.2.mem ((c.tc : Thread Cert.FfIdeal.nD Cert.FfIdeal.τ).loc Cert.FfIdeal.main_arg4) = m ((c.tc : Thread Cert.FfIdeal.nD Cert.FfIdeal.τ).loc Cert.FfIdeal.main_arg4)
          ∧ r.2.mem ((c.tc : Thread Cert.FfIdeal.nD Cert.FfIdeal.τ).loc Cert.FfIdeal.main_arg5) = m ((c.tc : Thread Cert.FfIdeal.nD Cert.FfIdeal.τ).loc Cert.FfIdeal.main_arg5))
      ∧ θ_run (Cert.FfRefIdeal.defs (F := Ideal)) (onTc (τ := Cert.FfRefIdeal.τ) (Cert.FfRefIdeal.main (F := Ideal))) ⟨m', fun _ => 0, g'⟩ (fun r => ∀ c : Dev Cert.FfRefIdeal.nD,
          r.2.mem ((c.tc : Thread Cert.FfRefIdeal.nD Cert.FfRefIdeal.τ).loc Cert.FfRefIdeal.main_v2_0) = v0 c
          ∧ r.2.mem ((c.tc : Thread Cert.FfRefIdeal.nD Cert.FfRefIdeal.τ).loc Cert.FfRefIdeal.main_v2_1) = v1 c
          ∧ r.2.mem ((c.tc : Thread Cert.FfRefIdeal.nD Cert.FfRefIdeal.τ).loc Cert.FfRefIdeal.main_arg0) = m' ((c.tc : Thread Cert.FfRefIdeal.nD Cert.FfRefIdeal.τ).loc Cert.FfRefIdeal.main_arg0)
          ∧ r.2.mem ((c.tc : Thread Cert.FfRefIdeal.nD Cert.FfRefIdeal.τ).loc Cert.FfRefIdeal.main_arg1) = m' ((c.tc : Thread Cert.FfRefIdeal.nD Cert.FfRefIdeal.τ).loc Cert.FfRefIdeal.main_arg1)
          ∧ r.2.mem ((c.tc : Thread Cert.FfRefIdeal.nD Cert.FfRefIdeal.τ).loc Cert.FfRefIdeal.main_arg2) = m' ((c.tc : Thread Cert.FfRefIdeal.nD Cert.FfRefIdeal.τ).loc Cert.FfRefIdeal.main_arg2)
          ∧ r.2.mem ((c.tc : Thread Cert.FfRefIdeal.nD Cert.FfRefIdeal.τ).loc Cert.FfRefIdeal.main_arg3) = m' ((c.tc : Thread Cert.FfRefIdeal.nD Cert.FfRefIdeal.τ).loc Cert.FfRefIdeal.main_arg3)
          ∧ r.2.mem ((c.tc : Thread Cert.FfRefIdeal.nD Cert.FfRefIdeal.τ).loc Cert.FfRefIdeal.main_arg4) = m' ((c.tc : Thread Cert.FfRefIdeal.nD Cert.FfRefIdeal.τ).loc Cert.FfRefIdeal.main_arg4)
          ∧ r.2.mem ((c.tc : Thread Cert.FfRefIdeal.nD Cert.FfRefIdeal.τ).loc Cert.FfRefIdeal.main_arg5) = m' ((c.tc : Thread Cert.FfRefIdeal.nD Cert.FfRefIdeal.τ).loc Cert.FfRefIdeal.main_arg5))

def Claim : Prop :=
  ∃ (hDown : Cert.Down.Facts) (hDownIdeal : Cert.DownIdeal.Facts) (hDownRefIdeal : Cert.DownRefIdeal.Facts) (hOproj : Cert.Oproj.Facts) (hOprojIdeal : Cert.OprojIdeal.Facts) (hOprojRefIdeal : Cert.OprojRefIdeal.Facts) (hAttn : Cert.Attn.Facts) (hAttnIdeal : Cert.AttnIdeal.Facts) (hAttnRefIdeal : Cert.AttnRefIdeal.Facts) (hQkv : Cert.Qkv.Facts) (hQkvIdeal : Cert.QkvIdeal.Facts) (hQkvRefIdeal : Cert.QkvRefIdeal.Facts) (hFf : Cert.Ff.Facts) (hFfIdeal : Cert.FfIdeal.Facts) (hFfRefIdeal : Cert.FfRefIdeal.Facts),
    quiescent_Down (hDown := hDown)
    ∧ quiescent_DownIdeal (hDownIdeal := hDownIdeal)
    ∧ quiescent_DownRefIdeal (hDownRefIdeal := hDownRefIdeal)
    ∧ quiescent_Oproj (hOproj := hOproj)
    ∧ quiescent_OprojIdeal (hOprojIdeal := hOprojIdeal)
    ∧ quiescent_OprojRefIdeal (hOprojRefIdeal := hOprojRefIdeal)
    ∧ quiescent_Attn (hAttn := hAttn)
    ∧ quiescent_AttnIdeal (hAttnIdeal := hAttnIdeal)
    ∧ quiescent_AttnRefIdeal (hAttnRefIdeal := hAttnRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Ff (hFf := hFf)
    ∧ quiescent_FfIdeal (hFfIdeal := hFfIdeal)
    ∧ quiescent_FfRefIdeal (hFfRefIdeal := hFfRefIdeal)
    ∧ preserves_Down_DownIdeal
    ∧ algebraic_DownIdeal_DownRefIdeal (hDownIdeal := hDownIdeal) (hDownRefIdeal := hDownRefIdeal)
    ∧ preserves_Oproj_OprojIdeal
    ∧ algebraic_OprojIdeal_OprojRefIdeal (hOprojIdeal := hOprojIdeal) (hOprojRefIdeal := hOprojRefIdeal)
    ∧ preserves_Attn_AttnIdeal
    ∧ algebraic_AttnIdeal_AttnRefIdeal (hAttnIdeal := hAttnIdeal) (hAttnRefIdeal := hAttnRefIdeal)
    ∧ preserves_Qkv_QkvIdeal
    ∧ algebraic_QkvIdeal_QkvRefIdeal (hQkvIdeal := hQkvIdeal) (hQkvRefIdeal := hQkvRefIdeal)
    ∧ preserves_Ff_FfIdeal
    ∧ algebraic_FfIdeal_FfRefIdeal (hFfIdeal := hFfIdeal) (hFfRefIdeal := hFfRefIdeal)
-- ==== Down.lean ====
abbrev S1024x4096 : Shape := ⟨2, ![1024, 4096]⟩
abbrev S1024x1 : Shape := ⟨2, ![1024, 1]⟩
abbrev S4096x8192 : Shape := ⟨2, ![4096, 8192]⟩
abbrev S8192 : Shape := ⟨1, ![8192]⟩
abbrev S1024x8192 : Shape := ⟨2, ![1024, 8192]⟩
abbrev S1x8192 : Shape := ⟨2, ![1, 8192]⟩
abbrev S4096x512 : Shape := ⟨2, ![4096, 512]⟩
abbrev S1x512 : Shape := ⟨2, ![1, 512]⟩
abbrev S1024x512 : Shape := ⟨2, ![1024, 512]⟩

abbrev nBuf : Space → Nat
  | .hbm => 7
  | .vmem => 10
  | .smem => 0
  | _ => 0

abbrev bufTy : (tb : Table) → Fin (tcTables nBuf tb) → BufTy
  | .hbm, ⟨0, _⟩ => ⟨S1024x4096, .fp8e4m3⟩
  | .hbm, ⟨1, _⟩ => ⟨S1024x1, .f32⟩
  | .hbm, ⟨2, _⟩ => ⟨S4096x8192, .fp8e4m3⟩
  | .hbm, ⟨3, _⟩ => ⟨S8192, .f32⟩
  | .hbm, ⟨4, _⟩ => ⟨S1024x8192, .f32⟩
  | .hbm, ⟨5, _⟩ => ⟨S1x8192, .f32⟩
  | .hbm, ⟨6, _⟩ => ⟨S1024x8192, .bf16⟩
  | .local _ .vmem, ⟨0, _⟩ => ⟨S1024x4096, .fp8e4m3⟩
  | .local _ .vmem, ⟨1, _⟩ => ⟨S1024x1, .f32⟩
  | .local _ .vmem, ⟨2, _⟩ => ⟨S4096x512, .fp8e4m3⟩
  | .local _ .vmem, ⟨3, _⟩ => ⟨S4096x512, .fp8e4m3⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | .local _ .vmem, ⟨8, _⟩ => ⟨S1024x512, .bf16⟩
  | .local _ .vmem, ⟨9, _⟩ => ⟨S1024x512, .bf16⟩
  | _, _ => ⟨S1024x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DownRefIdeal.lean ====
abbrev S1024x4096 : Shape := ⟨2, ![1024, 4096]⟩
abbrev S1024x1 : Shape := ⟨2, ![1024, 1]⟩
abbrev S4096x8192 : Shape := ⟨2, ![4096, 8192]⟩
abbrev S8192 : Shape := ⟨1, ![8192]⟩
abbrev S1024x8192 : Shape := ⟨2, ![1024, 8192]⟩
abbrev S1x8192 : Shape := ⟨2, ![1, 8192]⟩

abbrev nBuf : Space → Nat
  | .hbm => 7
  | .vmem => 6
  | .smem => 0
  | _ => 0

abbrev bufTy : (tb : Table) → Fin (tcTables nBuf tb) → BufTy
  | .hbm, ⟨0, _⟩ => ⟨S1024x4096, .fp8e4m3⟩
  | .hbm, ⟨1, _⟩ => ⟨S1024x1, .f32⟩
  | .hbm, ⟨2, _⟩ => ⟨S4096x8192, .fp8e4m3⟩
  | .hbm, ⟨3, _⟩ => ⟨S8192, .f32⟩
  | .hbm, ⟨4, _⟩ => ⟨S1024x8192, .f32⟩
  | .hbm, ⟨5, _⟩ => ⟨S1x8192, .f32⟩
  | .hbm, ⟨6, _⟩ => ⟨S1024x8192, .bf16⟩
  | .local _ .vmem, ⟨0, _⟩ => ⟨S1024x4096, .fp8e4m3⟩
  | .local _ .vmem, ⟨1, _⟩ => ⟨S1024x1, .f32⟩
  | .local _ .vmem, ⟨2, _⟩ => ⟨S4096x8192, .fp8e4m3⟩
  | .local _ .vmem, ⟨3, _⟩ => ⟨S1x8192, .f32⟩
  | .local _ .vmem, ⟨4, _⟩ => ⟨S1024x8192, .f32⟩
  | .local _ .vmem, ⟨5, _⟩ => ⟨S1024x8192, .bf16⟩
  | _, _ => ⟨S1024x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1024x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x8192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Oproj.lean ====
abbrev S1024x1024 : Shape := ⟨2, ![1024, 1024]⟩
abbrev S1024x1 : Shape := ⟨2, ![1024, 1]⟩
abbrev S1024x8192 : Shape := ⟨2, ![1024, 8192]⟩
abbrev S8192 : Shape := ⟨1, ![8192]⟩
abbrev S1x8192 : Shape := ⟨2, ![1, 8192]⟩
abbrev S128x1024 : Shape := ⟨2, ![128, 1024]⟩
abbrev S128x1 : Shape := ⟨2, ![128, 1]⟩
abbrev S128x8192 : Shape := ⟨2, ![128, 8192]⟩
abbrev S128 : Shape := ⟨1, ![128]⟩
abbrev S128x256 : Shape := ⟨2, ![128, 256]⟩

abbrev nBuf : Space → Nat
  | .hbm => 11
  | .vmem => 15
  | .smem => 0
  | _ => 0

abbrev bufTy : (tb : Table) → Fin (tcTables nBuf tb) → BufTy
  | .hbm, ⟨0, _⟩ => ⟨S1024x1024, .fp8e4m3⟩
  | .hbm, ⟨1, _⟩ => ⟨S1024x1, .f32⟩
  | .hbm, ⟨2, _⟩ => ⟨S1024x8192, .fp8e4m3⟩
  | .hbm, ⟨3, _⟩ => ⟨S8192, .f32⟩
  | .hbm, ⟨4, _⟩ => ⟨S1024x8192, .bf16⟩
  | .hbm, ⟨5, _⟩ => ⟨S8192, .bf16⟩
  | .hbm, ⟨6, _⟩ => ⟨S1x8192, .f32⟩
  | .hbm, ⟨7, _⟩ => ⟨S1x8192, .bf16⟩
  | .hbm, ⟨8, _⟩ => ⟨S1024x8192, .f32⟩
  | .hbm, ⟨9, _⟩ => ⟨S1024x8192, .fp8e4m3⟩
  | .hbm, ⟨10, _⟩ => ⟨S1024x1, .f32⟩
  | .local _ .vmem, ⟨0, _⟩ => ⟨S128x1024, .fp8e4m3⟩
  | .local _ .vmem, ⟨1, _⟩ => ⟨S128x1024, .fp8e4m3⟩
  | .local _ .vmem, ⟨2, _⟩ => ⟨S128x1, .f32⟩
  | .local _ .vmem, ⟨3, _⟩ => ⟨S128x1, .f32⟩
  | .local _ .vmem, ⟨4, _⟩ => ⟨S1024x8192, .fp8e4m3⟩
  | .local _ .vmem, ⟨5, _⟩ => ⟨S1x8192, .f32⟩
  | .local _ .vmem, ⟨6, _⟩ => ⟨S128x8192, .bf16⟩
  | .local _ .vmem, ⟨7, _⟩ => ⟨S128x8192, .bf16⟩
  | .local _ .vmem, ⟨8, _⟩ => ⟨S1x8192, .bf16⟩
  | .local _ .vmem, ⟨9, _⟩ => ⟨S128x8192, .f32⟩
  | .local _ .vmem, ⟨10, _⟩ => ⟨S128x8192, .f32⟩
  | .local _ .vmem, ⟨11, _⟩ => ⟨S128x8192, .fp8e4m3⟩
  | .local _ .vmem, ⟨12, _⟩ => ⟨S128x8192, .fp8e4m3⟩
  | .local _ .vmem, ⟨13, _⟩ => ⟨S128x1, .f32⟩
  | .local _ .vmem, ⟨14, _⟩ => ⟨S128x1, .f32⟩
  | _, _ => ⟨S1024x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x8192 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x8192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x8192 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OprojRefIdeal.lean ====
abbrev S1024x1024 : Shape := ⟨2, ![1024, 1024]⟩
abbrev S1024x1 : Shape := ⟨2, ![1024, 1]⟩
abbrev S1024x8192 : Shape := ⟨2, ![1024, 8192]⟩
abbrev S8192 : Shape := ⟨1, ![8192]⟩
abbrev S1x8192 : Shape := ⟨2, ![1, 8192]⟩
abbrev S1024 : Shape := ⟨1, ![1024]⟩

abbrev nBuf : Space → Nat
  | .hbm => 11
  | .vmem => 9
  | .smem => 0
  | _ => 0

abbrev bufTy : (tb : Table) → Fin (tcTables nBuf tb) → BufTy
  | .hbm, ⟨0, _⟩ => ⟨S1024x1024, .fp8e4m3⟩
  | .hbm, ⟨1, _⟩ => ⟨S1024x1, .f32⟩
  | .hbm, ⟨2, _⟩ => ⟨S1024x8192, .fp8e4m3⟩
  | .hbm, ⟨3, _⟩ => ⟨S8192, .f32⟩
  | .hbm, ⟨4, _⟩ => ⟨S1024x8192, .bf16⟩
  | .hbm, ⟨5, _⟩ => ⟨S8192, .bf16⟩
  | .hbm, ⟨6, _⟩ => ⟨S1x8192, .f32⟩
  | .hbm, ⟨7, _⟩ => ⟨S1x8192, .bf16⟩
  | .hbm, ⟨8, _⟩ => ⟨S1024x8192, .f32⟩
  | .hbm, ⟨9, _⟩ => ⟨S1024x8192, .fp8e4m3⟩
  | .hbm, ⟨10, _⟩ => ⟨S1024x1, .f32⟩
  | .local _ .vmem, ⟨0, _⟩ => ⟨S1024x1024, .fp8e4m3⟩
  | .local _ .vmem, ⟨1, _⟩ => ⟨S1024x1, .f32⟩
  | .local _ .vmem, ⟨2, _⟩ => ⟨S1024x8192, .fp8e4m3⟩
  | .local _ .vmem, ⟨3, _⟩ => ⟨S1x8192, .f32⟩
  | .local _ .vmem, ⟨4, _⟩ => ⟨S1024x8192, .bf16⟩
  | .local _ .vmem, ⟨5, _⟩ => ⟨S1x8192, .bf16⟩
  | .local _ .vmem, ⟨6, _⟩ => ⟨S1024x8192, .f32⟩
  | .local _ .vmem, ⟨7, _⟩ => ⟨S1024x8192, .fp8e4m3⟩
  | .local _ .vmem, ⟨8, _⟩ => ⟨S1024x1, .f32⟩
  | _, _ => ⟨S1024x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S1024x1024 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x8192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x8192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x8192 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Attn.lean ====
abbrev S1024x1024 : Shape := ⟨2, ![1024, 1024]⟩
abbrev S1024x128 : Shape := ⟨2, ![1024, 128]⟩
abbrev S1024x1 : Shape := ⟨2, ![1024, 1]⟩
abbrev S256x1024 : Shape := ⟨2, ![256, 1024]⟩
abbrev S512x128 : Shape := ⟨2, ![512, 128]⟩
abbrev S256x1 : Shape := ⟨2, ![256, 1]⟩
abbrev S512x64 : Shape := ⟨2, ![512, 64]⟩
abbrev S256x512 : Shape := ⟨2, ![256, 512]⟩
abbrev S256x64 : Shape := ⟨2, ![256, 64]⟩
abbrev S256 : Shape := ⟨1, ![256]⟩
abbrev S256x256 : Shape := ⟨2, ![256, 256]⟩

abbrev nBuf : Space → Nat
  | .hbm => 4
  | .vmem => 9
  | .smem => 0
  | _ => 0

abbrev bufTy : (tb : Table) → Fin (tcTables nBuf tb) → BufTy
  | .hbm, ⟨0, _⟩ => ⟨S1024x1024, .bf16⟩
  | .hbm, ⟨1, _⟩ => ⟨S1024x128, .bf16⟩
  | .hbm, ⟨2, _⟩ => ⟨S1024x1024, .fp8e4m3⟩
  | .hbm, ⟨3, _⟩ => ⟨S1024x1, .f32⟩
  | .local _ .vmem, ⟨0, _⟩ => ⟨S256x1024, .bf16⟩
  | .local _ .vmem, ⟨1, _⟩ => ⟨S256x1024, .bf16⟩
  | .local _ .vmem, ⟨2, _⟩ => ⟨S512x128, .bf16⟩
  | .local _ .vmem, ⟨3, _⟩ => ⟨S512x128, .bf16⟩
  | .local _ .vmem, ⟨4, _⟩ => ⟨S256x1024, .fp8e4m3⟩
  | .local _ .vmem, ⟨5, _⟩ => ⟨S256x1024, .fp8e4m3⟩
  | .local _ .vmem, ⟨6, _⟩ => ⟨S256x1, .f32⟩
  | .local _ .vmem, ⟨7, _⟩ => ⟨S256x1, .f32⟩
  | .local _ .vmem, ⟨8, _⟩ => ⟨S256x1024, .f32⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttnRefIdeal.lean ====
abbrev S1024x1024 : Shape := ⟨2, ![1024, 1024]⟩
abbrev S1024x128 : Shape := ⟨2, ![1024, 128]⟩
abbrev S2x512x16x64 : Shape := ⟨4, ![2, 512, 16, 64]⟩
abbrev S1024x64 : Shape := ⟨2, ![1024, 64]⟩
abbrev S2x512x64 : Shape := ⟨3, ![2, 512, 64]⟩
abbrev S2x512x512x16 : Shape := ⟨4, ![2, 512, 512, 16]⟩
abbrev S2x16x512x512 : Shape := ⟨4, ![2, 16, 512, 512]⟩
abbrev S_ : Shape := ⟨0, ![]⟩
abbrev S512 : Shape := ⟨1, ![512]⟩
abbrev S1x512 : Shape := ⟨2, ![1, 512]⟩
abbrev S512x1 : Shape := ⟨2, ![512, 1]⟩
abbrev S512x512 : Shape := ⟨2, ![512, 512]⟩
abbrev S2x16x512 : Shape := ⟨3, ![2, 16, 512]⟩
abbrev S2x16x512x1 : Shape := ⟨4, ![2, 16, 512, 1]⟩
abbrev S2x64x16x512 : Shape := ⟨4, ![2, 64, 16, 512]⟩
abbrev S1024x1 : Shape := ⟨2, ![1024, 1]⟩
abbrev S1024 : Shape := ⟨1, ![1024]⟩

abbrev nBuf : Space → Nat
  | .hbm => 42
  | .vmem => 3
  | .smem => 0
  | _ => 0

abbrev bufTy : (tb : Table) → Fin (tcTables nBuf tb) → BufTy
  | .hbm, ⟨0, _⟩ => ⟨S1024x1024, .bf16⟩
  | .hbm, ⟨1, _⟩ => ⟨S1024x128, .bf16⟩
  | .hbm, ⟨2, _⟩ => ⟨S2x512x16x64, .bf16⟩
  | .hbm, ⟨3, _⟩ => ⟨S1024x64, .bf16⟩
  | .hbm, ⟨4, _⟩ => ⟨S2x512x64, .bf16⟩
  | .hbm, ⟨5, _⟩ => ⟨S1024x64, .bf16⟩
  | .hbm, ⟨6, _⟩ => ⟨S2x512x64, .bf16⟩
  | .hbm, ⟨7, _⟩ => ⟨S2x512x512x16, .f32⟩
  | .hbm, ⟨8, _⟩ => ⟨S2x16x512x512, .f32⟩
  | .hbm, ⟨9, _⟩ => ⟨S_, .f32⟩
  | .hbm, ⟨10, _⟩ => ⟨S2x16x512x512, .f32⟩
  | .hbm, ⟨11, _⟩ => ⟨S2x16x512x512, .f32⟩
  | .hbm, ⟨12, _⟩ => ⟨S512, .i32⟩
  | .hbm, ⟨13, _⟩ => ⟨S1x512, .i32⟩
  | .hbm, ⟨14, _⟩ => ⟨S512x1, .i32⟩
  | .hbm, ⟨15, _⟩ => ⟨S512x512, .i32⟩
  | .hbm, ⟨16, _⟩ => ⟨S512x512, .i32⟩
  | .hbm, ⟨17, _⟩ => ⟨S512x512, .i1⟩
  | .hbm, ⟨18, _⟩ => ⟨S2x16x512x512, .i1⟩
  | .hbm, ⟨19, _⟩ => ⟨S_, .f32⟩
  | .hbm, ⟨20, _⟩ => ⟨S2x16x512x512, .f32⟩
  | .hbm, ⟨21, _⟩ => ⟨S2x16x512x512, .f32⟩
  | .hbm, ⟨22, _⟩ => ⟨S_, .f32⟩
  | .hbm, ⟨23, _⟩ => ⟨S2x16x512, .f32⟩
  | .hbm, ⟨24, _⟩ => ⟨S_, .f32⟩
  | .hbm, ⟨25, _⟩ => ⟨S2x16x512, .f32⟩
  | .hbm, ⟨26, _⟩ => ⟨S2x16x512, .f32⟩
  | .hbm, ⟨27, _⟩ => ⟨S2x16x512x1, .f32⟩
  | .hbm, ⟨28, _⟩ => ⟨S2x16x512x512, .f32⟩
  | .hbm, ⟨29, _⟩ => ⟨S2x16x512x512, .f32⟩
  | .hbm, ⟨30, _⟩ => ⟨S2x16x512x512, .f32⟩
  | .hbm, ⟨31, _⟩ => ⟨S_, .f32⟩
  | .hbm, ⟨32, _⟩ => ⟨S2x16x512, .f32⟩
  | .hbm, ⟨33, _⟩ => ⟨S2x16x512x1, .f32⟩
  | .hbm, ⟨34, _⟩ => ⟨S2x16x512x512, .f32⟩
  | .hbm, ⟨35, _⟩ => ⟨S2x16x512x512, .f32⟩
  | .hbm, ⟨36, _⟩ => ⟨S2x16x512x512, .bf16⟩
  | .hbm, ⟨37, _⟩ => ⟨S2x64x16x512, .f32⟩
  | .hbm, ⟨38, _⟩ => ⟨S2x512x16x64, .f32⟩
  | .hbm, ⟨39, _⟩ => ⟨S1024x1024, .f32⟩
  | .hbm, ⟨40, _⟩ => ⟨S1024x1024, .fp8e4m3⟩
  | .hbm, ⟨41, _⟩ => ⟨S1024x1, .f32⟩
  | .local _ .vmem, ⟨0, _⟩ => ⟨S1024x1024, .f32⟩
  | .local _ .vmem, ⟨1, _⟩ => ⟨S1024x1024, .fp8e4m3⟩
  | .local _ .vmem, ⟨2, _⟩ => ⟨S1024x1, .f32⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_3 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33_0 : Ref sig .tc := ⟨.hbm, 40, rfl⟩
abbrev main_v33_1 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Qkv.lean ====
abbrev S2x512x8192 : Shape := ⟨3, ![2, 512, 8192]⟩
abbrev S2 : Shape := ⟨1, ![2]⟩
abbrev S8192 : Shape := ⟨1, ![8192]⟩
abbrev S8192x1024 : Shape := ⟨2, ![8192, 1024]⟩
abbrev S1024 : Shape := ⟨1, ![1024]⟩
abbrev S8192x64 : Shape := ⟨2, ![8192, 64]⟩
abbrev S64 : Shape := ⟨1, ![64]⟩
abbrev S1024x8192 : Shape := ⟨2, ![1024, 8192]⟩
abbrev S2x1 : Shape := ⟨2, ![2, 1]⟩
abbrev S512 : Shape := ⟨1, ![512]⟩
abbrev S1x512 : Shape := ⟨2, ![1, 512]⟩
abbrev S2x512 : Shape := ⟨2, ![2, 512]⟩
abbrev S32 : Shape := ⟨1, ![32]⟩
abbrev S_ : Shape := ⟨0, ![]⟩
abbrev S1024x1 : Shape := ⟨2, ![1024, 1]⟩
abbrev S1x32 : Shape := ⟨2, ![1, 32]⟩
abbrev S1024x32 : Shape := ⟨2, ![1024, 32]⟩
abbrev S1024x128 : Shape := ⟨2, ![1024, 128]⟩
abbrev S128 : Shape := ⟨1, ![128]⟩
abbrev S1x128 : Shape := ⟨2, ![1, 128]⟩
abbrev S1x8192 : Shape := ⟨2, ![1, 8192]⟩
abbrev S1x1024 : Shape := ⟨2, ![1, 1024]⟩
abbrev S1024x1024 : Shape := ⟨2, ![1024, 1024]⟩
abbrev S128x8192 : Shape := ⟨2, ![128, 8192]⟩
abbrev S128x128 : Shape := ⟨2, ![128, 128]⟩
abbrev S128x1 : Shape := ⟨2, ![128, 1]⟩
abbrev S128x1024 : Shape := ⟨2, ![128, 1024]⟩
abbrev S8192x256 : Shape := ⟨2, ![8192, 256]⟩
abbrev S8192x128 : Shape := ⟨2, ![8192, 128]⟩
abbrev S128x256 : Shape := ⟨2, ![128, 256]⟩

abbrev nBuf : Space → Nat
  | .hbm => 49
  | .vmem => 21
  | .smem => 0
  | _ => 0

abbrev bufTy : (tb : Table) → Fin (tcTables nBuf tb) → BufTy
  | .hbm, ⟨0, _⟩ => ⟨S2x512x8192, .bf16⟩
  | .hbm, ⟨1, _⟩ => ⟨S2, .i32⟩
  | .hbm, ⟨2, _⟩ => ⟨S8192, .bf16⟩
  | .hbm, ⟨3, _⟩ => ⟨S8192x1024, .fp8e4m3⟩
  | .hbm, ⟨4, _⟩ => ⟨S1024, .f32⟩
  | .hbm, ⟨5, _⟩ => ⟨S8192x64, .fp8e4m3⟩
  | .hbm, ⟨6, _⟩ => ⟨S64, .f32⟩
  | .hbm, ⟨7, _⟩ => ⟨S8192x64, .fp8e4m3⟩
  | .hbm, ⟨8, _⟩ => ⟨S64, .f32⟩
  | .hbm, ⟨9, _⟩ => ⟨S1024x8192, .bf16⟩
  | .hbm, ⟨10, _⟩ => ⟨S2x1, .i32⟩
  | .hbm, ⟨11, _⟩ => ⟨S512, .i32⟩
  | .hbm, ⟨12, _⟩ => ⟨S1x512, .i32⟩
  | .hbm, ⟨13, _⟩ => ⟨S2x512, .i32⟩
  | .hbm, ⟨14, _⟩ => ⟨S2x512, .i32⟩
  | .hbm, ⟨15, _⟩ => ⟨S2x512, .i32⟩
  | .hbm, ⟨16, _⟩ => ⟨S2x512, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S1024x1, .f32⟩
  | .hbm, ⟨32, _⟩ => ⟨S1x32, .f32⟩
  | .hbm, ⟨33, _⟩ => ⟨S1024x32, .f32⟩
  | .hbm, ⟨34, _⟩ => ⟨S1024x32, .f32⟩
  | .hbm, ⟨35, _⟩ => ⟨S1024x32, .f32⟩
  | .hbm, ⟨36, _⟩ => ⟨S1024x32, .f32⟩
  | .hbm, ⟨37, _⟩ => ⟨S1024x32, .f32⟩
  | .hbm, ⟨38, _⟩ => ⟨S1024x128, .f32⟩
  | .hbm, ⟨39, _⟩ => ⟨S1024x32, .f32⟩
  | .hbm, ⟨40, _⟩ => ⟨S1024x128, .f32⟩
  | .hbm, ⟨41, _⟩ => ⟨S128, .f32⟩
  | .hbm, ⟨42, _⟩ => ⟨S1x128, .f32⟩
  | .hbm, ⟨43, _⟩ => ⟨S1x8192, .bf16⟩
  | .hbm, ⟨44, _⟩ => ⟨S1x1024, .f32⟩
  | .hbm, ⟨45, _⟩ => ⟨S1024x8192, .fp8e4m3⟩
  | .hbm, ⟨46, _⟩ => ⟨S1024x1, .f32⟩
  | .hbm, ⟨47, _⟩ => ⟨S1024x1024, .bf16⟩
  | .hbm, ⟨48, _⟩ => ⟨S1024x128, .bf16⟩
  | .local _ .vmem, ⟨0, _⟩ => ⟨S128x8192, .bf16⟩
  | .local _ .vmem, ⟨1, _⟩ => ⟨S128x8192, .bf16⟩
  | .local _ .vmem, ⟨2, _⟩ => ⟨S1x8192, .bf16⟩
  | .local _ .vmem, ⟨3, _⟩ => ⟨S8192x1024, .fp8e4m3⟩
  | .local _ .vmem, ⟨4, _⟩ => ⟨S8192x64, .fp8e4m3⟩
  | .local _ .vmem, ⟨5, _⟩ => ⟨S8192x64, .fp8e4m3⟩
  | .local _ .vmem, ⟨6, _⟩ => ⟨S1x1024, .f32⟩
  | .local _ .vmem, ⟨7, _⟩ => ⟨S1x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x8192, .fp8e4m3⟩
  | .local _ .vmem, ⟨13, _⟩ => ⟨S128x8192, .fp8e4m3⟩
  | .local _ .vmem, ⟨14, _⟩ => ⟨S128x1, .f32⟩
  | .local _ .vmem, ⟨15, _⟩ => ⟨S128x1, .f32⟩
  | .local _ .vmem, ⟨16, _⟩ => ⟨S128x1024, .bf16⟩
  | .local _ .vmem, ⟨17, _⟩ => ⟨S128x1024, .bf16⟩
  | .local _ .vmem, ⟨18, _⟩ => ⟨S128x128, .bf16⟩
  | .local _ .vmem, ⟨19, _⟩ => ⟨S128x128, .bf16⟩
  | .local _ .vmem, ⟨20, _⟩ => ⟨S8192x256, .fp8e4m3⟩
  | _, _ => ⟨S2x512x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32_0 : Ref sig .tc := ⟨.hbm, 45, rfl⟩
abbrev main_v32_1 : Ref sig .tc := ⟨.hbm, 46, rfl⟩
abbrev main_v32_2 : Ref sig .tc := ⟨.hbm, 47, rfl⟩
abbrev main_v32_3 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8192x1024 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8192x64 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8192x64 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x8192 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== QkvRefIdeal.lean ====
abbrev S2x512x8192 : Shape := ⟨3, ![2, 512, 8192]⟩
abbrev S2 : Shape := ⟨1, ![2]⟩
abbrev S8192 : Shape := ⟨1, ![8192]⟩
abbrev S8192x1024 : Shape := ⟨2, ![8192, 1024]⟩
abbrev S1024 : Shape := ⟨1, ![1024]⟩
abbrev S8192x64 : Shape := ⟨2, ![8192, 64]⟩
abbrev S64 : Shape := ⟨1, ![64]⟩
abbrev S1024x8192 : Shape := ⟨2, ![1024, 8192]⟩
abbrev S1x8192 : Shape := ⟨2, ![1, 8192]⟩
abbrev S1x1024 : Shape := ⟨2, ![1, 1024]⟩
abbrev S1x64 : Shape := ⟨2, ![1, 64]⟩
abbrev S1024x1 : Shape := ⟨2, ![1024, 1]⟩
abbrev S1024x1024 : Shape := ⟨2, ![1024, 1024]⟩
abbrev S1024x64 : Shape := ⟨2, ![1024, 64]⟩
abbrev S2x1 : Shape := ⟨2, ![2, 1]⟩
abbrev S512 : Shape := ⟨1, ![512]⟩
abbrev S1x512 : Shape := ⟨2, ![1, 512]⟩
abbrev S2x512 : Shape := ⟨2, ![2, 512]⟩
abbrev S32 : Shape := ⟨1, ![32]⟩
abbrev S_ : Shape := ⟨0, ![]⟩
abbrev S2x512x1 : Shape := ⟨3, ![2, 512, 1]⟩
abbrev S1x1x32 : Shape := ⟨3, ![1, 1, 32]⟩
abbrev S2x512x32 : Shape := ⟨3, ![2, 512, 32]⟩
abbrev S2x512x64 : Shape := ⟨3, ![2, 512, 64]⟩
abbrev S2x512x1x64 : Shape := ⟨4, ![2, 512, 1, 64]⟩
abbrev S2x512x16x64 : Shape := ⟨4, ![2, 512, 16, 64]⟩
abbrev S2x512x16x32 : Shape := ⟨4, ![2, 512, 16, 32]⟩
abbrev S2x512x1x32 : Shape := ⟨4, ![2, 512, 1, 32]⟩
abbrev S1024x128 : Shape := ⟨2, ![1024, 128]⟩

abbrev nBuf : Space → Nat
  | .hbm => 74
  | .vmem => 13
  | .smem => 0
  | _ => 0

abbrev bufTy : (tb : Table) → Fin (tcTables nBuf tb) → BufTy
  | .hbm, ⟨0, _⟩ => ⟨S2x512x8192, .bf16⟩
  | .hbm, ⟨1, _⟩ => ⟨S2, .i32⟩
  | .hbm, ⟨2, _⟩ => ⟨S8192, .bf16⟩
  | .hbm, ⟨3, _⟩ => ⟨S8192x1024, .fp8e4m3⟩
  | .hbm, ⟨4, _⟩ => ⟨S1024, .f32⟩
  | .hbm, ⟨5, _⟩ => ⟨S8192x64, .fp8e4m3⟩
  | .hbm, ⟨6, _⟩ => ⟨S64, .f32⟩
  | .hbm, ⟨7, _⟩ => ⟨S8192x64, .fp8e4m3⟩
  | .hbm, ⟨8, _⟩ => ⟨S64, .f32⟩
  | .hbm, ⟨9, _⟩ => ⟨S1024x8192, .bf16⟩
  | .hbm, ⟨10, _⟩ => ⟨S1x8192, .bf16⟩
  | .hbm, ⟨11, _⟩ => ⟨S1x1024, .f32⟩
  | .hbm, ⟨12, _⟩ => ⟨S1x64, .f32⟩
  | .hbm, ⟨13, _⟩ => ⟨S1x64, .f32⟩
  | .hbm, ⟨14, _⟩ => ⟨S1024x8192, .fp8e4m3⟩
  | .hbm, ⟨15, _⟩ => ⟨S1024x1, .f32⟩
  | .hbm, ⟨16, _⟩ => ⟨S1024x1024, .f32⟩
  | .hbm, ⟨17, _⟩ => ⟨S1024x64, .f32⟩
  | .hbm, ⟨18, _⟩ => ⟨S1024x64, .f32⟩
  | .hbm, ⟨19, _⟩ => ⟨S2x1, .i32⟩
  | .hbm, ⟨20, _⟩ => ⟨S512, .i32⟩
  | .hbm, ⟨21, _⟩ => ⟨S1x512, .i32⟩
  | .hbm, ⟨22, _⟩ => ⟨S2x512, .i32⟩
  | .hbm, ⟨23, _⟩ => ⟨S2x512, .i32⟩
  | .hbm, ⟨24, _⟩ => ⟨S2x512, .i32⟩
  | .hbm, ⟨25, _⟩ => ⟨S2x512, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S32, .f32⟩
  | .hbm, ⟨34, _⟩ => ⟨S_, .f32⟩
  | .hbm, ⟨35, _⟩ => ⟨S32, .f32⟩
  | .hbm, ⟨36, _⟩ => ⟨S32, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S2x512x1, .f32⟩
  | .hbm, ⟨41, _⟩ => ⟨S1x1x32, .f32⟩
  | .hbm, ⟨42, _⟩ => ⟨S2x512x32, .f32⟩
  | .hbm, ⟨43, _⟩ => ⟨S2x512x32, .f32⟩
  | .hbm, ⟨44, _⟩ => ⟨S2x512x32, .f32⟩
  | .hbm, ⟨45, _⟩ => ⟨S2x512x64, .f32⟩
  | .hbm, ⟨46, _⟩ => ⟨S2x512x64, .f32⟩
  | .hbm, ⟨47, _⟩ => ⟨S2x512x1x64, .f32⟩
  | .hbm, ⟨48, _⟩ => ⟨S2x512x64, .f32⟩
  | .hbm, ⟨49, _⟩ => ⟨S2x512x1x64, .f32⟩
  | .hbm, ⟨50, _⟩ => ⟨S2x512x16x64, .f32⟩
  | .hbm, ⟨51, _⟩ => ⟨S2x512x16x32, .f32⟩
  | .hbm, ⟨52, _⟩ => ⟨S2x512x16x32, .f32⟩
  | .hbm, ⟨53, _⟩ => ⟨S2x512x16x32, .f32⟩
  | .hbm, ⟨54, _⟩ => ⟨S2x512x16x64, .f32⟩
  | .hbm, ⟨55, _⟩ => ⟨S2x512x16x64, .f32⟩
  | .hbm, ⟨56, _⟩ => ⟨S2x512x16x64, .f32⟩
  | .hbm, ⟨57, _⟩ => ⟨S2x512x16x64, .f32⟩
  | .hbm, ⟨58, _⟩ => ⟨S2x512x16x64, .f32⟩
  | .hbm, ⟨59, _⟩ => ⟨S2x512x16x64, .f32⟩
  | .hbm, ⟨60, _⟩ => ⟨S2x512x16x64, .bf16⟩
  | .hbm, ⟨61, _⟩ => ⟨S2x512x1x64, .f32⟩
  | .hbm, ⟨62, _⟩ => ⟨S2x512x1x32, .f32⟩
  | .hbm, ⟨63, _⟩ => ⟨S2x512x1x32, .f32⟩
  | .hbm, ⟨64, _⟩ => ⟨S2x512x1x32, .f32⟩
  | .hbm, ⟨65, _⟩ => ⟨S2x512x1x64, .f32⟩
  | .hbm, ⟨66, _⟩ => ⟨S2x512x1x64, .f32⟩
  | .hbm, ⟨67, _⟩ => ⟨S2x512x1x64, .f32⟩
  | .hbm, ⟨68, _⟩ => ⟨S2x512x1x64, .f32⟩
  | .hbm, ⟨69, _⟩ => ⟨S2x512x1x64, .bf16⟩
  | .hbm, ⟨70, _⟩ => ⟨S1024x64, .bf16⟩
  | .hbm, ⟨71, _⟩ => ⟨S1024x64, .bf16⟩
  | .hbm, ⟨72, _⟩ => ⟨S1024x128, .bf16⟩
  | .hbm, ⟨73, _⟩ => ⟨S1024x1024, .bf16⟩
  | .local _ .vmem, ⟨0, _⟩ => ⟨S1024x8192, .bf16⟩
  | .local _ .vmem, ⟨1, _⟩ => ⟨S1x8192, .bf16⟩
  | .local _ .vmem, ⟨2, _⟩ => ⟨S8192x1024, .fp8e4m3⟩
  | .local _ .vmem, ⟨3, _⟩ => ⟨S1x1024, .f32⟩
  | .local _ .vmem, ⟨4, _⟩ => ⟨S8192x64, .fp8e4m3⟩
  | .local _ .vmem, ⟨5, _⟩ => ⟨S1x64, .f32⟩
  | .local _ .vmem, ⟨6, _⟩ => ⟨S8192x64, .fp8e4m3⟩
  | .local _ .vmem, ⟨7, _⟩ => ⟨S1x64, .f32⟩
  | .local _ .vmem, ⟨8, _⟩ => ⟨S1024x8192, .fp8e4m3⟩
  | .local _ .vmem, ⟨9, _⟩ => ⟨S1024x1, .f32⟩
  | .local _ .vmem, ⟨10, _⟩ => ⟨S1024x1024, .f32⟩
  | .local _ .vmem, ⟨11, _⟩ => ⟨S1024x64, .f32⟩
  | .local _ .vmem, ⟨12, _⟩ => ⟨S1024x64, .f32⟩
  | _, _ => ⟨S2x512x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v5_4 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_cst_0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_1 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S1024x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x1024 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x64 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x64 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x8192 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1024x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1024x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1024x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1024x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Ff.lean ====
abbrev S1024x8192 : Shape := ⟨2, ![1024, 8192]⟩
abbrev S1024x1 : Shape := ⟨2, ![1024, 1]⟩
abbrev S8192x4096 : Shape := ⟨2, ![8192, 4096]⟩
abbrev S4096 : Shape := ⟨1, ![4096]⟩
abbrev S1x4096 : Shape := ⟨2, ![1, 4096]⟩
abbrev S1024x4096 : Shape := ⟨2, ![1024, 4096]⟩
abbrev S8192x256 : Shape := ⟨2, ![8192, 256]⟩
abbrev S1x256 : Shape := ⟨2, ![1, 256]⟩
abbrev S1024x256 : Shape := ⟨2, ![1024, 256]⟩
abbrev S128x4096 : Shape := ⟨2, ![128, 4096]⟩
abbrev S128 : Shape := ⟨1, ![128]⟩
abbrev S128x1 : Shape := ⟨2, ![128, 1]⟩
abbrev S128x256 : Shape := ⟨2, ![128, 256]⟩

abbrev nBuf : Space → Nat
  | .hbm => 10
  | .vmem => 13
  | .smem => 0
  | _ => 0

abbrev bufTy : (tb : Table) → Fin (tcTables nBuf tb) → BufTy
  | .hbm, ⟨0, _⟩ => ⟨S1024x8192, .fp8e4m3⟩
  | .hbm, ⟨1, _⟩ => ⟨S1024x1, .f32⟩
  | .hbm, ⟨2, _⟩ => ⟨S8192x4096, .fp8e4m3⟩
  | .hbm, ⟨3, _⟩ => ⟨S8192x4096, .fp8e4m3⟩
  | .hbm, ⟨4, _⟩ => ⟨S4096, .f32⟩
  | .hbm, ⟨5, _⟩ => ⟨S4096, .f32⟩
  | .hbm, ⟨6, _⟩ => ⟨S1x4096, .f32⟩
  | .hbm, ⟨7, _⟩ => ⟨S1x4096, .f32⟩
  | .hbm, ⟨8, _⟩ => ⟨S1024x4096, .fp8e4m3⟩
  | .hbm, ⟨9, _⟩ => ⟨S1024x1, .f32⟩
  | .local _ .vmem, ⟨0, _⟩ => ⟨S1024x8192, .fp8e4m3⟩
  | .local _ .vmem, ⟨1, _⟩ => ⟨S1024x1, .f32⟩
  | .local _ .vmem, ⟨2, _⟩ => ⟨S8192x256, .fp8e4m3⟩
  | .local _ .vmem, ⟨3, _⟩ => ⟨S8192x256, .fp8e4m3⟩
  | .local _ .vmem, ⟨4, _⟩ => ⟨S8192x256, .fp8e4m3⟩
  | .local _ .vmem, ⟨5, _⟩ => ⟨S8192x256, .fp8e4m3⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1024x4096, .fp8e4m3⟩
  | .local _ .vmem, ⟨11, _⟩ => ⟨S1024x1, .f32⟩
  | .local _ .vmem, ⟨12, _⟩ => ⟨S1024x4096, .f32⟩
  | _, _ => ⟨S1024x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let c0_14 : Index := 0#32
  let arg0 : BitVec 32 := BitVec.ofNat 32 (i 0).val
  let c256_i32 : BitVec 32 := 256#32
  let v22 : BitVec 32 := Scalar.muli arg0 c256_i32
  let v23 : Index := Scalar.indexCast v22
  ![0, v23.toNat]
def k0_cond1 (i : grid0.Coords) : BitVec 1 :=
  let arg0 : BitVec 32 := BitVec.ofNat 32 (i 0).val
  let c15_i32 : BitVec 32 := 15#32
  let v27 : BitVec 1 := Scalar.cmpi .eq arg0 c15_i32
  let v28 : BitVec 32 := Scalar.extui v27
  let c0_i32 : BitVec 32 := 0#32
  let v29 : BitVec 1 := Scalar.cmpi .ne v28 c0_i32
  v29

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8192x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x4096 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== FfRefIdeal.lean ====
abbrev S1024x8192 : Shape := ⟨2, ![1024, 8192]⟩
abbrev S1024x1 : Shape := ⟨2, ![1024, 1]⟩
abbrev S8192x4096 : Shape := ⟨2, ![8192, 4096]⟩
abbrev S4096 : Shape := ⟨1, ![4096]⟩
abbrev S1x4096 : Shape := ⟨2, ![1, 4096]⟩
abbrev S1024x4096 : Shape := ⟨2, ![1024, 4096]⟩
abbrev S1024 : Shape := ⟨1, ![1024]⟩

abbrev nBuf : Space → Nat
  | .hbm => 10
  | .vmem => 8
  | .smem => 0
  | _ => 0

abbrev bufTy : (tb : Table) → Fin (tcTables nBuf tb) → BufTy
  | .hbm, ⟨0, _⟩ => ⟨S1024x8192, .fp8e4m3⟩
  | .hbm, ⟨1, _⟩ => ⟨S1024x1, .f32⟩
  | .hbm, ⟨2, _⟩ => ⟨S8192x4096, .fp8e4m3⟩
  | .hbm, ⟨3, _⟩ => ⟨S8192x4096, .fp8e4m3⟩
  | .hbm, ⟨4, _⟩ => ⟨S4096, .f32⟩
  | .hbm, ⟨5, _⟩ => ⟨S4096, .f32⟩
  | .hbm, ⟨6, _⟩ => ⟨S1x4096, .f32⟩
  | .hbm, ⟨7, _⟩ => ⟨S1x4096, .f32⟩
  | .hbm, ⟨8, _⟩ => ⟨S1024x4096, .fp8e4m3⟩
  | .hbm, ⟨9, _⟩ => ⟨S1024x1, .f32⟩
  | .local _ .vmem, ⟨0, _⟩ => ⟨S1024x8192, .fp8e4m3⟩
  | .local _ .vmem, ⟨1, _⟩ => ⟨S1024x1, .f32⟩
  | .local _ .vmem, ⟨2, _⟩ => ⟨S8192x4096, .fp8e4m3⟩
  | .local _ .vmem, ⟨3, _⟩ => ⟨S8192x4096, .fp8e4m3⟩
  | .local _ .vmem, ⟨4, _⟩ => ⟨S1x4096, .f32⟩
  | .local _ .vmem, ⟨5, _⟩ => ⟨S1x4096, .f32⟩
  | .local _ .vmem, ⟨6, _⟩ => ⟨S1024x4096, .fp8e4m3⟩
  | .local _ .vmem, ⟨7, _⟩ => ⟨S1024x1, .f32⟩
  | _, _ => ⟨S1024x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S1024x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x4096 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.FfRuns.lean ====
module

public import proofs.«01_k».proof.Proof.Gen.Ff.Frame
public import proofs.«01_k».proof.Proof.Gen.Ff.Skeleton
public import Idealize.ShloMosaic.Lib.WritesUnit
public import Idealize.ShloMosaic.Lib.VecWindow

@[expose] public section

-- membership in a rectangle of production extents (`View.cover_of_tiled`): the elaborator's structural look
-- recurses once per coordinate of the long axes
set_option maxRecDepth 16384

noncomputable section

namespace Cert.Ff.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the last point only — by arithmetic of the point. -/
theorem hcond0_0 : ∀ t : Fin cfg0.N, cond0_0 (grid0.coords t) ↔ t.val % 16 = 15 :=
  (fun t => by
    have ht : t.val < 16 := Nat.lt_of_lt_of_eq t.isLt N_0
    have e0 : (grid0.coords t 0).val = t.val / 1 % 16 := Pipeline.Grid.coords_val t 0 (by decide) rfl
    simp only [cond0_0, k0_cond1, e0]
    word_cmp
   : ∀ t : Fin grid0.N, cond0_0 (grid0.coords t) ↔ t.val % 16 = 15)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- At the points of case A the printed configuration (`Cfg.idle`) calls output 6 idle: the case stores nothing into it. -/
theorem idleAt0_6_A : ∀ t : Fin cfg0.N, ¬cond0_0 (grid0.coords t) → cfg0.idle 6 (grid0.coords t) = true := by decide +kernel
/-- At the points of case A the pipeline does not write output 6's block back. -/
theorem noFlush0_6_A : ∀ t : Fin cfg0.N, ¬cond0_0 (grid0.coords t) → (cfg0.win 6).flush t = false := by decide +kernel
/-- At the points of case B the printed configuration (`Cfg.idle`) calls output 6 live: the case stores into it. -/
theorem liveAt0_6_B : ∀ t : Fin cfg0.N, cond0_0 (grid0.coords t) → cfg0.idle 6 (grid0.coords t) = false := by decide +kernel
/-- At the points of case A the printed configuration (`Cfg.idle`) calls output 7 idle: the case stores nothing into it. -/
theorem idleAt0_7_A : ∀ t : Fin cfg0.N, ¬cond0_0 (grid0.coords t) → cfg0.idle 7 (grid0.coords t) = true := by decide +kernel
/-- At the points of case A the pipeline does not write output 7's block back. -/
theorem noFlush0_7_A : ∀ t : Fin cfg0.N, ¬cond0_0 (grid0.coords t) → (cfg0.win 7).flush t = false := by decide +kernel
/-- At the points of case B the printed configuration (`Cfg.idle`) calls output 7 live: the case stores into it. -/
theorem liveAt0_7_B : ∀ t : Fin cfg0.N, cond0_0 (grid0.coords t) → cfg0.idle 7 (grid0.coords t) = false := by decide +kernel

/-! ## The kernel body on any staging memrefs: a subtype the run finds -/

/-- One staging buffer of output window 6, through which its contents are stated (`View.read_writes_of_cover`: the
    choice does not matter). -/
abbrev VO0_6 : View sig .tc .vmem S1024x4096 .fp8e4m3 := (Memref.whole cc0_stg6_0 : Memref sig .tc .vmem S1024x4096 .fp8e4m3).view
/-- One staging buffer of output window 7, through which its contents are stated (`View.read_writes_of_cover`: the
    choice does not matter). -/
abbrev VO0_7 : View sig .tc .vmem S1024x1 .f32 := (Memref.whole cc0_stg7_0 : Memref sig .tc .vmem S1024x1 .f32).view
/-- Each window's current staging memref at point `t`, spelled as the pipeline passes it (`bodyAt0`), and its wholeness. -/
abbrev ms0_0 (t : Fin cfg0.N) : Memref sig .tc .vmem S1024x8192 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x256 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8192x256 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x4096 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x1 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S1024x4096 .f32 := Memref.whole cc0_scratch0
/-- The scratch `arg9` the kernel carries between points, as a view: what it holds is stated through it. -/
abbrev VS0_0 : View sig .tc .vmem S1024x4096 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- A load of a whole memref at its contents reads the contents. -/
theorem readAt_whole {s : Shape} {e : EltTy} {M : Memref sig .tc .vmem s e} (h : M.IsWhole) (X : s.Idx → Elt F e) {off : Fin s.rank → ℕ}
    (inb : ∀ a, off a + s.size a ≤ s.size a) (h0 : ∀ a, off a = 0) :
    View.readAt (Elt F) M.view (Rect.unit off s.size inb).toLoadRect (h.unread X) = X :=
  (View.readAt_full M.view _ inb).trans (h.read_unread X)

set_option maxHeartbeats 1000000 in
/-- The body at a point before the last: it stores the point's slice of hidden values into the scratch and leaves every other
    buffer as it was. -/
theorem runA (c : Dev nD) (i : grid0.Coords) (arg1 : Memref sig .tc .vmem S1024x8192 .fp8e4m3) (harg1 : arg1.IsWhole) (arg2 : Memref sig .tc .vmem S1024x1 .f32) (harg2 : arg2.IsWhole) (arg3 : Memref sig .tc .vmem S8192x256 .fp8e4m3) (harg3 : arg3.IsWhole) (arg4 : Memref sig .tc .vmem S8192x256 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S1024x4096 .fp8e4m3) (harg7 : arg7.IsWhole) (arg8 : Memref sig .tc .vmem S1024x1 .f32) (harg8 : arg8.IsWhole) (arg9 : Memref sig .tc .vmem S1024x4096 .f32) (harg9 : arg9.IsWhole) (hc0 : ¬cond0_0 i)
    (x0 : Vec F S1024x8192 .fp8e4m3) (x1 : Vec F S1024x1 .f32) (x2 : Vec F S8192x256 .fp8e4m3) (x3 : Vec F S8192x256 .fp8e4m3) (x4 : Vec F S1x256 .f32) (x5 : Vec F S1x256 .f32) (xi6 : Vec F S1024x4096 .fp8e4m3) (xi7 : Vec F S1024x1 .f32) (xs0 : Vec F S1024x4096 .f32) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xi7 ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xi7 ∗ (arg9.view.loc (c : Thread nD τ) ↦[arg9.view.set]{fullShare} arg9.view.writes (Elt F) (harg9.unread xs0) [(⟨Rect.unit (s := S1024x4096) (k0_off1 i) S1024x256.size (k0_off1_inb i), k0_pay1 x1 x0 x2 x4 x0 x3 x5⟩ : View.Piece (Elt F) S1024x4096 .f32)])) -∗ K ⟨⟩))
          ⊢ wp frame (wpE (defs₀ (F := F)) Variants.none c none) E (cc0_ff i arg1 harg1 arg2 harg2 arg3 harg3 arg4 harg4 arg5 harg5 arg6 harg6 arg7 harg7 arg8 harg8 arg9 harg9) K := by
    have e0 : View.readAt (Elt F) arg1.view (Rect.unit (s := S1024x8192) ![0, 0] ![1024, 8192] inb_S1024x8192_S1024x8192_0_0).toLoadRect (harg1.unread x0) = x0 := readAt_whole harg1 x0 _ (by decide)
    have e1 : View.readAt (Elt F) arg2.view (Rect.unit (s := S1024x1) ![0, 0] ![1024, 1] inb_S1024x1_S1024x1_0_0).toLoadRect (harg2.unread x1) = x1 := readAt_whole harg2 x1 _ (by decide)
    have e2 : View.readAt (Elt F) arg3.view (Rect.unit (s := S8192x256) ![0, 0] ![8192, 256] inb_S8192x256_S8192x256_0_0).toLoadRect (harg3.unread x2) = x2 := readAt_whole harg3 x2 _ (by decide)
    have e3 : View.readAt (Elt F) arg4.view (Rect.unit (s := S8192x256) ![0, 0] ![8192, 256] inb_S8192x256_S8192x256_0_0).toLoadRect (harg4.unread x3) = x3 := readAt_whole harg4 x3 _ (by decide)
    have e4 : View.readAt (Elt F) arg5.view (Rect.unit (s := S1x256) ![0, 0] ![1, 256] inb_S1x256_S1x256_0_0).toLoadRect (harg5.unread x4) = x4 := readAt_whole harg5 x4 _ (by decide)
    have e5 : View.readAt (Elt F) arg6.view (Rect.unit (s := S1x256) ![0, 0] ![1, 256] inb_S1x256_S1x256_0_0).toLoadRect (harg6.unread x5) = x5 := readAt_whole harg6 x5 _ (by decide)
    simp only [cc0_ff_eq_skeleton]; unfold cc0_ff_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    iexact HS0

/-- What the body does after storing its slice: at the last point the quantising of the scratch's rows. -/
noncomputable def ffTail (i : grid0.Coords) (arg1 : Memref sig .tc .vmem S1024x8192 .fp8e4m3) (harg1 : arg1.IsWhole) (arg2 : Memref sig .tc .vmem S1024x1 .f32) (harg2 : arg2.IsWhole) (arg3 : Memref sig .tc .vmem S8192x256 .fp8e4m3) (harg3 : arg3.IsWhole) (arg4 : Memref sig .tc .vmem S8192x256 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S1024x4096 .fp8e4m3) (harg7 : arg7.IsWhole) (arg8 : Memref sig .tc .vmem S1024x1 .f32) (harg8 : arg8.IsWhole) (arg9 : Memref sig .tc .vmem S1024x4096 .f32) (harg9 : arg9.IsWhole) :
    Prog (TpuEff nD τ sig (Elt F) Λ₀ .tc) PUnit := do
  if k0_h1 : k0_cond1 i = 1#1 then do
    let ⟨v58, v72⟩ : Σ' (v58 : IVec S128x1 32), FVec F S128x4096 .fp8e4m3 ← k0_part1 i arg1 harg1 arg2 harg2 arg3 harg3 arg4 harg4 arg5 harg5 arg6 harg6 arg7 harg7 arg8 harg8 arg9 harg9
    let ⟨v80, v108, v110, c127_i32_45⟩ : Σ' (v80 : Vec F S128x4096 .f32) (v108 : IVec S128x1 32) (v110 : IVec S128x1 32), BitVec 32 ← k0_part2 i arg1 harg1 arg2 harg2 arg3 harg3 arg4 harg4 arg5 harg5 arg6 harg6 arg7 harg7 arg8 harg8 arg9 harg9 v58 v72
    let ⟨v130, v133, v135, v149, v150⟩ : Σ' (v130 : Vec F S128x4096 .f32) (v133 : FVec F S128x1 .f32) (v135 : FVec F S128x1 .f32) (v149 : IVec S128x1 32), IVec S128x1 32 ← k0_part3 i arg1 harg1 arg2 harg2 arg3 harg3 arg4 harg4 arg5 harg5 arg6 harg6 arg7 harg7 arg8 harg8 arg9 harg9 v80 v108 v110 c127_i32_45
    let ⟨v180, v183, v185, v188, c246_i32_81⟩ : Σ' (v180 : Vec F S128x4096 .f32) (v183 : FVec F S128x1 .f32) (v185 : FVec F S128x1 .f32) (v188 : IVec S128x256 32), BitVec 32 ← k0_part4 i arg1 harg1 arg2 harg2 arg3 harg3 arg4 harg4 arg5 harg5 arg6 harg6 arg7 harg7 arg8 harg8 arg9 harg9 v130 v133 v135 v149 v150
    k0_part5 i arg1 harg1 arg2 harg2 arg3 harg3 arg4 harg4 arg5 harg5 arg6 harg6 arg7 harg7 arg8 harg8 arg9 harg9 v180 v183 v185 v188 c246_i32_81
    let ⟨v258, v272⟩ : Σ' (v258 : IVec S128x1 32), FVec F S128x4096 .fp8e4m3 ← k0_part6 i arg1 harg1 arg2 harg2 arg3 harg3 arg4 harg4 arg5 harg5 arg6 harg6 arg7 harg7 arg8 harg8 arg9 harg9
    let ⟨v280, v308, v310, c127_i32_133⟩ : Σ' (v280 : Vec F S128x4096 .f32) (v308 : IVec S128x1 32) (v310 : IVec S128x1 32), BitVec 32 ← k0_part7 i arg1 harg1 arg2 harg2 arg3 harg3 arg4 harg4 arg5 harg5 arg6 harg6 arg7 harg7 arg8 harg8 arg9 harg9 v258 v272
    let ⟨v330, v333, v335, v349, v350⟩ : Σ' (v330 : Vec F S128x4096 .f32) (v333 : FVec F S128x1 .f32) (v335 : FVec F S128x1 .f32) (v349 : IVec S128x1 32), IVec S128x1 32 ← k0_part8 i arg1 harg1 arg2 harg2 arg3 harg3 arg4 harg4 arg5 harg5 arg6 harg6 arg7 harg7 arg8 harg8 arg9 harg9 v280 v308 v310 c127_i32_133
    let ⟨v380, v383, v385, v388, c246_i32_169⟩ : Σ' (v380 : Vec F S128x4096 .f32) (v383 : FVec F S128x1 .f32) (v385 : FVec F S128x1 .f32) (v388 : IVec S128x256 32), BitVec 32 ← k0_part9 i arg1 harg1 arg2 harg2 arg3 harg3 arg4 harg4 arg5 harg5 arg6 harg6 arg7 harg7 arg8 harg8 arg9 harg9 v330 v333 v335 v349 v350
    k0_part10 i arg1 harg1 arg2 harg2 arg3 harg3 arg4 harg4 arg5 harg5 arg6 harg6 arg7 harg7 arg8 harg8 arg9 harg9 v380 v383 v385 v388 c246_i32_169
    pure ⟨⟩
  else do
    pure ⟨⟩
  pure ⟨⟩

/-- The body is its loads and its slice's store, then that. -/
theorem ff_split (i : grid0.Coords) (arg1 : Memref sig .tc .vmem S1024x8192 .fp8e4m3) (harg1 : arg1.IsWhole) (arg2 : Memref sig .tc .vmem S1024x1 .f32) (harg2 : arg2.IsWhole) (arg3 : Memref sig .tc .vmem S8192x256 .fp8e4m3) (harg3 : arg3.IsWhole) (arg4 : Memref sig .tc .vmem S8192x256 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S1024x4096 .fp8e4m3) (harg7 : arg7.IsWhole) (arg8 : Memref sig .tc .vmem S1024x1 .f32) (harg8 : arg8.IsWhole) (arg9 : Memref sig .tc .vmem S1024x4096 .f32) (harg9 : arg9.IsWhole) :
    cc0_ff (F := F) i arg1 harg1 arg2 harg2 arg3 harg3 arg4 harg4 arg5 harg5 arg6 harg6 arg7 harg7 arg8 harg8 arg9 harg9 = (do
  let v0 : Vec F S1024x1 .f32 ← Prog.lift (.load arg2 (Rect.unit (s := S1024x1) ![0, 0] S1024x1.size inb_S1024x1_S1024x1_0_0).toLoadRect (View.loadsAt_vmem h_S1024x1))
  let v1 : Vec F S1024x8192 .fp8e4m3 ← Prog.lift (.load arg1 (Rect.unit (s := S1024x8192) ![0, 0] S1024x8192.size inb_S1024x8192_S1024x8192_0_0).toLoadRect (View.loadsAt_vmem h_S1024x8192))
  let v2 : Vec F S8192x256 .fp8e4m3 ← Prog.lift (.load arg3 (Rect.unit (s := S8192x256) ![0, 0] S8192x256.size inb_S8192x256_S8192x256_0_0).toLoadRect (View.loadsAt_vmem h_S8192x256))
  let v6 : Vec F S1x256 .f32 ← Prog.lift (.load arg5 (Rect.unit (s := S1x256) ![0, 0] S1x256.size inb_S1x256_S1x256_0_0).toLoadRect (View.loadsAt_vmem h_S1x256))
  let v10 : Vec F S1024x8192 .fp8e4m3 ← Prog.lift (.load arg1 (Rect.unit (s := S1024x8192) ![0, 0] S1024x8192.size inb_S1024x8192_S1024x8192_0_0).toLoadRect (View.loadsAt_vmem h_S1024x8192))
  let v11 : Vec F S8192x256 .fp8e4m3 ← Prog.lift (.load arg4 (Rect.unit (s := S8192x256) ![0, 0] S8192x256.size inb_S8192x256_S8192x256_0_0).toLoadRect (View.loadsAt_vmem h_S8192x256))
  let v15 : Vec F S1x256 .f32 ← Prog.lift (.load arg6 (Rect.unit (s := S1x256) ![0, 0] S1x256.size inb_S1x256_S1x256_0_0).toLoadRect (View.loadsAt_vmem h_S1x256))
  let v24 : Vec F S1024x256 .f32 ← Prog.lift (.load arg9 (Rect.unit (s := S1024x4096) (k0_off1 i) S1024x256.size (k0_off1_inb i)).toLoadRect (View.loadsAt_vmem h_S1024x256))
  Prog.lift (.store arg9 (Rect.unit (s := S1024x4096) (k0_off1 i) S1024x256.size (k0_off1_inb i)) (k0_pay1 v0 v1 v2 v6 v10 v11 v15) Finset.univ (View.stores_vmem_bits_univ h_S1024x256 rfl) (.inl rfl))
  ffTail i arg1 harg1 arg2 harg2 arg3 harg3 arg4 harg4 arg5 harg5 arg6 harg6 arg7 harg7 arg8 harg8 arg9 harg9) := by
  rw [cc0_ff_eq_skeleton]
  rfl

set_option maxHeartbeats 4000000 in
/-- The quantising at the last point, the scratch holding `X`: what its stores leave in the codes' and the scales' buffers, as pieces
    found by the run. -/
noncomputable def runT (c : Dev nD) (i : grid0.Coords) (arg1 : Memref sig .tc .vmem S1024x8192 .fp8e4m3) (harg1 : arg1.IsWhole) (arg2 : Memref sig .tc .vmem S1024x1 .f32) (harg2 : arg2.IsWhole) (arg3 : Memref sig .tc .vmem S8192x256 .fp8e4m3) (harg3 : arg3.IsWhole) (arg4 : Memref sig .tc .vmem S8192x256 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S1024x4096 .fp8e4m3) (harg7 : arg7.IsWhole) (arg8 : Memref sig .tc .vmem S1024x1 .f32) (harg8 : arg8.IsWhole) (arg9 : Memref sig .tc .vmem S1024x4096 .f32) (harg9 : arg9.IsWhole) (hc0 : cond0_0 i) (X : Vec F S1024x4096 .f32) :
    Σ' (L6 : List (View.Piece (Elt F) S1024x4096 .fp8e4m3)), { L7 : List (View.Piece (Elt F) S1024x1 .f32) //
      ∀ (E : Set ℕ) (K : PUnit → sProp 𝕄),
        iprop((∃ d, owns (c : Thread nD τ) arg7 fullShare d) ∗ (∃ d, owns (c : Thread nD τ) arg8 fullShare d) ∗ owns (c : Thread nD τ) arg9 fullShare X
            ∗ (iprop((∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ owns (c : Thread nD τ) arg9 fullShare X) -∗ K ⟨⟩))
          ⊢ wp frame (wpE (defs₀ (F := F)) Variants.none c none) E (ffTail i arg1 harg1 arg2 harg2 arg3 harg3 arg4 harg4 arg5 harg5 arg6 harg6 arg7 harg7 arg8 harg8 arg9 harg9) K } := by
  refine ⟨?_, ?_, fun E K => ?run⟩
  case run =>
    unfold ffTail
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%d6, %f6, -, H6⟩, ⟨%d7, %f7, -, H7⟩, ⟨%fs0, %hfs0, HS0⟩, Hk⟩
    obtain rfl := harg9.eq_unread hfs0
    sl_exec (disch := first | sl_exact hc0)
    sl_step
    iapply Hk
    isplitl [H6]; · iexists _; iexact H6
    isplitl [H7]; · iexists _; iexact H7
    iexists _; isplitr; · ipureintro; exact harg9.read_unread _
    iexact HS0

set_option maxHeartbeats 1000000 in
/-- The body's loads and its slice's store, before any continuation `T`. -/
theorem runS (c : Dev nD) (i : grid0.Coords) (arg1 : Memref sig .tc .vmem S1024x8192 .fp8e4m3) (harg1 : arg1.IsWhole) (arg2 : Memref sig .tc .vmem S1024x1 .f32) (harg2 : arg2.IsWhole) (arg3 : Memref sig .tc .vmem S8192x256 .fp8e4m3) (harg3 : arg3.IsWhole) (arg4 : Memref sig .tc .vmem S8192x256 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S1024x4096 .fp8e4m3) (harg7 : arg7.IsWhole) (arg8 : Memref sig .tc .vmem S1024x1 .f32) (harg8 : arg8.IsWhole) (arg9 : Memref sig .tc .vmem S1024x4096 .f32) (harg9 : arg9.IsWhole) (T : Prog (TpuEff nD τ sig (Elt F) Λ₀ .tc) PUnit)
    (x0 : Vec F S1024x8192 .fp8e4m3) (x1 : Vec F S1024x1 .f32) (x2 : Vec F S8192x256 .fp8e4m3) (x3 : Vec F S8192x256 .fp8e4m3) (x4 : Vec F S1x256 .f32) (x5 : Vec F S1x256 .f32) (xs0 : Vec F S1024x4096 .f32) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (arg9.view.loc (c : Thread nD τ) ↦[arg9.view.set]{fullShare} arg9.view.writes (Elt F) (harg9.unread xs0) [(⟨Rect.unit (s := S1024x4096) (k0_off1 i) S1024x256.size (k0_off1_inb i), k0_pay1 x1 x0 x2 x4 x0 x3 x5⟩ : View.Piece (Elt F) S1024x4096 .f32)])) -∗ wp frame (wpE (defs₀ (F := F)) Variants.none c none) E T K))
          ⊢ wp frame (wpE (defs₀ (F := F)) Variants.none c none) E (do
  let v0 : Vec F S1024x1 .f32 ← Prog.lift (.load arg2 (Rect.unit (s := S1024x1) ![0, 0] S1024x1.size inb_S1024x1_S1024x1_0_0).toLoadRect (View.loadsAt_vmem h_S1024x1))
  let v1 : Vec F S1024x8192 .fp8e4m3 ← Prog.lift (.load arg1 (Rect.unit (s := S1024x8192) ![0, 0] S1024x8192.size inb_S1024x8192_S1024x8192_0_0).toLoadRect (View.loadsAt_vmem h_S1024x8192))
  let v2 : Vec F S8192x256 .fp8e4m3 ← Prog.lift (.load arg3 (Rect.unit (s := S8192x256) ![0, 0] S8192x256.size inb_S8192x256_S8192x256_0_0).toLoadRect (View.loadsAt_vmem h_S8192x256))
  let v6 : Vec F S1x256 .f32 ← Prog.lift (.load arg5 (Rect.unit (s := S1x256) ![0, 0] S1x256.size inb_S1x256_S1x256_0_0).toLoadRect (View.loadsAt_vmem h_S1x256))
  let v10 : Vec F S1024x8192 .fp8e4m3 ← Prog.lift (.load arg1 (Rect.unit (s := S1024x8192) ![0, 0] S1024x8192.size inb_S1024x8192_S1024x8192_0_0).toLoadRect (View.loadsAt_vmem h_S1024x8192))
  let v11 : Vec F S8192x256 .fp8e4m3 ← Prog.lift (.load arg4 (Rect.unit (s := S8192x256) ![0, 0] S8192x256.size inb_S8192x256_S8192x256_0_0).toLoadRect (View.loadsAt_vmem h_S8192x256))
  let v15 : Vec F S1x256 .f32 ← Prog.lift (.load arg6 (Rect.unit (s := S1x256) ![0, 0] S1x256.size inb_S1x256_S1x256_0_0).toLoadRect (View.loadsAt_vmem h_S1x256))
  let v24 : Vec F S1024x256 .f32 ← Prog.lift (.load arg9 (Rect.unit (s := S1024x4096) (k0_off1 i) S1024x256.size (k0_off1_inb i)).toLoadRect (View.loadsAt_vmem h_S1024x256))
  Prog.lift (.store arg9 (Rect.unit (s := S1024x4096) (k0_off1 i) S1024x256.size (k0_off1_inb i)) (k0_pay1 v0 v1 v2 v6 v10 v11 v15) Finset.univ (View.stores_vmem_bits_univ h_S1024x256 rfl) (.inl rfl))
  T) K := by
    have e0 : View.readAt (Elt F) arg1.view (Rect.unit (s := S1024x8192) ![0, 0] ![1024, 8192] inb_S1024x8192_S1024x8192_0_0).toLoadRect (harg1.unread x0) = x0 := readAt_whole harg1 x0 _ (by decide)
    have e1 : View.readAt (Elt F) arg2.view (Rect.unit (s := S1024x1) ![0, 0] ![1024, 1] inb_S1024x1_S1024x1_0_0).toLoadRect (harg2.unread x1) = x1 := readAt_whole harg2 x1 _ (by decide)
    have e2 : View.readAt (Elt F) arg3.view (Rect.unit (s := S8192x256) ![0, 0] ![8192, 256] inb_S8192x256_S8192x256_0_0).toLoadRect (harg3.unread x2) = x2 := readAt_whole harg3 x2 _ (by decide)
    have e3 : View.readAt (Elt F) arg4.view (Rect.unit (s := S8192x256) ![0, 0] ![8192, 256] inb_S8192x256_S8192x256_0_0).toLoadRect (harg4.unread x3) = x3 := readAt_whole harg4 x3 _ (by decide)
    have e4 : View.readAt (Elt F) arg5.view (Rect.unit (s := S1x256) ![0, 0] ![1, 256] inb_S1x256_S1x256_0_0).toLoadRect (harg5.unread x4) = x4 := readAt_whole harg5 x4 _ (by decide)
    have e5 : View.readAt (Elt F) arg6.view (Rect.unit (s := S1x256) ![0, 0] ![1, 256] inb_S1x256_S1x256_0_0).toLoadRect (harg6.unread x5) = x5 := readAt_whole harg6 x5 _ (by decide)
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs0
    sl_exec
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexact HS0

set_option maxHeartbeats 1000000 in
/-- The body at the last point: it stores the last slice, after which the scratch holds `X`, and quantises `X`. -/
theorem runB (c : Dev nD) (i : grid0.Coords) (arg1 : Memref sig .tc .vmem S1024x8192 .fp8e4m3) (harg1 : arg1.IsWhole) (arg2 : Memref sig .tc .vmem S1024x1 .f32) (harg2 : arg2.IsWhole) (arg3 : Memref sig .tc .vmem S8192x256 .fp8e4m3) (harg3 : arg3.IsWhole) (arg4 : Memref sig .tc .vmem S8192x256 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S1024x4096 .fp8e4m3) (harg7 : arg7.IsWhole) (arg8 : Memref sig .tc .vmem S1024x1 .f32) (harg8 : arg8.IsWhole) (arg9 : Memref sig .tc .vmem S1024x4096 .f32) (harg9 : arg9.IsWhole) (hc0 : cond0_0 i)
    (x0 : Vec F S1024x8192 .fp8e4m3) (x1 : Vec F S1024x1 .f32) (x2 : Vec F S8192x256 .fp8e4m3) (x3 : Vec F S8192x256 .fp8e4m3) (x4 : Vec F S1x256 .f32) (x5 : Vec F S1x256 .f32) (xs0 X : Vec F S1024x4096 .f32)
    (hX : arg9.view.writes (Elt F) (harg9.unread xs0) [(⟨Rect.unit (s := S1024x4096) (k0_off1 i) S1024x256.size (k0_off1_inb i), k0_pay1 x1 x0 x2 x4 x0 x3 x5⟩ : View.Piece (Elt F) S1024x4096 .f32)] = harg9.unread X) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f (runT c i arg1 harg1 arg2 harg2 arg3 harg3 arg4 harg4 arg5 harg5 arg6 harg6 arg7 harg7 arg8 harg8 arg9 harg9 hc0 X).1) ∗ (∃ f, arg8.view.loc (c : Thread nD τ) ↦[arg8.view.set]{fullShare} arg8.view.writes (Elt F) f (runT c i arg1 harg1 arg2 harg2 arg3 harg3 arg4 harg4 arg5 harg5 arg6 harg6 arg7 harg7 arg8 harg8 arg9 harg9 hc0 X).2.1) ∗ owns (c : Thread nD τ) arg9 fullShare X) -∗ K ⟨⟩))
          ⊢ wp frame (wpE (defs₀ (F := F)) Variants.none c none) E (cc0_ff i arg1 harg1 arg2 harg2 arg3 harg3 arg4 harg4 arg5 harg5 arg6 harg6 arg7 harg7 arg8 harg8 arg9 harg9) K := by
    rw [ff_split]
    iintro ⟨H0, H1, H2, H3, H4, H5, H6, H7, HS0, Hk⟩
    iapply (runS c i arg1 harg1 arg2 harg2 arg3 harg3 arg4 harg4 arg5 harg5 arg6 harg6 arg7 harg7 arg8 harg8 arg9 harg9 (ffTail i arg1 harg1 arg2 harg2 arg3 harg3 arg4 harg4 arg5 harg5 arg6 harg6 arg7 harg7 arg8 harg8 arg9 harg9) x0 x1 x2 x3 x4 x5 xs0 E K)
    isplitl [H0]; · iexact H0
    isplitl [H1]; · iexact H1
    isplitl [H2]; · iexact H2
    isplitl [H3]; · iexact H3
    isplitl [H4]; · iexact H4
    isplitl [H5]; · iexact H5
    isplitl [HS0]; · iexact HS0
    rw [hX]
    iintro ⟨H0, H1, H2, H3, H4, H5, HS0⟩
    iapply ((runT c i arg1 harg1 arg2 harg2 arg3 harg3 arg4 harg4 arg5 harg5 arg6 harg6 arg7 harg7 arg8 harg8 arg9 harg9 hc0 X).2.2 E K)
    isplitl [H6]; · iexact H6
    isplitl [H7]; · iexact H7
    isplitl [HS0]
    · unfold owns; iexists _; isplitr; · ipureintro; exact harg9.read_unread _
      iexact HS0
    iintro ⟨H6, H7, HS0⟩
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact HS0

end Cert.Ff.Gen

end
-- ==== Proof.FfFrame.lean ====
module

public import proofs.«01_k».proof.Proof.FfRuns
public import Idealize.ShloMosaic.Lib.ValueIdxCore
public import Idealize.ShloMosaic.Lib.Claim

@[expose] public section

-- membership in a rectangle of production extents (`View.cover_of_tiled`): the elaborator's structural look
-- recurses once per coordinate of the long axes
set_option maxRecDepth 16384

noncomputable section

namespace Cert.Ff.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The hidden values, and what the scratch holds of them -/

/-- The slice of hidden values point `t` stores. -/
def slice (c : Dev nD) (t : Fin cfg0.N) : Vec F S1024x256 .f32 :=
  k0_pay1 (iblk m c 1 t) (iblk m c 0 t) (iblk m c 2 t) (iblk m c 4 t) (iblk m c 0 t) (iblk m c 3 t) (iblk m c 5 t)

/-- The hidden values whole: column `l` is column `l % 256` of point `l / 256`'s slice. -/
def hid (c : Dev nD) : Vec F S1024x4096 .f32 := fun y =>
  slice m c ⟨(y 1).val / 256, by
    have h1 : (y 1).val < 4096 := (y 1).isLt
    have h2 : cfg0.N = 16 := N_0
    omega⟩ (ix2 ⟨(y 0).val, (y 0).isLt⟩ ⟨(y 1).val % 256, Nat.mod_lt _ (by norm_num)⟩)

/-- The scratch's contents `X` are the hidden values in the columns of the first `n` points. -/
def Upto (c : Dev nD) (n : ℕ) (X : Vec F S1024x4096 .f32) : Prop := ∀ y : S1024x4096.Idx, (y 1).val < 256 * n → X y = hid m c y

/-- Where point `t` stores its slice. -/
theorem off_at : ∀ t : Fin cfg0.N, k0_off1 (grid0.coords t) = ![0, 256 * t.val] :=
  (by decide +kernel : ∀ t : Fin grid0.N, k0_off1 (grid0.coords t) = ![0, 256 * t.val])

/-- What the scratch holds after point `t` stored its slice over the contents `X`. -/
def put (c : Dev nD) (t : Fin cfg0.N) (X : Vec F S1024x4096 .f32) : Vec F S1024x4096 .f32 :=
  scM0_0.view.read (Elt F) (scM0_0.view.writes (Elt F) ((Memref.isWhole_whole _).unread X)
    [(⟨Rect.unit (s := S1024x4096) (k0_off1 (grid0.coords t)) S1024x256.size (k0_off1_inb (grid0.coords t)), slice m c t⟩ : View.Piece (Elt F) S1024x4096 .f32)])

/-- After point `t`'s store the scratch holds one more point's columns. -/
theorem upto_put (c : Dev nD) (t : Fin cfg0.N) (X : Vec F S1024x4096 .f32) (h : Upto m c t.val X) : Upto m c (t.val + 1) (put m c t X) := by
  intro y hy
  unfold put
  by_cases hlt : (y 1).val < 256 * t.val
  · rw [View.read_writes_cons_unit_of_not_mem scM0_0.view _ (k0_off1_inb (grid0.coords t)) _ _ y (off_at t) 1 (Or.inl hlt)]
    rw [View.writes_nil, Memref.IsWhole.read_unread]
    exact h y hlt
  · have h1 : (y 1).val = 256 * t.val + ((y 1).val - 256 * t.val) := by omega
    have hy0 : (y 0).val < 1024 := (y 0).isLt
    rw [View.read_writes_cons_unit_of_mem scM0_0.view _ (k0_off1_inb (grid0.coords t)) _ _ y
      (ix2 ⟨(y 0).val, hy0⟩ ⟨(y 1).val - 256 * t.val, by omega⟩) (off_at t) (fun a => by
        fin_cases a
        · show (y 0).val = 0 + (y 0).val
          omega
        · exact h1)]
    unfold hid
    have e1 : (y 1).val / 256 = t.val := by omega
    have e2 : (y 1).val % 256 = (y 1).val - 256 * t.val := by omega
    have key : ∀ (t' : Fin cfg0.N) (k : ℕ) (hk : k < 256), t' = t → k = (y 1).val - 256 * t.val →
        slice m c t (ix2 ⟨(y 0).val, hy0⟩ ⟨(y 1).val - 256 * t.val, by omega⟩) = slice m c t' (ix2 ⟨(y 0).val, hy0⟩ ⟨k, hk⟩) := by
      intro t' k hk ht hk'
      subst ht; subst hk'
      rfl
    exact key _ _ _ (Fin.ext e1) e2

/-- The last point. -/
def t15 : Fin cfg0.N := ⟨15, by rw [show cfg0.N = 16 from N_0]; norm_num⟩

/-- The last point takes the quantising branch. -/
theorem hc15 : cond0_0 (grid0.coords t15) := (hcond0_0 t15).mpr rfl

/-- After the last point's store the scratch holds the hidden values whole. -/
theorem put_last (c : Dev nD) (X : Vec F S1024x4096 .f32) (h : Upto m c t15.val X) : put m c t15 X = hid m c :=
  funext fun y => upto_put m c t15 X h y (by
    have h1 : (y 1).val < 4096 := (y 1).isLt
    have h2 : t15.val = 15 := rfl
    omega)

/-- The scratch after point `t`'s store, with the slice's payload spelled out. -/
theorem put_eq (c : Dev nD) (t : Fin cfg0.N) (X : Vec F S1024x4096 .f32) : put m c t X
    = scM0_0.view.read (Elt F) (scM0_0.view.writes (Elt F) ((Memref.isWhole_whole _).unread X)
      [(⟨Rect.unit (s := S1024x4096) (k0_off1 (grid0.coords t)) S1024x256.size (k0_off1_inb (grid0.coords t)),
        k0_pay1 (iblk m c 1 t) (iblk m c 0 t) (iblk m c 2 t) (iblk m c 4 t) (iblk m c 0 t) (iblk m c 3 t) (iblk m c 5 t)⟩ : View.Piece (Elt F) S1024x4096 .f32)]) := rfl

/-- The last point's store leaves the scratch's buffer at the hidden values. -/
theorem writes_last (c : Dev nD) (X : Vec F S1024x4096 .f32) (h : Upto m c t15.val X) :
    scM0_0.view.writes (Elt F) ((Memref.isWhole_whole _).unread X)
      [(⟨Rect.unit (s := S1024x4096) (k0_off1 (grid0.coords t15)) S1024x256.size (k0_off1_inb (grid0.coords t15)),
        k0_pay1 (iblk m c 1 t15) (iblk m c 0 t15) (iblk m c 2 t15) (iblk m c 4 t15) (iblk m c 0 t15) (iblk m c 3 t15) (iblk m c 5 t15)⟩ : View.Piece (Elt F) S1024x4096 .f32)]
    = (Memref.isWhole_whole _).unread (hid m c) :=
  (Memref.isWhole_whole _).eq_unread ((put_eq m c t15 X).symm.trans (put_last m c X h))

attribute [local irreducible] slice hid put

/-! ## What the last point leaves in the outputs' buffers -/

/-- Every place of the codes is stored at the last point. -/
theorem cover6 (c : Dev nD) (X : Vec F S1024x4096 .f32) (y : S1024x4096.Idx) : ∃ pc ∈ (runT c (grid0.coords t15) (ms0_0 t15) (hs0_0 t15) (ms0_1 t15) (hs0_1 t15) (ms0_2 t15) (hs0_2 t15) (ms0_3 t15) (hs0_3 t15) (ms0_4 t15) (hs0_4 t15) (ms0_5 t15) (hs0_5 t15) (ms0_6 t15) (hs0_6 t15) (ms0_7 t15) (hs0_7 t15) scM0_0 (Memref.isWhole_whole _) hc15 X).1, y ∈ pc.1.set :=
  View.cover_of_tiledL (runT c (grid0.coords t15) (ms0_0 t15) (hs0_0 t15) (ms0_1 t15) (hs0_1 t15) (ms0_2 t15) (hs0_2 t15) (ms0_3 t15) (hs0_3 t15) (ms0_4 t15) (hs0_4 t15) (ms0_5 t15) (hs0_5 t15) (ms0_6 t15) (hs0_6 t15) (ms0_7 t15) (hs0_7 t15) scM0_0 (Memref.isWhole_whole _) hc15 X).1 S128x4096.size (by sl_kernel_rfl) y

/-- Every place of the scales is stored at the last point. -/
theorem cover7 (c : Dev nD) (X : Vec F S1024x4096 .f32) (y : S1024x1.Idx) : ∃ pc ∈ (runT c (grid0.coords t15) (ms0_0 t15) (hs0_0 t15) (ms0_1 t15) (hs0_1 t15) (ms0_2 t15) (hs0_2 t15) (ms0_3 t15) (hs0_3 t15) (ms0_4 t15) (hs0_4 t15) (ms0_5 t15) (hs0_5 t15) (ms0_6 t15) (hs0_6 t15) (ms0_7 t15) (hs0_7 t15) scM0_0 (Memref.isWhole_whole _) hc15 X).2.1, y ∈ pc.1.set :=
  View.cover_of_tiledL (runT c (grid0.coords t15) (ms0_0 t15) (hs0_0 t15) (ms0_1 t15) (hs0_1 t15) (ms0_2 t15) (hs0_2 t15) (ms0_3 t15) (hs0_3 t15) (ms0_4 t15) (hs0_4 t15) (ms0_5 t15) (hs0_5 t15) (ms0_6 t15) (hs0_6 t15) (ms0_7 t15) (hs0_7 t15) scM0_0 (Memref.isWhole_whole _) hc15 X).2.1 S128x1.size (by sl_kernel_rfl) y

attribute [local irreducible] runT

/-- The codes the last point leaves, from the scratch's contents `X`. -/
def codes (c : Dev nD) (X : Vec F S1024x4096 .f32) : Vec F S1024x4096 .fp8e4m3 :=
  VO0_6.read (Elt F) (VO0_6.writes (Elt F) VO0_6.junk (runT c (grid0.coords t15) (ms0_0 t15) (hs0_0 t15) (ms0_1 t15) (hs0_1 t15) (ms0_2 t15) (hs0_2 t15) (ms0_3 t15) (hs0_3 t15) (ms0_4 t15) (hs0_4 t15) (ms0_5 t15) (hs0_5 t15) (ms0_6 t15) (hs0_6 t15) (ms0_7 t15) (hs0_7 t15) scM0_0 (Memref.isWhole_whole _) hc15 X).1)

/-- The scales the last point leaves, from the scratch's contents `X`. -/
def scales (c : Dev nD) (X : Vec F S1024x4096 .f32) : Vec F S1024x1 .f32 :=
  VO0_7.read (Elt F) (VO0_7.writes (Elt F) VO0_7.junk (runT c (grid0.coords t15) (ms0_0 t15) (hs0_0 t15) (ms0_1 t15) (hs0_1 t15) (ms0_2 t15) (hs0_2 t15) (ms0_3 t15) (hs0_3 t15) (ms0_4 t15) (hs0_4 t15) (ms0_5 t15) (hs0_5 t15) (ms0_6 t15) (hs0_6 t15) (ms0_7 t15) (hs0_7 t15) scM0_0 (Memref.isWhole_whole _) hc15 X).2.1)

/-- The codes after the run. -/
def out6 (c : Dev nD) : Vec F S1024x4096 .fp8e4m3 := codes c (hid m c)
/-- The scales after the run. -/
def out7 (c : Dev nD) : Vec F S1024x1 .f32 := scales c (hid m c)

attribute [local irreducible] out6 out7

/-- The region invariant before position `n`: the scratch holds the hidden values of the points before it, whatever it holds
    elsewhere, and the generator register is at some state. -/
def PhiS (c : Dev nD) (n : ℕ) (h : n ≤ cfg0.N) : sProp 𝕄 :=
  iprop(∃ X, ⌜Upto m c n X⌝ ∗ owns (c : Thread nD τ) scM0_0 fullShare X ∗ (∃ r, prngReg c r))

/-! ## The pipeline's proof data -/

/-- The proof data of the one pipeline on core `c`: the arrays as the region finds them (`V`); after the body at
    point `t` each input's buffer at its block and the outputs' at what the last point leaves; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 m c
    | ⟨7, _⟩ => out7 m c
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out6 m c := by dsimp only [dats]
theorem after0_7 (c : Dev nD) (t : Fin cfg0.N) : (dats m 0 c).after 7 t = out7 m c := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 6400000 in
/-- The body at any point: at the last the quantising run applies, the scratch then holding the hidden values whole; at any other the
    storing run, the outputs left as they were. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_castSucc m c t]
  unfold PhiS
  have hN : t.val < 16 := lt_of_lt_of_eq t.isLt (show cfg0.N = 16 from N_0)
  by_cases h0 : t.val % 16 = 15
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6_B t ((hcond0_0 t).mpr h0)], after0_6]
    rw [show (dats m 0 c).leavesExact 7 t = owns (c : Thread nD τ) (ms0_7 t) fullShare ((dats m 0 c).after 7 t) from by
      unfold Dat.leavesExact; rw [liveAt0_7_B t ((hcond0_0 t).mpr h0)], after0_7]
    iintro ⟨⟨%X, %hX, HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    obtain rfl : t = t15 := Fin.ext (by have h2 : t15.val = 15 := rfl; omega)
    iapply (runB c (grid0.coords t15) (ms0_0 t15) (hs0_0 t15) (ms0_1 t15) (hs0_1 t15) (ms0_2 t15) (hs0_2 t15) (ms0_3 t15) (hs0_3 t15) (ms0_4 t15) (hs0_4 t15) (ms0_5 t15) (hs0_5 t15) (ms0_6 t15) (hs0_6 t15) (ms0_7 t15) (hs0_7 t15) scM0_0 (Memref.isWhole_whole _) hc15 (iblk m c 0 t15) (iblk m c 1 t15) (iblk m c 2 t15) (iblk m c 3 t15) (iblk m c 4 t15) (iblk m c 5 t15) X (hid m c) (writes_last m c X hX) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    iintro ⟨H0, H1, H2, H3, H4, H5, ⟨%e6, H6⟩, ⟨%e7, H7⟩, HS0⟩
    isplitl [HS0 Hg]
    · iexists (hid m c)
      isplitr; · ipureintro; exact fun y _ => rfl
      isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; unfold out6 codes; exact View.read_writes_of_cover _ _ _ _ _ (cover6 c (hid m c))
    unfold owns; iexists _; isplitr
    swap; · iexact H7
    ipureintro; unfold out7 scales; exact View.read_writes_of_cover _ _ _ _ _ (cover7 c (hid m c))
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [Dat.leavesExact_idle (dats m 0 c) 6 t (idleAt0_6_A t (fun h => h0 ((hcond0_0 t).mp h))) (noFlush0_6_A t (fun h => h0 ((hcond0_0 t).mp h)))]
    rw [Dat.leavesExact_idle (dats m 0 c) 7 t (idleAt0_7_A t (fun h => h0 ((hcond0_0 t).mp h))) (noFlush0_7_A t (fun h => h0 ((hcond0_0 t).mp h)))]
    iintro ⟨⟨%X, %hX, HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (iblk m c 5 t) _ _ X Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    iintro ⟨H0, H1, H2, H3, H4, H5, H6, H7, HS0⟩
    isplitl [HS0 Hg]
    · iexists (put m c t X)
      isplitr; · ipureintro; exact upto_put m c t X hX
      isplitl [HS0]
      · unfold owns; iexists _; isplitr
        swap; · iexact HS0
        ipureintro; exact (put_eq m c t X).symm
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point, at whatever the scratch holds. -/
theorem hin (c : Dev nD) : Pipeline.ΦA spec0 c ⊢ (dats m 0 c).Φ 0 := by
  rw [show (dats m 0 c).Φ 0 = PhiS m c 0 (Nat.zero_le _) from rfl, PhiA0_eq]
  unfold PhiS
  iintro ⟨⟨%X, HS0⟩, Hg⟩
  iexists X
  isplitr; · ipureintro; exact fun y h => absurd h (by omega)
  isplitl [HS0]
  · iexact HS0
  iexact Hg

/-- After the last point the invariant gives `ΦA` back: what the scratch holds is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA0_eq]
  unfold PhiS
  iintro ⟨%X, %hX, HS0, Hg⟩
  isplitl [HS0]
  · iexists _; iexact HS0
  iexact Hg

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME: the argument arrays end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Ff.Gen

end
-- ==== Proof.FfIdealRuns.lean ====
module

public import proofs.«01_k».proof.Proof.Gen.FfIdeal.Frame
public import proofs.«01_k».proof.Proof.Gen.FfIdeal.Skeleton
public import Idealize.ShloMosaic.Lib.WritesUnit
public import Idealize.ShloMosaic.Lib.VecWindow

@[expose] public section

-- membership in a rectangle of production extents (`View.cover_of_tiled`): the elaborator's structural look
-- recurses once per coordinate of the long axes
set_option maxRecDepth 16384

noncomputable section

namespace Cert.FfIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the last point only — by arithmetic of the point. -/
theorem hcond0_0 : ∀ t : Fin cfg0.N, cond0_0 (grid0.coords t) ↔ t.val % 16 = 15 :=
  (fun t => by
    have ht : t.val < 16 := Nat.lt_of_lt_of_eq t.isLt N_0
    have e0 : (grid0.coords t 0).val = t.val / 1 % 16 := Pipeline.Grid.coords_val t 0 (by decide) rfl
    simp only [cond0_0, k0_cond1, e0]
    word_cmp
   : ∀ t : Fin grid0.N, cond0_0 (grid0.coords t) ↔ t.val % 16 = 15)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- At the points of case A the printed configuration (`Cfg.idle`) calls output 6 idle: the case stores nothing into it. -/
theorem idleAt0_6_A : ∀ t : Fin cfg0.N, ¬cond0_0 (grid0.coords t) → cfg0.idle 6 (grid0.coords t) = true := by decide +kernel
/-- At the points of case A the pipeline does not write output 6's block back. -/
theorem noFlush0_6_A : ∀ t : Fin cfg0.N, ¬cond0_0 (grid0.coords t) → (cfg0.win 6).flush t = false := by decide +kernel
/-- At the points of case B the printed configuration (`Cfg.idle`) calls output 6 live: the case stores into it. -/
theorem liveAt0_6_B : ∀ t : Fin cfg0.N, cond0_0 (grid0.coords t) → cfg0.idle 6 (grid0.coords t) = false := by decide +kernel
/-- At the points of case A the printed configuration (`Cfg.idle`) calls output 7 idle: the case stores nothing into it. -/
theorem idleAt0_7_A : ∀ t : Fin cfg0.N, ¬cond0_0 (grid0.coords t) → cfg0.idle 7 (grid0.coords t) = true := by decide +kernel
/-- At the points of case A the pipeline does not write output 7's block back. -/
theorem noFlush0_7_A : ∀ t : Fin cfg0.N, ¬cond0_0 (grid0.coords t) → (cfg0.win 7).flush t = false := by decide +kernel
/-- At the points of case B the printed configuration (`Cfg.idle`) calls output 7 live: the case stores into it. -/
theorem liveAt0_7_B : ∀ t : Fin cfg0.N, cond0_0 (grid0.coords t) → cfg0.idle 7 (grid0.coords t) = false := by decide +kernel

/-! ## The kernel body on any staging memrefs: a subtype the run finds -/

/-- One staging buffer of output window 6, through which its contents are stated (`View.read_writes_of_cover`: the
    choice does not matter). -/
abbrev VO0_6 : View sig .tc .vmem S1024x4096 .fp8e4m3 := (Memref.whole cc0_stg6_0 : Memref sig .tc .vmem S1024x4096 .fp8e4m3).view
/-- One staging buffer of output window 7, through which its contents are stated (`View.read_writes_of_cover`: the
    choice does not matter). -/
abbrev VO0_7 : View sig .tc .vmem S1024x1 .f32 := (Memref.whole cc0_stg7_0 : Memref sig .tc .vmem S1024x1 .f32).view
/-- Each window's current staging memref at point `t`, spelled as the pipeline passes it (`bodyAt0`), and its wholeness. -/
abbrev ms0_0 (t : Fin cfg0.N) : Memref sig .tc .vmem S1024x8192 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x256 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8192x256 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x4096 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x1 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S1024x4096 .f32 := Memref.whole cc0_scratch0
/-- The scratch `arg9` the kernel carries between points, as a view: what it holds is stated through it. -/
abbrev VS0_0 : View sig .tc .vmem S1024x4096 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- A load of a whole memref at its contents reads the contents. -/
theorem readAt_whole {s : Shape} {e : EltTy} {M : Memref sig .tc .vmem s e} (h : M.IsWhole) (X : s.Idx → Elt F e) {off : Fin s.rank → ℕ}
    (inb : ∀ a, off a + s.size a ≤ s.size a) (h0 : ∀ a, off a = 0) :
    View.readAt (Elt F) M.view (Rect.unit off s.size inb).toLoadRect (h.unread X) = X :=
  (View.readAt_full M.view _ inb).trans (h.read_unread X)

set_option maxHeartbeats 1000000 in
/-- The body at a point before the last: it stores the point's slice of hidden values into the scratch and leaves every other
    buffer as it was. -/
theorem runA (c : Dev nD) (i : grid0.Coords) (arg1 : Memref sig .tc .vmem S1024x8192 .fp8e4m3) (harg1 : arg1.IsWhole) (arg2 : Memref sig .tc .vmem S1024x1 .f32) (harg2 : arg2.IsWhole) (arg3 : Memref sig .tc .vmem S8192x256 .fp8e4m3) (harg3 : arg3.IsWhole) (arg4 : Memref sig .tc .vmem S8192x256 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S1024x4096 .fp8e4m3) (harg7 : arg7.IsWhole) (arg8 : Memref sig .tc .vmem S1024x1 .f32) (harg8 : arg8.IsWhole) (arg9 : Memref sig .tc .vmem S1024x4096 .f32) (harg9 : arg9.IsWhole) (hc0 : ¬cond0_0 i)
    (x0 : Vec F S1024x8192 .fp8e4m3) (x1 : Vec F S1024x1 .f32) (x2 : Vec F S8192x256 .fp8e4m3) (x3 : Vec F S8192x256 .fp8e4m3) (x4 : Vec F S1x256 .f32) (x5 : Vec F S1x256 .f32) (xi6 : Vec F S1024x4096 .fp8e4m3) (xi7 : Vec F S1024x1 .f32) (xs0 : Vec F S1024x4096 .f32) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xi7 ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xi7 ∗ (arg9.view.loc (c : Thread nD τ) ↦[arg9.view.set]{fullShare} arg9.view.writes (Elt F) (harg9.unread xs0) [(⟨Rect.unit (s := S1024x4096) (k0_off1 i) S1024x256.size (k0_off1_inb i), k0_pay1 x1 x0 x2 x4 x0 x3 x5⟩ : View.Piece (Elt F) S1024x4096 .f32)])) -∗ K ⟨⟩))
          ⊢ wp frame (wpE (defs₀ (F := F)) Variants.none c none) E (cc0_ff i arg1 harg1 arg2 harg2 arg3 harg3 arg4 harg4 arg5 harg5 arg6 harg6 arg7 harg7 arg8 harg8 arg9 harg9) K := by
    have e0 : View.readAt (Elt F) arg1.view (Rect.unit (s := S1024x8192) ![0, 0] ![1024, 8192] inb_S1024x8192_S1024x8192_0_0).toLoadRect (harg1.unread x0) = x0 := readAt_whole harg1 x0 _ (by decide)
    have e1 : View.readAt (Elt F) arg2.view (Rect.unit (s := S1024x1) ![0, 0] ![1024, 1] inb_S1024x1_S1024x1_0_0).toLoadRect (harg2.unread x1) = x1 := readAt_whole harg2 x1 _ (by decide)
    have e2 : View.readAt (Elt F) arg3.view (Rect.unit (s := S8192x256) ![0, 0] ![8192, 256] inb_S8192x256_S8192x256_0_0).toLoadRect (harg3.unread x2) = x2 := readAt_whole harg3 x2 _ (by decide)
    have e3 : View.readAt (Elt F) arg4.view (Rect.unit (s := S8192x256) ![0, 0] ![8192, 256] inb_S8192x256_S8192x256_0_0).toLoadRect (harg4.unread x3) = x3 := readAt_whole harg4 x3 _ (by decide)
    have e4 : View.readAt (Elt F) arg5.view (Rect.unit (s := S1x256) ![0, 0] ![1, 256] inb_S1x256_S1x256_0_0).toLoadRect (harg5.unread x4) = x4 := readAt_whole harg5 x4 _ (by decide)
    have e5 : View.readAt (Elt F) arg6.view (Rect.unit (s := S1x256) ![0, 0] ![1, 256] inb_S1x256_S1x256_0_0).toLoadRect (harg6.unread x5) = x5 := readAt_whole harg6 x5 _ (by decide)
    simp only [cc0_ff_eq_skeleton]; unfold cc0_ff_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    iexact HS0

/-- What the body does after storing its slice: at the last point the quantising of the scratch's rows. -/
noncomputable def ffTail (i : grid0.Coords) (arg1 : Memref sig .tc .vmem S1024x8192 .fp8e4m3) (harg1 : arg1.IsWhole) (arg2 : Memref sig .tc .vmem S1024x1 .f32) (harg2 : arg2.IsWhole) (arg3 : Memref sig .tc .vmem S8192x256 .fp8e4m3) (harg3 : arg3.IsWhole) (arg4 : Memref sig .tc .vmem S8192x256 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S1024x4096 .fp8e4m3) (harg7 : arg7.IsWhole) (arg8 : Memref sig .tc .vmem S1024x1 .f32) (harg8 : arg8.IsWhole) (arg9 : Memref sig .tc .vmem S1024x4096 .f32) (harg9 : arg9.IsWhole) :
    Prog (TpuEff nD τ sig (Elt F) Λ₀ .tc) PUnit := do
  if k0_h1 : k0_cond1 i = 1#1 then do
    let ⟨v58, v72⟩ : Σ' (v58 : IVec S128x1 32), FVec F S128x4096 .fp8e4m3 ← k0_part1 i arg1 harg1 arg2 harg2 arg3 harg3 arg4 harg4 arg5 harg5 arg6 harg6 arg7 harg7 arg8 harg8 arg9 harg9
    let ⟨v80, v108, v110, c127_i32_45⟩ : Σ' (v80 : Vec F S128x4096 .f32) (v108 : IVec S128x1 32) (v110 : IVec S128x1 32), BitVec 32 ← k0_part2 i arg1 harg1 arg2 harg2 arg3 harg3 arg4 harg4 arg5 harg5 arg6 harg6 arg7 harg7 arg8 harg8 arg9 harg9 v58 v72
    let ⟨v130, v133, v135, v149, v150⟩ : Σ' (v130 : Vec F S128x4096 .f32) (v133 : FVec F S128x1 .f32) (v135 : FVec F S128x1 .f32) (v149 : IVec S128x1 32), IVec S128x1 32 ← k0_part3 i arg1 harg1 arg2 harg2 arg3 harg3 arg4 harg4 arg5 harg5 arg6 harg6 arg7 harg7 arg8 harg8 arg9 harg9 v80 v108 v110 c127_i32_45
    let ⟨v180, v183, v185, v188, c246_i32_81⟩ : Σ' (v180 : Vec F S128x4096 .f32) (v183 : FVec F S128x1 .f32) (v185 : FVec F S128x1 .f32) (v188 : IVec S128x256 32), BitVec 32 ← k0_part4 i arg1 harg1 arg2 harg2 arg3 harg3 arg4 harg4 arg5 harg5 arg6 harg6 arg7 harg7 arg8 harg8 arg9 harg9 v130 v133 v135 v149 v150
    k0_part5 i arg1 harg1 arg2 harg2 arg3 harg3 arg4 harg4 arg5 harg5 arg6 harg6 arg7 harg7 arg8 harg8 arg9 harg9 v180 v183 v185 v188 c246_i32_81
    let ⟨v258, v272⟩ : Σ' (v258 : IVec S128x1 32), FVec F S128x4096 .fp8e4m3 ← k0_part6 i arg1 harg1 arg2 harg2 arg3 harg3 arg4 harg4 arg5 harg5 arg6 harg6 arg7 harg7 arg8 harg8 arg9 harg9
    let ⟨v280, v308, v310, c127_i32_133⟩ : Σ' (v280 : Vec F S128x4096 .f32) (v308 : IVec S128x1 32) (v310 : IVec S128x1 32), BitVec 32 ← k0_part7 i arg1 harg1 arg2 harg2 arg3 harg3 arg4 harg4 arg5 harg5 arg6 harg6 arg7 harg7 arg8 harg8 arg9 harg9 v258 v272
    let ⟨v330, v333, v335, v349, v350⟩ : Σ' (v330 : Vec F S128x4096 .f32) (v333 : FVec F S128x1 .f32) (v335 : FVec F S128x1 .f32) (v349 : IVec S128x1 32), IVec S128x1 32 ← k0_part8 i arg1 harg1 arg2 harg2 arg3 harg3 arg4 harg4 arg5 harg5 arg6 harg6 arg7 harg7 arg8 harg8 arg9 harg9 v280 v308 v310 c127_i32_133
    let ⟨v380, v383, v385, v388, c246_i32_169⟩ : Σ' (v380 : Vec F S128x4096 .f32) (v383 : FVec F S128x1 .f32) (v385 : FVec F S128x1 .f32) (v388 : IVec S128x256 32), BitVec 32 ← k0_part9 i arg1 harg1 arg2 harg2 arg3 harg3 arg4 harg4 arg5 harg5 arg6 harg6 arg7 harg7 arg8 harg8 arg9 harg9 v330 v333 v335 v349 v350
    k0_part10 i arg1 harg1 arg2 harg2 arg3 harg3 arg4 harg4 arg5 harg5 arg6 harg6 arg7 harg7 arg8 harg8 arg9 harg9 v380 v383 v385 v388 c246_i32_169
    pure ⟨⟩
  else do
    pure ⟨⟩
  pure ⟨⟩

/-- The body is its loads and its slice's store, then that. -/
theorem ff_split (i : grid0.Coords) (arg1 : Memref sig .tc .vmem S1024x8192 .fp8e4m3) (harg1 : arg1.IsWhole) (arg2 : Memref sig .tc .vmem S1024x1 .f32) (harg2 : arg2.IsWhole) (arg3 : Memref sig .tc .vmem S8192x256 .fp8e4m3) (harg3 : arg3.IsWhole) (arg4 : Memref sig .tc .vmem S8192x256 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S1024x4096 .fp8e4m3) (harg7 : arg7.IsWhole) (arg8 : Memref sig .tc .vmem S1024x1 .f32) (harg8 : arg8.IsWhole) (arg9 : Memref sig .tc .vmem S1024x4096 .f32) (harg9 : arg9.IsWhole) :
    cc0_ff (F := F) i arg1 harg1 arg2 harg2 arg3 harg3 arg4 harg4 arg5 harg5 arg6 harg6 arg7 harg7 arg8 harg8 arg9 harg9 = (do
  let v0 : Vec F S1024x1 .f32 ← Prog.lift (.load arg2 (Rect.unit (s := S1024x1) ![0, 0] S1024x1.size inb_S1024x1_S1024x1_0_0).toLoadRect (View.loadsAt_vmem h_S1024x1))
  let v1 : Vec F S1024x8192 .fp8e4m3 ← Prog.lift (.load arg1 (Rect.unit (s := S1024x8192) ![0, 0] S1024x8192.size inb_S1024x8192_S1024x8192_0_0).toLoadRect (View.loadsAt_vmem h_S1024x8192))
  let v2 : Vec F S8192x256 .fp8e4m3 ← Prog.lift (.load arg3 (Rect.unit (s := S8192x256) ![0, 0] S8192x256.size inb_S8192x256_S8192x256_0_0).toLoadRect (View.loadsAt_vmem h_S8192x256))
  let v6 : Vec F S1x256 .f32 ← Prog.lift (.load arg5 (Rect.unit (s := S1x256) ![0, 0] S1x256.size inb_S1x256_S1x256_0_0).toLoadRect (View.loadsAt_vmem h_S1x256))
  let v10 : Vec F S1024x8192 .fp8e4m3 ← Prog.lift (.load arg1 (Rect.unit (s := S1024x8192) ![0, 0] S1024x8192.size inb_S1024x8192_S1024x8192_0_0).toLoadRect (View.loadsAt_vmem h_S1024x8192))
  let v11 : Vec F S8192x256 .fp8e4m3 ← Prog.lift (.load arg4 (Rect.unit (s := S8192x256) ![0, 0] S8192x256.size inb_S8192x256_S8192x256_0_0).toLoadRect (View.loadsAt_vmem h_S8192x256))
  let v15 : Vec F S1x256 .f32 ← Prog.lift (.load arg6 (Rect.unit (s := S1x256) ![0, 0] S1x256.size inb_S1x256_S1x256_0_0).toLoadRect (View.loadsAt_vmem h_S1x256))
  let v24 : Vec F S1024x256 .f32 ← Prog.lift (.load arg9 (Rect.unit (s := S1024x4096) (k0_off1 i) S1024x256.size (k0_off1_inb i)).toLoadRect (View.loadsAt_vmem h_S1024x256))
  Prog.lift (.store arg9 (Rect.unit (s := S1024x4096) (k0_off1 i) S1024x256.size (k0_off1_inb i)) (k0_pay1 v0 v1 v2 v6 v10 v11 v15) Finset.univ (View.stores_vmem_bits_univ h_S1024x256 rfl) (.inl rfl))
  ffTail i arg1 harg1 arg2 harg2 arg3 harg3 arg4 harg4 arg5 harg5 arg6 harg6 arg7 harg7 arg8 harg8 arg9 harg9) := by
  rw [cc0_ff_eq_skeleton]
  rfl

set_option maxHeartbeats 4000000 in
/-- The quantising at the last point, the scratch holding `X`: what its stores leave in the codes' and the scales' buffers, as pieces
    found by the run. -/
noncomputable def runT (c : Dev nD) (i : grid0.Coords) (arg1 : Memref sig .tc .vmem S1024x8192 .fp8e4m3) (harg1 : arg1.IsWhole) (arg2 : Memref sig .tc .vmem S1024x1 .f32) (harg2 : arg2.IsWhole) (arg3 : Memref sig .tc .vmem S8192x256 .fp8e4m3) (harg3 : arg3.IsWhole) (arg4 : Memref sig .tc .vmem S8192x256 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S1024x4096 .fp8e4m3) (harg7 : arg7.IsWhole) (arg8 : Memref sig .tc .vmem S1024x1 .f32) (harg8 : arg8.IsWhole) (arg9 : Memref sig .tc .vmem S1024x4096 .f32) (harg9 : arg9.IsWhole) (hc0 : cond0_0 i) (X : Vec F S1024x4096 .f32) :
    Σ' (L6 : List (View.Piece (Elt F) S1024x4096 .fp8e4m3)), { L7 : List (View.Piece (Elt F) S1024x1 .f32) //
      ∀ (E : Set ℕ) (K : PUnit → sProp 𝕄),
        iprop((∃ d, owns (c : Thread nD τ) arg7 fullShare d) ∗ (∃ d, owns (c : Thread nD τ) arg8 fullShare d) ∗ owns (c : Thread nD τ) arg9 fullShare X
            ∗ (iprop((∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ owns (c : Thread nD τ) arg9 fullShare X) -∗ K ⟨⟩))
          ⊢ wp frame (wpE (defs₀ (F := F)) Variants.none c none) E (ffTail i arg1 harg1 arg2 harg2 arg3 harg3 arg4 harg4 arg5 harg5 arg6 harg6 arg7 harg7 arg8 harg8 arg9 harg9) K } := by
  refine ⟨?_, ?_, fun E K => ?run⟩
  case run =>
    unfold ffTail
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%d6, %f6, -, H6⟩, ⟨%d7, %f7, -, H7⟩, ⟨%fs0, %hfs0, HS0⟩, Hk⟩
    obtain rfl := harg9.eq_unread hfs0
    sl_exec (disch := first | sl_exact hc0)
    sl_step
    iapply Hk
    isplitl [H6]; · iexists _; iexact H6
    isplitl [H7]; · iexists _; iexact H7
    iexists _; isplitr; · ipureintro; exact harg9.read_unread _
    iexact HS0

set_option maxHeartbeats 1000000 in
/-- The body's loads and its slice's store, before any continuation `T`. -/
theorem runS (c : Dev nD) (i : grid0.Coords) (arg1 : Memref sig .tc .vmem S1024x8192 .fp8e4m3) (harg1 : arg1.IsWhole) (arg2 : Memref sig .tc .vmem S1024x1 .f32) (harg2 : arg2.IsWhole) (arg3 : Memref sig .tc .vmem S8192x256 .fp8e4m3) (harg3 : arg3.IsWhole) (arg4 : Memref sig .tc .vmem S8192x256 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S1024x4096 .fp8e4m3) (harg7 : arg7.IsWhole) (arg8 : Memref sig .tc .vmem S1024x1 .f32) (harg8 : arg8.IsWhole) (arg9 : Memref sig .tc .vmem S1024x4096 .f32) (harg9 : arg9.IsWhole) (T : Prog (TpuEff nD τ sig (Elt F) Λ₀ .tc) PUnit)
    (x0 : Vec F S1024x8192 .fp8e4m3) (x1 : Vec F S1024x1 .f32) (x2 : Vec F S8192x256 .fp8e4m3) (x3 : Vec F S8192x256 .fp8e4m3) (x4 : Vec F S1x256 .f32) (x5 : Vec F S1x256 .f32) (xs0 : Vec F S1024x4096 .f32) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (arg9.view.loc (c : Thread nD τ) ↦[arg9.view.set]{fullShare} arg9.view.writes (Elt F) (harg9.unread xs0) [(⟨Rect.unit (s := S1024x4096) (k0_off1 i) S1024x256.size (k0_off1_inb i), k0_pay1 x1 x0 x2 x4 x0 x3 x5⟩ : View.Piece (Elt F) S1024x4096 .f32)])) -∗ wp frame (wpE (defs₀ (F := F)) Variants.none c none) E T K))
          ⊢ wp frame (wpE (defs₀ (F := F)) Variants.none c none) E (do
  let v0 : Vec F S1024x1 .f32 ← Prog.lift (.load arg2 (Rect.unit (s := S1024x1) ![0, 0] S1024x1.size inb_S1024x1_S1024x1_0_0).toLoadRect (View.loadsAt_vmem h_S1024x1))
  let v1 : Vec F S1024x8192 .fp8e4m3 ← Prog.lift (.load arg1 (Rect.unit (s := S1024x8192) ![0, 0] S1024x8192.size inb_S1024x8192_S1024x8192_0_0).toLoadRect (View.loadsAt_vmem h_S1024x8192))
  let v2 : Vec F S8192x256 .fp8e4m3 ← Prog.lift (.load arg3 (Rect.unit (s := S8192x256) ![0, 0] S8192x256.size inb_S8192x256_S8192x256_0_0).toLoadRect (View.loadsAt_vmem h_S8192x256))
  let v6 : Vec F S1x256 .f32 ← Prog.lift (.load arg5 (Rect.unit (s := S1x256) ![0, 0] S1x256.size inb_S1x256_S1x256_0_0).toLoadRect (View.loadsAt_vmem h_S1x256))
  let v10 : Vec F S1024x8192 .fp8e4m3 ← Prog.lift (.load arg1 (Rect.unit (s := S1024x8192) ![0, 0] S1024x8192.size inb_S1024x8192_S1024x8192_0_0).toLoadRect (View.loadsAt_vmem h_S1024x8192))
  let v11 : Vec F S8192x256 .fp8e4m3 ← Prog.lift (.load arg4 (Rect.unit (s := S8192x256) ![0, 0] S8192x256.size inb_S8192x256_S8192x256_0_0).toLoadRect (View.loadsAt_vmem h_S8192x256))
  let v15 : Vec F S1x256 .f32 ← Prog.lift (.load arg6 (Rect.unit (s := S1x256) ![0, 0] S1x256.size inb_S1x256_S1x256_0_0).toLoadRect (View.loadsAt_vmem h_S1x256))
  let v24 : Vec F S1024x256 .f32 ← Prog.lift (.load arg9 (Rect.unit (s := S1024x4096) (k0_off1 i) S1024x256.size (k0_off1_inb i)).toLoadRect (View.loadsAt_vmem h_S1024x256))
  Prog.lift (.store arg9 (Rect.unit (s := S1024x4096) (k0_off1 i) S1024x256.size (k0_off1_inb i)) (k0_pay1 v0 v1 v2 v6 v10 v11 v15) Finset.univ (View.stores_vmem_bits_univ h_S1024x256 rfl) (.inl rfl))
  T) K := by
    have e0 : View.readAt (Elt F) arg1.view (Rect.unit (s := S1024x8192) ![0, 0] ![1024, 8192] inb_S1024x8192_S1024x8192_0_0).toLoadRect (harg1.unread x0) = x0 := readAt_whole harg1 x0 _ (by decide)
    have e1 : View.readAt (Elt F) arg2.view (Rect.unit (s := S1024x1) ![0, 0] ![1024, 1] inb_S1024x1_S1024x1_0_0).toLoadRect (harg2.unread x1) = x1 := readAt_whole harg2 x1 _ (by decide)
    have e2 : View.readAt (Elt F) arg3.view (Rect.unit (s := S8192x256) ![0, 0] ![8192, 256] inb_S8192x256_S8192x256_0_0).toLoadRect (harg3.unread x2) = x2 := readAt_whole harg3 x2 _ (by decide)
    have e3 : View.readAt (Elt F) arg4.view (Rect.unit (s := S8192x256) ![0, 0] ![8192, 256] inb_S8192x256_S8192x256_0_0).toLoadRect (harg4.unread x3) = x3 := readAt_whole harg4 x3 _ (by decide)
    have e4 : View.readAt (Elt F) arg5.view (Rect.unit (s := S1x256) ![0, 0] ![1, 256] inb_S1x256_S1x256_0_0).toLoadRect (harg5.unread x4) = x4 := readAt_whole harg5 x4 _ (by decide)
    have e5 : View.readAt (Elt F) arg6.view (Rect.unit (s := S1x256) ![0, 0] ![1, 256] inb_S1x256_S1x256_0_0).toLoadRect (harg6.unread x5) = x5 := readAt_whole harg6 x5 _ (by decide)
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs0
    sl_exec
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexact HS0

set_option maxHeartbeats 1000000 in
/-- The body at the last point: it stores the last slice, after which the scratch holds `X`, and quantises `X`. -/
theorem runB (c : Dev nD) (i : grid0.Coords) (arg1 : Memref sig .tc .vmem S1024x8192 .fp8e4m3) (harg1 : arg1.IsWhole) (arg2 : Memref sig .tc .vmem S1024x1 .f32) (harg2 : arg2.IsWhole) (arg3 : Memref sig .tc .vmem S8192x256 .fp8e4m3) (harg3 : arg3.IsWhole) (arg4 : Memref sig .tc .vmem S8192x256 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S1024x4096 .fp8e4m3) (harg7 : arg7.IsWhole) (arg8 : Memref sig .tc .vmem S1024x1 .f32) (harg8 : arg8.IsWhole) (arg9 : Memref sig .tc .vmem S1024x4096 .f32) (harg9 : arg9.IsWhole) (hc0 : cond0_0 i)
    (x0 : Vec F S1024x8192 .fp8e4m3) (x1 : Vec F S1024x1 .f32) (x2 : Vec F S8192x256 .fp8e4m3) (x3 : Vec F S8192x256 .fp8e4m3) (x4 : Vec F S1x256 .f32) (x5 : Vec F S1x256 .f32) (xs0 X : Vec F S1024x4096 .f32)
    (hX : arg9.view.writes (Elt F) (harg9.unread xs0) [(⟨Rect.unit (s := S1024x4096) (k0_off1 i) S1024x256.size (k0_off1_inb i), k0_pay1 x1 x0 x2 x4 x0 x3 x5⟩ : View.Piece (Elt F) S1024x4096 .f32)] = harg9.unread X) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f (runT c i arg1 harg1 arg2 harg2 arg3 harg3 arg4 harg4 arg5 harg5 arg6 harg6 arg7 harg7 arg8 harg8 arg9 harg9 hc0 X).1) ∗ (∃ f, arg8.view.loc (c : Thread nD τ) ↦[arg8.view.set]{fullShare} arg8.view.writes (Elt F) f (runT c i arg1 harg1 arg2 harg2 arg3 harg3 arg4 harg4 arg5 harg5 arg6 harg6 arg7 harg7 arg8 harg8 arg9 harg9 hc0 X).2.1) ∗ owns (c : Thread nD τ) arg9 fullShare X) -∗ K ⟨⟩))
          ⊢ wp frame (wpE (defs₀ (F := F)) Variants.none c none) E (cc0_ff i arg1 harg1 arg2 harg2 arg3 harg3 arg4 harg4 arg5 harg5 arg6 harg6 arg7 harg7 arg8 harg8 arg9 harg9) K := by
    rw [ff_split]
    iintro ⟨H0, H1, H2, H3, H4, H5, H6, H7, HS0, Hk⟩
    iapply (runS c i arg1 harg1 arg2 harg2 arg3 harg3 arg4 harg4 arg5 harg5 arg6 harg6 arg7 harg7 arg8 harg8 arg9 harg9 (ffTail i arg1 harg1 arg2 harg2 arg3 harg3 arg4 harg4 arg5 harg5 arg6 harg6 arg7 harg7 arg8 harg8 arg9 harg9) x0 x1 x2 x3 x4 x5 xs0 E K)
    isplitl [H0]; · iexact H0
    isplitl [H1]; · iexact H1
    isplitl [H2]; · iexact H2
    isplitl [H3]; · iexact H3
    isplitl [H4]; · iexact H4
    isplitl [H5]; · iexact H5
    isplitl [HS0]; · iexact HS0
    rw [hX]
    iintro ⟨H0, H1, H2, H3, H4, H5, HS0⟩
    iapply ((runT c i arg1 harg1 arg2 harg2 arg3 harg3 arg4 harg4 arg5 harg5 arg6 harg6 arg7 harg7 arg8 harg8 arg9 harg9 hc0 X).2.2 E K)
    isplitl [H6]; · iexact H6
    isplitl [H7]; · iexact H7
    isplitl [HS0]
    · unfold owns; iexists _; isplitr; · ipureintro; exact harg9.read_unread _
      iexact HS0
    iintro ⟨H6, H7, HS0⟩
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact HS0

end Cert.FfIdeal.Gen

end
-- ==== Proof.FfIdealFrame.lean ====
module

public import proofs.«01_k».proof.Proof.FfIdealRuns
public import Idealize.ShloMosaic.Lib.ValueIdxCore
public import Idealize.ShloMosaic.Lib.Claim

@[expose] public section

-- membership in a rectangle of production extents (`View.cover_of_tiled`): the elaborator's structural look
-- recurses once per coordinate of the long axes
set_option maxRecDepth 16384

noncomputable section

namespace Cert.FfIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The hidden values, and what the scratch holds of them -/

/-- The slice of hidden values point `t` stores. -/
def slice (c : Dev nD) (t : Fin cfg0.N) : Vec F S1024x256 .f32 :=
  k0_pay1 (iblk m c 1 t) (iblk m c 0 t) (iblk m c 2 t) (iblk m c 4 t) (iblk m c 0 t) (iblk m c 3 t) (iblk m c 5 t)

/-- The hidden values whole: column `l` is column `l % 256` of point `l / 256`'s slice. -/
def hid (c : Dev nD) : Vec F S1024x4096 .f32 := fun y =>
  slice m c ⟨(y 1).val / 256, by
    have h1 : (y 1).val < 4096 := (y 1).isLt
    have h2 : cfg0.N = 16 := N_0
    omega⟩ (ix2 ⟨(y 0).val, (y 0).isLt⟩ ⟨(y 1).val % 256, Nat.mod_lt _ (by norm_num)⟩)

/-- The scratch's contents `X` are the hidden values in the columns of the first `n` points. -/
def Upto (c : Dev nD) (n : ℕ) (X : Vec F S1024x4096 .f32) : Prop := ∀ y : S1024x4096.Idx, (y 1).val < 256 * n → X y = hid m c y

/-- Where point `t` stores its slice. -/
theorem off_at : ∀ t : Fin cfg0.N, k0_off1 (grid0.coords t) = ![0, 256 * t.val] :=
  (by decide +kernel : ∀ t : Fin grid0.N, k0_off1 (grid0.coords t) = ![0, 256 * t.val])

/-- What the scratch holds after point `t` stored its slice over the contents `X`. -/
def put (c : Dev nD) (t : Fin cfg0.N) (X : Vec F S1024x4096 .f32) : Vec F S1024x4096 .f32 :=
  scM0_0.view.read (Elt F) (scM0_0.view.writes (Elt F) ((Memref.isWhole_whole _).unread X)
    [(⟨Rect.unit (s := S1024x4096) (k0_off1 (grid0.coords t)) S1024x256.size (k0_off1_inb (grid0.coords t)), slice m c t⟩ : View.Piece (Elt F) S1024x4096 .f32)])

/-- After point `t`'s store the scratch holds one more point's columns. -/
theorem upto_put (c : Dev nD) (t : Fin cfg0.N) (X : Vec F S1024x4096 .f32) (h : Upto m c t.val X) : Upto m c (t.val + 1) (put m c t X) := by
  intro y hy
  unfold put
  by_cases hlt : (y 1).val < 256 * t.val
  · rw [View.read_writes_cons_unit_of_not_mem scM0_0.view _ (k0_off1_inb (grid0.coords t)) _ _ y (off_at t) 1 (Or.inl hlt)]
    rw [View.writes_nil, Memref.IsWhole.read_unread]
    exact h y hlt
  · have h1 : (y 1).val = 256 * t.val + ((y 1).val - 256 * t.val) := by omega
    have hy0 : (y 0).val < 1024 := (y 0).isLt
    rw [View.read_writes_cons_unit_of_mem scM0_0.view _ (k0_off1_inb (grid0.coords t)) _ _ y
      (ix2 ⟨(y 0).val, hy0⟩ ⟨(y 1).val - 256 * t.val, by omega⟩) (off_at t) (fun a => by
        fin_cases a
        · show (y 0).val = 0 + (y 0).val
          omega
        · exact h1)]
    unfold hid
    have e1 : (y 1).val / 256 = t.val := by omega
    have e2 : (y 1).val % 256 = (y 1).val - 256 * t.val := by omega
    have key : ∀ (t' : Fin cfg0.N) (k : ℕ) (hk : k < 256), t' = t → k = (y 1).val - 256 * t.val →
        slice m c t (ix2 ⟨(y 0).val, hy0⟩ ⟨(y 1).val - 256 * t.val, by omega⟩) = slice m c t' (ix2 ⟨(y 0).val, hy0⟩ ⟨k, hk⟩) := by
      intro t' k hk ht hk'
      subst ht; subst hk'
      rfl
    exact key _ _ _ (Fin.ext e1) e2

/-- The last point. -/
def t15 : Fin cfg0.N := ⟨15, by rw [show cfg0.N = 16 from N_0]; norm_num⟩

/-- The last point takes the quantising branch. -/
theorem hc15 : cond0_0 (grid0.coords t15) := (hcond0_0 t15).mpr rfl

/-- After the last point's store the scratch holds the hidden values whole. -/
theorem put_last (c : Dev nD) (X : Vec F S1024x4096 .f32) (h : Upto m c t15.val X) : put m c t15 X = hid m c :=
  funext fun y => upto_put m c t15 X h y (by
    have h1 : (y 1).val < 4096 := (y 1).isLt
    have h2 : t15.val = 15 := rfl
    omega)

/-- The scratch after point `t`'s store, with the slice's payload spelled out. -/
theorem put_eq (c : Dev nD) (t : Fin cfg0.N) (X : Vec F S1024x4096 .f32) : put m c t X
    = scM0_0.view.read (Elt F) (scM0_0.view.writes (Elt F) ((Memref.isWhole_whole _).unread X)
      [(⟨Rect.unit (s := S1024x4096) (k0_off1 (grid0.coords t)) S1024x256.size (k0_off1_inb (grid0.coords t)),
        k0_pay1 (iblk m c 1 t) (iblk m c 0 t) (iblk m c 2 t) (iblk m c 4 t) (iblk m c 0 t) (iblk m c 3 t) (iblk m c 5 t)⟩ : View.Piece (Elt F) S1024x4096 .f32)]) := rfl

/-- The last point's store leaves the scratch's buffer at the hidden values. -/
theorem writes_last (c : Dev nD) (X : Vec F S1024x4096 .f32) (h : Upto m c t15.val X) :
    scM0_0.view.writes (Elt F) ((Memref.isWhole_whole _).unread X)
      [(⟨Rect.unit (s := S1024x4096) (k0_off1 (grid0.coords t15)) S1024x256.size (k0_off1_inb (grid0.coords t15)),
        k0_pay1 (iblk m c 1 t15) (iblk m c 0 t15) (iblk m c 2 t15) (iblk m c 4 t15) (iblk m c 0 t15) (iblk m c 3 t15) (iblk m c 5 t15)⟩ : View.Piece (Elt F) S1024x4096 .f32)]
    = (Memref.isWhole_whole _).unread (hid m c) :=
  (Memref.isWhole_whole _).eq_unread ((put_eq m c t15 X).symm.trans (put_last m c X h))

attribute [local irreducible] slice hid put

/-! ## What the last point leaves in the outputs' buffers -/

/-- Every place of the codes is stored at the last point. -/
theorem cover6 (c : Dev nD) (X : Vec F S1024x4096 .f32) (y : S1024x4096.Idx) : ∃ pc ∈ (runT c (grid0.coords t15) (ms0_0 t15) (hs0_0 t15) (ms0_1 t15) (hs0_1 t15) (ms0_2 t15) (hs0_2 t15) (ms0_3 t15) (hs0_3 t15) (ms0_4 t15) (hs0_4 t15) (ms0_5 t15) (hs0_5 t15) (ms0_6 t15) (hs0_6 t15) (ms0_7 t15) (hs0_7 t15) scM0_0 (Memref.isWhole_whole _) hc15 X).1, y ∈ pc.1.set :=
  View.cover_of_tiledL (runT c (grid0.coords t15) (ms0_0 t15) (hs0_0 t15) (ms0_1 t15) (hs0_1 t15) (ms0_2 t15) (hs0_2 t15) (ms0_3 t15) (hs0_3 t15) (ms0_4 t15) (hs0_4 t15) (ms0_5 t15) (hs0_5 t15) (ms0_6 t15) (hs0_6 t15) (ms0_7 t15) (hs0_7 t15) scM0_0 (Memref.isWhole_whole _) hc15 X).1 S128x4096.size (by sl_kernel_rfl) y

/-- Every place of the scales is stored at the last point. -/
theorem cover7 (c : Dev nD) (X : Vec F S1024x4096 .f32) (y : S1024x1.Idx) : ∃ pc ∈ (runT c (grid0.coords t15) (ms0_0 t15) (hs0_0 t15) (ms0_1 t15) (hs0_1 t15) (ms0_2 t15) (hs0_2 t15) (ms0_3 t15) (hs0_3 t15) (ms0_4 t15) (hs0_4 t15) (ms0_5 t15) (hs0_5 t15) (ms0_6 t15) (hs0_6 t15) (ms0_7 t15) (hs0_7 t15) scM0_0 (Memref.isWhole_whole _) hc15 X).2.1, y ∈ pc.1.set :=
  View.cover_of_tiledL (runT c (grid0.coords t15) (ms0_0 t15) (hs0_0 t15) (ms0_1 t15) (hs0_1 t15) (ms0_2 t15) (hs0_2 t15) (ms0_3 t15) (hs0_3 t15) (ms0_4 t15) (hs0_4 t15) (ms0_5 t15) (hs0_5 t15) (ms0_6 t15) (hs0_6 t15) (ms0_7 t15) (hs0_7 t15) scM0_0 (Memref.isWhole_whole _) hc15 X).2.1 S128x1.size (by sl_kernel_rfl) y

attribute [local irreducible] runT

/-- The codes the last point leaves, from the scratch's contents `X`. -/
def codes (c : Dev nD) (X : Vec F S1024x4096 .f32) : Vec F S1024x4096 .fp8e4m3 :=
  VO0_6.read (Elt F) (VO0_6.writes (Elt F) VO0_6.junk (runT c (grid0.coords t15) (ms0_0 t15) (hs0_0 t15) (ms0_1 t15) (hs0_1 t15) (ms0_2 t15) (hs0_2 t15) (ms0_3 t15) (hs0_3 t15) (ms0_4 t15) (hs0_4 t15) (ms0_5 t15) (hs0_5 t15) (ms0_6 t15) (hs0_6 t15) (ms0_7 t15) (hs0_7 t15) scM0_0 (Memref.isWhole_whole _) hc15 X).1)

/-- The scales the last point leaves, from the scratch's contents `X`. -/
def scales (c : Dev nD) (X : Vec F S1024x4096 .f32) : Vec F S1024x1 .f32 :=
  VO0_7.read (Elt F) (VO0_7.writes (Elt F) VO0_7.junk (runT c (grid0.coords t15) (ms0_0 t15) (hs0_0 t15) (ms0_1 t15) (hs0_1 t15) (ms0_2 t15) (hs0_2 t15) (ms0_3 t15) (hs0_3 t15) (ms0_4 t15) (hs0_4 t15) (ms0_5 t15) (hs0_5 t15) (ms0_6 t15) (hs0_6 t15) (ms0_7 t15) (hs0_7 t15) scM0_0 (Memref.isWhole_whole _) hc15 X).2.1)

/-- The codes after the run. -/
def out6 (c : Dev nD) : Vec F S1024x4096 .fp8e4m3 := codes c (hid m c)
/-- The scales after the run. -/
def out7 (c : Dev nD) : Vec F S1024x1 .f32 := scales c (hid m c)

attribute [local irreducible] out6 out7

/-- The region invariant before position `n`: the scratch holds the hidden values of the points before it, whatever it holds
    elsewhere, and the generator register is at some state. -/
def PhiS (c : Dev nD) (n : ℕ) (h : n ≤ cfg0.N) : sProp 𝕄 :=
  iprop(∃ X, ⌜Upto m c n X⌝ ∗ owns (c : Thread nD τ) scM0_0 fullShare X ∗ (∃ r, prngReg c r))

/-! ## The pipeline's proof data -/

/-- The proof data of the one pipeline on core `c`: the arrays as the region finds them (`V`); after the body at
    point `t` each input's buffer at its block and the outputs' at what the last point leaves; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 m c
    | ⟨7, _⟩ => out7 m c
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out6 m c := by dsimp only [dats]
theorem after0_7 (c : Dev nD) (t : Fin cfg0.N) : (dats m 0 c).after 7 t = out7 m c := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 6400000 in
/-- The body at any point: at the last the quantising run applies, the scratch then holding the hidden values whole; at any other the
    storing run, the outputs left as they were. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_castSucc m c t]
  unfold PhiS
  have hN : t.val < 16 := lt_of_lt_of_eq t.isLt (show cfg0.N = 16 from N_0)
  by_cases h0 : t.val % 16 = 15
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6_B t ((hcond0_0 t).mpr h0)], after0_6]
    rw [show (dats m 0 c).leavesExact 7 t = owns (c : Thread nD τ) (ms0_7 t) fullShare ((dats m 0 c).after 7 t) from by
      unfold Dat.leavesExact; rw [liveAt0_7_B t ((hcond0_0 t).mpr h0)], after0_7]
    iintro ⟨⟨%X, %hX, HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    obtain rfl : t = t15 := Fin.ext (by have h2 : t15.val = 15 := rfl; omega)
    iapply (runB c (grid0.coords t15) (ms0_0 t15) (hs0_0 t15) (ms0_1 t15) (hs0_1 t15) (ms0_2 t15) (hs0_2 t15) (ms0_3 t15) (hs0_3 t15) (ms0_4 t15) (hs0_4 t15) (ms0_5 t15) (hs0_5 t15) (ms0_6 t15) (hs0_6 t15) (ms0_7 t15) (hs0_7 t15) scM0_0 (Memref.isWhole_whole _) hc15 (iblk m c 0 t15) (iblk m c 1 t15) (iblk m c 2 t15) (iblk m c 3 t15) (iblk m c 4 t15) (iblk m c 5 t15) X (hid m c) (writes_last m c X hX) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    iintro ⟨H0, H1, H2, H3, H4, H5, ⟨%e6, H6⟩, ⟨%e7, H7⟩, HS0⟩
    isplitl [HS0 Hg]
    · iexists (hid m c)
      isplitr; · ipureintro; exact fun y _ => rfl
      isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; unfold out6 codes; exact View.read_writes_of_cover _ _ _ _ _ (cover6 c (hid m c))
    unfold owns; iexists _; isplitr
    swap; · iexact H7
    ipureintro; unfold out7 scales; exact View.read_writes_of_cover _ _ _ _ _ (cover7 c (hid m c))
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [Dat.leavesExact_idle (dats m 0 c) 6 t (idleAt0_6_A t (fun h => h0 ((hcond0_0 t).mp h))) (noFlush0_6_A t (fun h => h0 ((hcond0_0 t).mp h)))]
    rw [Dat.leavesExact_idle (dats m 0 c) 7 t (idleAt0_7_A t (fun h => h0 ((hcond0_0 t).mp h))) (noFlush0_7_A t (fun h => h0 ((hcond0_0 t).mp h)))]
    iintro ⟨⟨%X, %hX, HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (iblk m c 5 t) _ _ X Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    iintro ⟨H0, H1, H2, H3, H4, H5, H6, H7, HS0⟩
    isplitl [HS0 Hg]
    · iexists (put m c t X)
      isplitr; · ipureintro; exact upto_put m c t X hX
      isplitl [HS0]
      · unfold owns; iexists _; isplitr
        swap; · iexact HS0
        ipureintro; exact (put_eq m c t X).symm
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point, at whatever the scratch holds. -/
theorem hin (c : Dev nD) : Pipeline.ΦA spec0 c ⊢ (dats m 0 c).Φ 0 := by
  rw [show (dats m 0 c).Φ 0 = PhiS m c 0 (Nat.zero_le _) from rfl, PhiA0_eq]
  unfold PhiS
  iintro ⟨⟨%X, HS0⟩, Hg⟩
  iexists X
  isplitr; · ipureintro; exact fun y h => absurd h (by omega)
  isplitl [HS0]
  · iexact HS0
  iexact Hg

/-- After the last point the invariant gives `ΦA` back: what the scratch holds is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA0_eq]
  unfold PhiS
  iintro ⟨%X, %hX, HS0, Hg⟩
  isplitl [HS0]
  · iexists _; iexact HS0
  iexact Hg

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME: the argument arrays end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.FfIdeal.Gen

end
-- ==== Proof.DownRefValue.lean ====
module

public import proofs.«01_k».proof.Proof.Gen.DownRefIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DownRefIdeal.Value

open Cert.DownRefIdeal Cert.DownRefIdeal.Gen

variable (m : (ℓ : Loc nD τ sig) → Buf (Elt Ideal) ℓ)

/-- Every window's block of the reference's one grid point is its whole array. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, _)

/-- The reference as one function of its arguments: its lines over the whole arrays, the column scales laid out as a row. -/
def REF (h : FVec Ideal S1024x4096 .fp8e4m3) (hs : FVec Ideal S1024x1 .f32) (w : FVec Ideal S4096x8192 .fp8e4m3)
    (s : FVec Ideal S8192 .f32) (r : FVec Ideal S1024x8192 .f32) : FVec Ideal S1024x8192 .bf16 :=
  k0_pay1 h hs w (shapeCast S1x8192 s (by decide)) r

/-- The reference's result array after its run is `REF` of its arguments. -/
theorem final (c : Dev nD) : (dats m 0 c).arrAt 5 (cfgs 0).N
    = REF (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_after_last 5 t0_0 (by decide +kernel) _ fun j => ?_
  blk_simp
  rw [after0_5]
  frame_out
  pointwise [REF, k0_pay1]
  blk_point [iblk, V, idx t0_0]

end Cert.DownRefIdeal.Value

end
-- ==== Proof.DownValue.lean ====
module

public import proofs.«01_k».proof.Proof.Gen.DownIdeal.Frame
public import proofs.«01_k».proof.Proof.DownRefValue

@[expose] public section

set_option maxRecDepth 16384

noncomputable section

open Idealize.ShloMosaic Idealize.ShloMosaic.TcCoe Idealize.SL.Sem
open Idealize.ShloMosaic.Pipeline (Dat)

namespace Cert.DownIdeal.Value

open Cert.DownIdeal Cert.DownIdeal.Gen

variable (m : (ℓ : Loc nD τ sig) → Buf (Elt Ideal) ℓ)

/-- The block each window holds at grid point `t`: the codes and row scales whole, column block `t` of the rest. -/
theorem idx : ∀ t : Fin cfg0.N, win0_0.index t = ![0, 0] ∧ win0_1.index t = ![0, 0] ∧ win0_2.index t = ![0, t.val]
    ∧ win0_3.index t = ![0, t.val] ∧ win0_4.index t = ![0, t.val] ∧ win0_5.index t = ![0, t.val] :=
  (by decide +kernel : ∀ t : Fin grid0.N, _)

/-- What grid point `t` stores at block index `y` is the reference at the array index `y` sits at. -/
theorem point (c : Dev nD) (t : Fin cfg0.N) (y) :
    k0_pay1 (F := Ideal) (iblk m c 4 t) (iblk m c 0 t) (iblk m c 2 t) (iblk m c 1 t) (iblk m c 3 t) y
    = Cert.DownRefIdeal.Value.REF (m ((c : Thread nD τ).loc main_arg0)) (m ((c : Thread nD τ).loc main_arg1)) (m ((c : Thread nD τ).loc main_arg2))
        (m ((c : Thread nD τ).loc main_arg3)) (m ((c : Thread nD τ).loc main_arg4)) (((cfg0.win 5).blk t).view.emb y) := by
  pointwise [k0_pay1, Cert.DownRefIdeal.Value.REF, Cert.DownRefIdeal.Gen.k0_pay1]
  blk_point [iblk, V, idx t]

/-- The kernel's result array after its run is the reference's function of the arguments: the 16 column blocks tile it. -/
theorem final (c : Dev nD) : (dats m 0 c).arrAt 5 (cfgs 0).N
    = Cert.DownRefIdeal.Value.REF (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5]
  frame_out
  exact point m c t y

end Cert.DownIdeal.Value

end
-- ==== Proof.Quantise.lean ====
module

public import Idealize.ShloMosaic.Lib.Pipeline.ValueKit

@[expose] public section

set_option maxRecDepth 16384

noncomputable section

open Idealize.ShloMosaic

/-! The power-of-two exponent of a row, two ways over the extended reals. The kernels count how many of the powers of two
    `2 ^ (k - 127)`, `k = 1 … 246`, lie at or below `t`; the references take `floor (log2 t) + 1` clipped to `[-126, 120]`.
    `kernel_exp2` and `kernel_exp2_neg` say that the scale, and its inverse, built from either are the same number. -/

namespace Cert.Quantise

/-- A power of two as a 24-bit significand times a power of two. -/
theorem pow_split (n : ℕ) : (1 : ℝ) * ((2 ^ 23 + 0 : ℕ) : ℝ) * (2 : ℝ) ^ ((n : ℤ) - (2 ^ (8 - 1) - 1) - ((23 : ℕ) : ℤ)) = (2 : ℝ) ^ ((n : ℤ) - 127) := by
  have h : (2 : ℝ) ^ ((n : ℤ) - 127) = (2 : ℝ) ^ ((23 : ℕ) : ℤ) * (2 : ℝ) ^ ((n : ℤ) - (2 ^ (8 - 1) - 1) - ((23 : ℕ) : ℤ)) := by
    rw [← zpow_add₀ (by norm_num)]; congr 1; norm_num
  rw [h, zpow_natCast]
  push_cast
  norm_num

/-- The float whose exponent field is `n` and whose other bits are zero is the power of two `2 ^ (n - 127)`. -/
theorem ofBits_pow (n : ℕ) (h1 : 1 ≤ n) (h2 : n ≤ 254) :
    Ideal.ofBits .f32 ((BitVec.ofNat 32 n) <<< 23) = (((2 : ℝ) ^ ((n : ℤ) - 127) : ℝ) : EReal) := by
  have hb : ((BitVec.ofNat 32 n) <<< 23).toNat = n * 2 ^ 23 := by
    rw [BitVec.toNat_shiftLeft, BitVec.toNat_ofNat, Nat.shiftLeft_eq]; omega
  have hneg : (BitVec.extractLsb' 31 1 ((BitVec.ofNat 32 n) <<< 23) == 1#1) = false := by
    have : BitVec.extractLsb' 31 1 ((BitVec.ofNat 32 n) <<< 23) = 0#1 := by
      apply BitVec.eq_of_toNat_eq
      rw [BitVec.extractLsb'_toNat, hb, Nat.shiftRight_eq_div_pow]
      show n * 2 ^ 23 / 2 ^ 31 % 2 ^ 1 = 0
      omega
    rw [this]; rfl
  have hex : (BitVec.extractLsb' 23 8 ((BitVec.ofNat 32 n) <<< 23)).toNat = n := by
    rw [BitVec.extractLsb'_toNat, hb, Nat.shiftRight_eq_div_pow]; omega
  have hfr : (BitVec.extractLsb' 0 23 ((BitVec.ofNat 32 n) <<< 23)).toNat = 0 := by
    rw [BitVec.extractLsb'_toNat, hb, Nat.shiftRight_eq_div_pow]; omega
  unfold Ideal.ofBits Ideal.ieee
  simp only [Nat.reduceAdd, hneg, hex, hfr]
  rw [if_neg (by omega), if_neg (by omega)]
  simp only [Bool.false_eq_true, if_false]
  rw [EReal.coe_eq_coe_iff]
  exact pow_split n

/-- Adding up words by folding is the word of the sum of their values. -/
theorem fold_addi {ι : Type} (s : Finset ι) (f : ι → BitVec 32) :
    Finset.fold IntOp.addi (0#32) f s = BitVec.ofNat 32 (∑ x ∈ s, (f x).toNat) := by
  classical
  induction s using Finset.induction with
  | empty => simp
  | insert a s ha ih =>
    rw [Finset.fold_insert ha, Finset.sum_insert ha, ih]
    apply BitVec.eq_of_toNat_eq
    simp [IntOp.addi, BitVec.toNat_add]

/-- How many of the first 256 numbers are below `n`. -/
theorem count_lt (n : ℕ) (h : n ≤ 256) : (∑ x : Fin 256, if (x : ℕ) < n then 1 else 0) = n := by
  rw [Fin.sum_univ_eq_sum_range (fun x => if x < n then 1 else 0) 256, Finset.sum_ite, Finset.sum_const_zero, add_zero,
    Finset.sum_const, smul_eq_mul, mul_one]
  have : Finset.filter (fun x => x < n) (Finset.range 256) = Finset.range n := by
    ext x; simp; omega
  rw [this, Finset.card_range]

/-- The reference's exponent of `t`: `floor (log t / log 2) + 1`. -/
def logExp (t : EReal) : EReal :=
  Ideal.liftRound Int.floor (Ideal.div (Ideal.log t) (Ideal.log (Ideal.ofBits .f32 0x40000000#32))) + 1

/-- The reference's exponent clipped to `[-126, 120]`. -/
def clipExp (t : EReal) : EReal := min (Ideal.ofBits .f32 0x42F00000#32) (max (Ideal.ofBits .f32 0xC2FC0000#32) (logExp t))

theorem ofBits_two : Ideal.ofBits .f32 0x40000000#32 = ((2 : ℝ) : EReal) := by
  have := ofBits_pow 128 (by norm_num) (by norm_num)
  norm_num at this
  exact this

theorem ofBits_120 : Ideal.ofBits .f32 0x42F00000#32 = ((120 : ℝ) : EReal) := by
  simp [Ideal.ofBits, Ideal.ieee]; rw [← EReal.coe_mul]; norm_num

theorem ofBits_neg126 : Ideal.ofBits .f32 0xC2FC0000#32 = ((-126 : ℝ) : EReal) := by
  simp [Ideal.ofBits, Ideal.ieee]; rw [← EReal.coe_mul]; norm_num

theorem ofBits_448 : Ideal.ofBits .f32 0x3B124925#32 = ((9586981 * (2 : ℝ) ^ (-32 : ℤ) : ℝ) : EReal) := by
  simp [Ideal.ofBits, Ideal.ieee]

/-- Every `t` has ONE integer that both sides compute: the clipped exponent, and the bound below which `t` passes the
    powers of two. -/
theorem exists_exp (t : EReal) : ∃ e : ℤ, -126 ≤ e ∧ e ≤ 120 ∧ clipExp t = ((e : ℝ) : EReal)
    ∧ ∀ x : ℕ, x < 246 → ((((2 : ℝ) ^ ((x : ℤ) - 126) : ℝ) : EReal) ≤ t ↔ (x : ℤ) < e + 126) := by
  have hl2 : (0 : ℝ) < Real.log 2 := Real.log_pos (by norm_num)
  have hlog2 : Ideal.log (Ideal.ofBits .f32 0x40000000#32) = ((Real.log 2 : ℝ) : EReal) := by
    rw [ofBits_two]; exact if_neg (by norm_num : ¬ (2 : ℝ) ≤ 0)
  have hne : ((Real.log 2 : ℝ) : EReal) ≠ 0 := by exact_mod_cast hl2.ne'
  have hlow : ∀ u : EReal, u ≤ 0 → ∀ x : ℕ, x < 246 → ((((2 : ℝ) ^ ((x : ℤ) - 126) : ℝ) : EReal) ≤ u ↔ (x : ℤ) < -126 + 126) := by
    intro u hu x hx
    refine iff_of_false ?_ (by omega)
    have h0 : (0 : EReal) < (((2 : ℝ) ^ ((x : ℤ) - 126) : ℝ) : EReal) := by
      exact_mod_cast (zpow_pos (by norm_num : (0 : ℝ) < 2) _)
    exact not_le.2 (lt_of_le_of_lt hu h0)
  have hbot : Ideal.div ⊥ ((Real.log 2 : ℝ) : EReal) = ⊥ := by
    unfold Ideal.div
    rw [if_neg hne, ← EReal.coe_inv, EReal.bot_mul_coe_of_pos (inv_pos.2 hl2)]
  have htop : Ideal.div ⊤ ((Real.log 2 : ℝ) : EReal) = ⊤ := by
    unfold Ideal.div
    rw [if_neg hne, ← EReal.coe_inv, EReal.top_mul_coe_of_pos (inv_pos.2 hl2)]
  have hclipbot : min (((120 : ℝ)) : EReal) (max ((-126 : ℝ) : EReal) ⊥) = (((-126 : ℤ) : ℝ) : EReal) := by
    rw [max_eq_left bot_le, min_eq_right (by exact_mod_cast (by norm_num : (-126 : ℝ) ≤ 120))]; push_cast; rfl
  induction t using EReal.rec with
  | bot =>
    refine ⟨-126, le_refl _, by norm_num, ?_, hlow _ bot_le⟩
    unfold clipExp logExp
    rw [ofBits_120, ofBits_neg126, hlog2, show Ideal.log ⊥ = ⊥ from rfl, hbot, show Ideal.liftRound Int.floor ⊥ = ⊥ from rfl, EReal.bot_add, hclipbot]
  | top =>
    refine ⟨120, by norm_num, le_refl _, ?_, fun x hx => iff_of_true le_top (by omega)⟩
    unfold clipExp logExp
    rw [ofBits_120, ofBits_neg126, hlog2, show Ideal.log ⊤ = ⊤ from rfl, htop, show Ideal.liftRound Int.floor ⊤ = ⊤ from rfl,
      EReal.top_add_of_ne_bot (by decide), max_eq_right le_top, min_eq_left le_top]
    push_cast; rfl
  | coe r =>
    by_cases hr : r ≤ 0
    · refine ⟨-126, le_refl _, by norm_num, ?_, hlow _ (by exact_mod_cast hr)⟩
      unfold clipExp logExp
      rw [ofBits_120, ofBits_neg126, hlog2, show Ideal.log (r : EReal) = ⊥ from if_pos hr, hbot, show Ideal.liftRound Int.floor ⊥ = ⊥ from rfl, EReal.bot_add, hclipbot]
    · have hr' : 0 < r := not_le.1 hr
      have hkey : ∀ k : ℤ, ((2 : ℝ) ^ k ≤ r ↔ k ≤ ⌊Real.log r / Real.log 2⌋) := by
        intro k
        rw [Int.le_floor, le_div_iff₀ hl2, ← Real.log_zpow, Real.log_le_log_iff (zpow_pos (by norm_num) _) hr']
      have hval : logExp (r : EReal) = (((⌊Real.log r / Real.log 2⌋ + 1 : ℤ) : ℝ) : EReal) := by
        unfold logExp
        rw [hlog2, show Ideal.log (r : EReal) = ((Real.log r : ℝ) : EReal) from if_neg hr]
        unfold Ideal.div
        rw [if_neg hne, ← EReal.coe_inv, ← EReal.coe_mul, ← div_eq_mul_inv]
        show (((⌊Real.log r / Real.log 2⌋ : ℤ) : ℝ) : EReal) + 1 = _
        push_cast
        rfl
      refine ⟨min 120 (max (-126) (⌊Real.log r / Real.log 2⌋ + 1)), by omega, by omega, ?_, ?_⟩
      · unfold clipExp
        rw [ofBits_120, ofBits_neg126, hval]
        have hmono : Monotone Real.toEReal := EReal.coe_strictMono.monotone
        rw [← hmono.map_max, ← hmono.map_min]
        push_cast
        rfl
      · intro x hx
        rw [EReal.coe_le_coe_iff, hkey]
        omega

/-- The kernel's count of the powers of two at or below `t`, less 126, as the kernels compute it on words. -/
def countExp (t : EReal) : BitVec 32 :=
  IntOp.subi (Finset.fold IntOp.addi (0#32) (fun x : Fin 256 =>
    BitVec.setWidth 32 (IntOp.andi (IntOp.cmpi CmpIPredicate.sle (IntOp.addi (BitVec.ofNat 32 ↑x) 1#32) 246#32)
      (BitVec.ofBool (decide (Ideal.ofBits FTy.f32 (IntOp.shli ArithUnit.vector (IntOp.addi (BitVec.ofNat 32 ↑x) 1#32) 23#32) ≤ t)))))
    Finset.univ) 126#32

/-- The lanes that count: those under 246 whose power of two is at or below `t`. -/
theorem lane (t : EReal) (x : Fin 256) :
    (BitVec.setWidth 32 (IntOp.andi (IntOp.cmpi CmpIPredicate.sle (IntOp.addi (BitVec.ofNat 32 ↑x) 1#32) 246#32)
      (BitVec.ofBool (decide (Ideal.ofBits FTy.f32 (IntOp.shli ArithUnit.vector (IntOp.addi (BitVec.ofNat 32 ↑x) 1#32) 23#32) ≤ t))))).toNat
    = if (x : ℕ) < 246 ∧ (((2 : ℝ) ^ (((x : ℕ) : ℤ) - 126) : ℝ) : EReal) ≤ t then 1 else 0 := by
  have hadd : IntOp.addi (BitVec.ofNat 32 ↑x) 1#32 = BitVec.ofNat 32 (x + 1) := by
    show BitVec.ofNat 32 ↑x + BitVec.ofNat 32 1 = _
    rw [BitVec.ofNat_add]
  have hcmp : IntOp.cmpi CmpIPredicate.sle (BitVec.ofNat 32 ((x : ℕ) + 1)) 246#32 = BitVec.ofBool (decide ((x : ℕ) < 246)) := by
    revert x; intro x _; revert x; decide +kernel
  rw [hadd, hcmp]
  by_cases hx : (x : ℕ) < 246
  · have hsh : IntOp.shli ArithUnit.vector (BitVec.ofNat 32 ((x : ℕ) + 1)) 23#32 = (BitVec.ofNat 32 ((x : ℕ) + 1)) <<< 23 := by
      show (if (23#32).toNat < 32 then _ else _) = _
      rw [if_pos (by decide)]; rfl
    rw [hsh, ofBits_pow ((x : ℕ) + 1) (by omega) (by omega), show (((x : ℕ) + 1 : ℕ) : ℤ) - 127 = ((x : ℕ) : ℤ) - 126 by push_cast; ring]
    by_cases ht : (((2 : ℝ) ^ (((x : ℕ) : ℤ) - 126) : ℝ) : EReal) ≤ t
    · simp only [hx, ht, decide_true, and_self, if_true]; decide
    · simp only [hx, ht, decide_true, decide_false, and_false, if_false]; decide
  · simp only [hx, decide_false, false_and, if_false]
    cases decide (Ideal.ofBits FTy.f32 (IntOp.shli ArithUnit.vector (BitVec.ofNat 32 ((x : ℕ) + 1)) 23#32) ≤ t) <;> decide

/-- The count is the clipped exponent, as a word. -/
theorem countExp_eq (t : EReal) : ∃ n : ℕ, n ≤ 246 ∧ countExp t = BitVec.ofNat 32 n - 126#32
    ∧ clipExp t = ((((n : ℤ) - 126 : ℤ) : ℝ) : EReal) := by
  obtain ⟨e, h1, h2, h3, h4⟩ := exists_exp t
  have hs : (∑ x : Fin 256, (BitVec.setWidth 32 (IntOp.andi (IntOp.cmpi CmpIPredicate.sle (IntOp.addi (BitVec.ofNat 32 ↑x) 1#32) 246#32)
      (BitVec.ofBool (decide (Ideal.ofBits FTy.f32 (IntOp.shli ArithUnit.vector (IntOp.addi (BitVec.ofNat 32 ↑x) 1#32) 23#32) ≤ t))))).toNat)
      = (e + 126).toNat := by
    refine (Finset.sum_congr rfl fun x _ => (lane t x).trans ?_).trans (count_lt (e + 126).toNat (by omega))
    refine if_congr ?_ rfl rfl
    constructor
    · rintro ⟨hx, hle⟩
      have := (h4 x hx).1 hle
      omega
    · intro hlt
      have hx : (x : ℕ) < 246 := by omega
      exact ⟨hx, (h4 x hx).2 (by omega)⟩
  refine ⟨(e + 126).toNat, by omega, ?_, by rw [h3, show (((e + 126).toNat : ℤ) - 126) = e by omega]⟩
  unfold countExp
  rw [fold_addi, hs]
  rfl

/-- The kernel's exponent word: zero for an all-zero row, the count otherwise. -/
def kernelExp (a t : EReal) : BitVec 32 :=
  Scalar.select (IntOp.ori (BitVec.ofBool (decide (a = 0))) (BitVec.ofBool (decide (t = 0)))) (0#32) (countExp t)

/-- The reference's exponent: zero for an all-zero row, the clipped logarithm otherwise. -/
def refExp (a t : EReal) : EReal := if a = 0 then 0 else clipExp t

/-- Kernel and reference agree on the exponent: an integer between -126 and 120. -/
theorem kernelExp_eq (a : EReal) : ∃ n : ℕ, n ≤ 246 ∧ kernelExp a (a * Ideal.ofBits .f32 0x3B124925#32) = BitVec.ofNat 32 n - 126#32
    ∧ refExp a (a * Ideal.ofBits .f32 0x3B124925#32) = ((((n : ℤ) - 126 : ℤ) : ℝ) : EReal) := by
  by_cases ha : a = 0
  · refine ⟨126, by norm_num, ?_, ?_⟩
    · unfold kernelExp
      simp only [ha, decide_true]
      generalize decide ((0 : EReal) * Ideal.ofBits .f32 0x3B124925#32 = 0) = b
      unfold Scalar.select
      rw [if_pos (by cases b <;> decide)]
      decide
    · unfold refExp; rw [if_pos ha]; norm_num
  · have ht : a * Ideal.ofBits .f32 0x3B124925#32 ≠ 0 := by
      intro h
      rcases zero_eq_mul.mp h.symm with h | h
      · exact ha h
      · rw [ofBits_448] at h
        have : (9586981 * (2 : ℝ) ^ (-32 : ℤ) : ℝ) = 0 := by exact_mod_cast h
        norm_num at this
    obtain ⟨n, h1, h2, h3⟩ := countExp_eq (a * Ideal.ofBits .f32 0x3B124925#32)
    refine ⟨n, h1, ?_, ?_⟩
    · unfold kernelExp Scalar.select
      simp only [ha, ht, decide_false]
      rw [if_neg (by decide), h2]
    · unfold refExp; rw [if_neg ha, h3]

theorem exp2_int (e : ℤ) : Ideal.exp2 (((e : ℝ)) : EReal) = (((2 : ℝ) ^ e : ℝ) : EReal) := by
  exact congrArg Real.toEReal (Real.rpow_intCast 2 e)

theorem shli_23 (b : BitVec 32) : IntOp.shli ArithUnit.vector b 23#32 = b <<< 23 := by
  show (if (23#32).toNat < 32 then _ else _) = _
  rw [if_pos (by decide)]; rfl

/-- THE SCALE: the float the kernel assembles from its exponent is two to the reference's exponent. -/
theorem kernel_exp2 (a : EReal) :
    Ideal.ofBits .f32 (IntOp.shli ArithUnit.vector (IntOp.addi (kernelExp a (a * Ideal.ofBits .f32 0x3B124925#32)) 127#32) 23#32)
    = Ideal.exp2 (refExp a (a * Ideal.ofBits .f32 0x3B124925#32)) := by
  obtain ⟨n, h1, h2, h3⟩ := kernelExp_eq a
  rw [h2, h3, exp2_int, shli_23]
  have : IntOp.addi (BitVec.ofNat 32 n - 126#32) 127#32 = BitVec.ofNat 32 (n + 1) := by
    show BitVec.ofNat 32 n - 126#32 + 127#32 = _
    apply BitVec.eq_of_toNat_eq
    simp only [BitVec.toNat_add, BitVec.toNat_sub, BitVec.toNat_ofNat]
    omega
  rw [this, ofBits_pow (n + 1) (by omega) (by omega), show ((n + 1 : ℕ) : ℤ) - 127 = (n : ℤ) - 126 by push_cast; ring]

/-- THE INVERSE SCALE: the float assembled from the negated exponent is two to the reference's negated exponent. -/
theorem kernel_exp2_neg (a : EReal) :
    Ideal.ofBits .f32 (IntOp.shli ArithUnit.vector (IntOp.addi (IntOp.subi 0#32 (kernelExp a (a * Ideal.ofBits .f32 0x3B124925#32))) 127#32) 23#32)
    = Ideal.exp2 (0 - refExp a (a * Ideal.ofBits .f32 0x3B124925#32)) := by
  obtain ⟨n, h1, h2, h3⟩ := kernelExp_eq a
  have hs : (0 : EReal) - ((((n : ℤ) - 126 : ℤ) : ℝ) : EReal) = (((126 - (n : ℤ) : ℤ) : ℝ) : EReal) := by
    rw [← EReal.coe_zero, ← EReal.coe_sub]; refine congrArg Real.toEReal ?_; push_cast; ring
  rw [h2, h3, hs, exp2_int, shli_23]
  have : IntOp.addi (IntOp.subi 0#32 (BitVec.ofNat 32 n - 126#32)) 127#32 = BitVec.ofNat 32 (253 - n) := by
    show 0#32 - (BitVec.ofNat 32 n - 126#32) + 127#32 = _
    apply BitVec.eq_of_toNat_eq
    simp only [BitVec.toNat_add, BitVec.toNat_sub, BitVec.toNat_ofNat]
    omega
  rw [this, ofBits_pow (253 - n) (by omega) (by omega), show ((253 - n : ℕ) : ℤ) - 127 = 126 - (n : ℤ) by omega]

end Cert.Quantise

end
-- ==== Proof.OprojRefValue.lean ====
module

public import proofs.«01_k».proof.Proof.Gen.OprojRefIdeal.Frame
public import proofs.«01_k».proof.Proof.Quantise

@[expose] public section

set_option maxRecDepth 16384

noncomputable section

open Idealize.ShloMosaic Idealize.ShloMosaic.TcCoe Idealize.SL.Sem
open Idealize.ShloMosaic.Pipeline (Dat)

namespace Cert.OprojRefIdeal.Value

open Cert.OprojRefIdeal Cert.OprojRefIdeal.Gen

variable (m : (ℓ : Loc nD τ sig) → Buf (Elt Ideal) ℓ)

/-- Every window's block of the reference's one grid point is its whole array. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] :=
  (by decide +kernel : ∀ t : Fin grid0.N, _)

/-- A row's exponent before clipping, from its greatest magnitude `v`: the reference's lines. -/
def logLines (v : FVec Ideal S1024x1 .f32) : FVec Ideal S1024x1 .f32 :=
  addf (floor (divf (log (mulf v (broadcast S1024x1 (Scalar.ofBits .f32 0x3B124925#32)))) (log (broadcast S1024x1 (Scalar.ofBits .f32 0x40000000#32)))))
    (broadcast S1024x1 (Scalar.ofBits .f32 0x3F800000#32))

/-- Those lines at a row. -/
theorem logLines_at (v : FVec Ideal S1024x1 .f32) (R : Fin 1024) :
    logLines v (ix2 R 0) = Cert.Quantise.logExp (v (ix2 R 0) * Ideal.ofBits .f32 0x3B124925#32) := by
  unfold Cert.Quantise.logExp
  pointwise [logLines]

/-- The printed lines are those. -/
theorem pay7_eq (v0 v1 v2 v3 v5 v6) : k0_pay7 (F := Ideal) v0 v1 v2 v3 v5 v6 = logLines (k0_pay6 (F := Ideal) v0 v1 v2 v3 v5 v6) := by
  delta k0_pay7 logLines
  rfl

/-- The frame's name for the rows' greatest magnitudes is the payload of the blocks. -/
theorem pay8_eq (x0 x1 x2 x3 x4 x5) : k0_pay8 (F := Ideal) x0 x1 x2 x3 x4 x5 = k0_pay6 (F := Ideal) x0 x1 x2 x3 x4 x5 := by
  unfold k0_pay8
  simp (disch := decide) only [View.ld_unit_lit']

/-- The frame's name for the exponents before clipping is the payload of the blocks. -/
theorem pay9_eq (x0 x1 x2 x3 x4 x5) : k0_pay9 (F := Ideal) x0 x1 x2 x3 x4 x5 = logLines (k0_pay6 (F := Ideal) x0 x1 x2 x3 x4 x5) := by
  rw [← pay7_eq]
  unfold k0_pay9
  simp (disch := decide) only [View.ld_unit_lit']

/-- The scale at a row, from the greatest magnitude `a` and the exponent before clipping `e`. -/
theorem scale_at (a e : FVec Ideal S1024x1 .f32) (R : Fin 1024) : k0_pay2 (F := Ideal) a e (ix2 R 0)
    = Ideal.exp2 (if a (ix2 R 0) = 0 then 0 else min (Ideal.ofBits .f32 0x42F00000#32) (max (Ideal.ofBits .f32 0xC2FC0000#32) (e (ix2 R 0)))) := by
  pointwise [k0_pay2, k0_pay1]
  rfl

/-- A code, from the value `v`, the row's greatest magnitude `a` and the exponent before clipping `e`. -/
theorem code_at (v : FVec Ideal S1024x8192 .f32) (a e : FVec Ideal S1024x1 .f32) (R : Fin 1024) (l : Fin 8192) :
    k0_pay3 (F := Ideal) v a e (ix2 R l)
    = min (Ideal.ofBits .f32 0x43E00000#32) (max (Ideal.ofBits .f32 0xC3E00000#32) (v (ix2 R l) *
        Ideal.exp2 (0 - if a (ix2 R 0) = 0 then 0 else min (Ideal.ofBits .f32 0x42F00000#32) (max (Ideal.ofBits .f32 0xC2FC0000#32) (e (ix2 R 0)))))) := by
  pointwise [k0_pay3, k0_pay1]
  rfl

/-- The scale at a row is two to the clipped exponent of its greatest magnitude. -/
theorem scale_at' (a : FVec Ideal S1024x1 .f32) (R : Fin 1024) : k0_pay2 (F := Ideal) a (logLines a) (ix2 R 0)
    = Ideal.exp2 (Cert.Quantise.refExp (a (ix2 R 0)) (a (ix2 R 0) * Ideal.ofBits .f32 0x3B124925#32)) := by
  rw [scale_at, logLines_at]
  unfold Cert.Quantise.refExp Cert.Quantise.clipExp
  rfl

/-- A code is the value times two to the negated clipped exponent, clipped to ±448. -/
theorem code_at' (v : FVec Ideal S1024x8192 .f32) (a : FVec Ideal S1024x1 .f32) (R : Fin 1024) (l : Fin 8192) :
    k0_pay3 (F := Ideal) v a (logLines a) (ix2 R l)
    = min (Ideal.ofBits .f32 0x43E00000#32) (max (Ideal.ofBits .f32 0xC3E00000#32) (v (ix2 R l) *
        Ideal.exp2 (0 - Cert.Quantise.refExp (a (ix2 R 0)) (a (ix2 R 0) * Ideal.ofBits .f32 0x3B124925#32)))) := by
  rw [code_at, logLines_at]
  unfold Cert.Quantise.refExp Cert.Quantise.clipExp
  rfl

section
variable (ao : FVec Ideal S1024x1024 .fp8e4m3) (aos : FVec Ideal S1024x1 .f32) (w : FVec Ideal S1024x8192 .fp8e4m3)
  (s : FVec Ideal S8192 .f32) (x : FVec Ideal S1024x8192 .bf16) (g : FVec Ideal S8192 .bf16)

/-- The column scales as one row. -/
def rowS : FVec Ideal S1x8192 .f32 := shapeCast S1x8192 s (by decide)
/-- The norm's weights as one row. -/
def rowG : FVec Ideal S1x8192 .bf16 := shapeCast S1x8192 g (by decide)
/-- The residual the reference writes. -/
def REFr : FVec Ideal S1024x8192 .f32 := k0_pay4 ao aos w (rowS s) x
/-- The normalised rows that the reference quantises. -/
def REFv : FVec Ideal S1024x8192 .f32 := k0_pay5 ao aos w (rowS s) x (rowG g)
/-- Each normalised row's greatest magnitude. -/
def REFa : FVec Ideal S1024x1 .f32 := k0_pay6 ao aos w (rowS s) x (rowG g)
/-- The codes the reference writes. -/
def REFq : FVec Ideal S1024x8192 .fp8e4m3 := k0_pay3 (REFv ao aos w s x g) (REFa ao aos w s x g) (logLines (REFa ao aos w s x g))
/-- The row scales the reference writes. -/
def REFs : FVec Ideal S1024x1 .f32 := k0_pay2 (REFa ao aos w s x g) (logLines (REFa ao aos w s x g))

end

section
variable (c : Dev nD)

theorem blk0 : iblk m c 0 t0_0 = m ((c : Thread nD τ).loc main_arg0) := by blk_ext! [iblk, V, idx t0_0]
theorem blk1 : iblk m c 1 t0_0 = m ((c : Thread nD τ).loc main_arg1) := by blk_ext! [iblk, V, idx t0_0]
theorem blk2 : iblk m c 2 t0_0 = m ((c : Thread nD τ).loc main_arg2) := by blk_ext! [iblk, V, idx t0_0]
theorem blk4 : iblk m c 4 t0_0 = m ((c : Thread nD τ).loc main_arg4) := by blk_ext! [iblk, V, idx t0_0]
theorem blk3 : iblk m c 3 t0_0 = rowS (m ((c : Thread nD τ).loc main_arg3)) := by
  funext j
  unfold rowS
  blk_simp [iblk, idx t0_0]
  entry_read
  pointwise
  blk_ext [idx t0_0]
theorem blk5 : iblk m c 5 t0_0 = rowG (m ((c : Thread nD τ).loc main_arg5)) := by
  funext j
  unfold rowG
  blk_simp [iblk, idx t0_0]
  entry_read
  pointwise
  blk_ext [idx t0_0]

/-- The reference's residual array after its run. -/
theorem final6 : (dats m 0 c).arrAt 6 (cfgs 0).N
    = REFr (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_after_last 6 t0_0 (by decide +kernel) _ fun j => ?_
  blk_simp
  rw [after0_6]
  frame_out
  rw [blk0, blk1, blk2, blk3, blk4]
  rfl

/-- The reference's codes after its run. -/
theorem final7 : (dats m 0 c).arrAt 7 (cfgs 0).N
    = REFq (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_after_last 7 t0_0 (by decide +kernel) _ fun j => ?_
  blk_simp
  rw [after0_7]
  frame_out
  rw [blk0, blk1, blk2, blk3, blk4, blk5, pay8_eq, pay9_eq]
  unfold REFq REFv REFa
  rfl

/-- The reference's row scales after its run. -/
theorem final8 : (dats m 0 c).arrAt 8 (cfgs 0).N
    = REFs (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_after_last 8 t0_0 (by decide +kernel) _ fun j => ?_
  blk_simp
  rw [after0_8]
  frame_out
  rw [blk0, blk1, blk2, blk3, blk4, blk5, pay8_eq, pay9_eq]
  unfold REFs REFa
  rfl
end

/-- A row's greatest magnitude: the reference's lines. -/
def amax (v : FVec Ideal S1024x8192 .f32) : FVec Ideal S1024x1 .f32 :=
  shapeCast S1024x1 (multiReduction .maximumf [1] S1024 (absf v) 0xFF800000#32 reduces_S1024x8192_S1024 (.inl rfl) rfl) shapeCasts_S1024_S1024x1

theorem amax_at (v : FVec Ideal S1024x8192 .f32) (R : Fin 1024) : amax v (ix2 R 0)
    = Finset.fold max (Ideal.ofBits .f32 0xFF800000#32) (fun l : Fin 8192 => FloatOps.absf (F := Ideal) (φ := .f32) (v (ix2 R l))) Finset.univ := by
  pointwise [amax]

/-- The reference's greatest magnitudes are those lines of its normalised rows. -/
theorem REFa_eq (ao aos w s x g) : REFa ao aos w s x g = amax (REFv ao aos w s x g) := by
  delta REFa REFv k0_pay6 amax
  rfl

end Cert.OprojRefIdeal.Value

end
-- ==== Proof.OprojValue.lean ====
module

public import proofs.«01_k».proof.Proof.Gen.OprojIdeal.Frame
public import proofs.«01_k».proof.Proof.OprojRefValue

@[expose] public section

set_option maxRecDepth 16384

noncomputable section

open Idealize.ShloMosaic Idealize.ShloMosaic.TcCoe Idealize.SL.Sem
open Idealize.ShloMosaic.Pipeline (Dat)

namespace Cert.OprojIdeal.Value

open Cert.OprojIdeal Cert.OprojIdeal.Gen

variable (m : (ℓ : Loc nD τ sig) → Buf (Elt Ideal) ℓ)

/-- The block each window holds at grid point `t`: row block `t` of the activations and of the results, the weights whole. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![0, 0] ∧ win0_6.index t = ![t.val, 0]
    ∧ win0_7.index t = ![t.val, 0] ∧ win0_8.index t = ![t.val, 0] :=
  (by decide +kernel : ∀ t : Fin grid0.N, _)

/-! The quantiser's lines at a row of a block -/

/-- The greatest magnitudes times `f32(1/448)`. -/
def thr (a : FVec Ideal S128x1 .f32) : FVec Ideal S128x1 .f32 := mulf a (broadcast S128x1 (Scalar.ofBits .f32 0x3B124925#32))

theorem thr_at (a : FVec Ideal S128x1 .f32) (r : Fin 128) : thr a (ix2 r 0) = a (ix2 r 0) * Ideal.ofBits .f32 0x3B124925#32 := by
  pointwise [thr]

/-- The printed lines are those. -/
theorem pay4_eq (v0 v2 v3 v5 v8 v24) : k0_pay4 (F := Ideal) v0 v2 v3 v5 v8 v24 = thr (k0_pay3 (F := Ideal) v0 v2 v3 v5 v8 v24) := by
  delta k0_pay4 thr
  rfl

/-- The frame's name for the greatest magnitudes is the payload of the blocks. -/
theorem pay9_eq (x0 x1 x2 x3 x4 x5) : k0_pay9 (F := Ideal) x0 x1 x2 x3 x4 x5 = k0_pay3 (F := Ideal) x4 x0 x2 x1 x3 x5 := by
  unfold k0_pay9
  simp (disch := decide) only [View.ld_unit_lit']

/-- The frame's name for the scaled greatest magnitudes is the payload of the blocks. -/
theorem pay10_eq (x0 x1 x2 x3 x4 x5) : k0_pay10 (F := Ideal) x0 x1 x2 x3 x4 x5 = thr (k0_pay3 (F := Ideal) x4 x0 x2 x1 x3 x5) := by
  rw [← pay4_eq]
  unfold k0_pay10
  simp (disch := decide) only [View.ld_unit_lit']

/-- The frame's name for the lane numbers is the payload. -/
theorem pay11_eq (x0 x1 x2 x3 x4 x5) : k0_pay11 (F := Ideal) x0 x1 x2 x3 x4 x5 = k0_pay5 := rfl

/-- The scale at a row, assembled from the exponent word. -/
theorem scale_at (a t : FVec Ideal S128x1 .f32) (r : Fin 128) : k0_pay8 (F := Ideal) a t k0_pay5 (ix2 r 0)
    = Ideal.ofBits .f32 (IntOp.shli ArithUnit.vector (IntOp.addi (Cert.Quantise.kernelExp (a (ix2 r 0)) (t (ix2 r 0))) 127#32) 23#32) := by
  unfold Cert.Quantise.kernelExp Cert.Quantise.countExp
  pointwise [k0_pay8, k0_pay6, k0_pay5]

/-- A code: the value times the inverse scale assembled from the negated exponent word, clipped. -/
theorem code_at (v : FVec Ideal S128x8192 .f32) (a t : FVec Ideal S128x1 .f32) (r : Fin 128) (l : Fin 8192) :
    k0_pay7 (F := Ideal) v a t k0_pay5 (ix2 r l)
    = min (Ideal.ofBits .f32 0x43E00000#32) (max (Ideal.ofBits .f32 0xC3E00000#32) (v (ix2 r l) *
        Ideal.ofBits .f32 (IntOp.shli ArithUnit.vector (IntOp.addi (IntOp.subi 0#32 (Cert.Quantise.kernelExp (a (ix2 r 0)) (t (ix2 r 0)))) 127#32) 23#32))) := by
  unfold Cert.Quantise.kernelExp Cert.Quantise.countExp
  pointwise [k0_pay7, k0_pay6, k0_pay5]

/-- The scale at a row is two to the reference's clipped exponent. -/
theorem scale_at' (a : FVec Ideal S128x1 .f32) (r : Fin 128) : k0_pay8 (F := Ideal) a (thr a) k0_pay5 (ix2 r 0)
    = Ideal.exp2 (Cert.Quantise.refExp (a (ix2 r 0)) (a (ix2 r 0) * Ideal.ofBits .f32 0x3B124925#32)) := by
  rw [scale_at, thr_at, Cert.Quantise.kernel_exp2]

/-- A code is the value times two to the reference's negated exponent, clipped. -/
theorem code_at' (v : FVec Ideal S128x8192 .f32) (a : FVec Ideal S128x1 .f32) (r : Fin 128) (l : Fin 8192) :
    k0_pay7 (F := Ideal) v a (thr a) k0_pay5 (ix2 r l)
    = min (Ideal.ofBits .f32 0x43E00000#32) (max (Ideal.ofBits .f32 0xC3E00000#32) (v (ix2 r l) *
        Ideal.exp2 (0 - Cert.Quantise.refExp (a (ix2 r 0)) (a (ix2 r 0) * Ideal.ofBits .f32 0x3B124925#32)))) := by
  rw [code_at, thr_at, Cert.Quantise.kernel_exp2_neg]

/-- A row's greatest magnitude: the kernel's lines. -/
def amax (v : FVec Ideal S128x8192 .f32) : FVec Ideal S128x1 .f32 :=
  shapeCast S128x1 (multiReduction .maximumf [1] S128 (absf v) 0xFF800000#32 reduces_S128x8192_S128 (.inl rfl) rfl) shapeCasts_S128_S128x1

theorem amax_at (v : FVec Ideal S128x8192 .f32) (r : Fin 128) : amax v (ix2 r 0)
    = Finset.fold max (Ideal.ofBits .f32 0xFF800000#32) (fun l : Fin 8192 => FloatOps.absf (F := Ideal) (φ := .f32) (v (ix2 r l))) Finset.univ := by
  pointwise [amax]

/-- The printed greatest magnitudes are those lines of the normalised rows. -/
theorem pay3_eq (v0 v2 v3 v5 v8 v24) : k0_pay3 (F := Ideal) v0 v2 v3 v5 v8 v24 = amax (k0_pay2 (F := Ideal) v0 v2 v3 v5 v8 v24) := by
  delta k0_pay3 amax
  rfl

/-! Row `r` of block `t` is row `R = 128 t + r` of the arrays -/

section
variable (c : Dev nD) (t : Fin cfg0.N) (r : Fin 128) (R : Fin 1024) (hR : (R : ℕ) = t.val * 128 + r)
include hR

/-- The residual: the kernel's block at `(r, l)` is the reference at `(R, l)`. -/
theorem r_at (l : Fin 8192) :
    k0_pay1 (F := Ideal) (iblk m c 4 t) (iblk m c 0 t) (iblk m c 2 t) (iblk m c 1 t) (iblk m c 3 t) (ix2 r l)
    = Cert.OprojRefIdeal.Value.REFr (m ((c : Thread nD τ).loc main_arg0)) (m ((c : Thread nD τ).loc main_arg1)) (m ((c : Thread nD τ).loc main_arg2))
        (m ((c : Thread nD τ).loc main_arg3)) (m ((c : Thread nD τ).loc main_arg4)) (ix2 R l) := by
  pointwise [k0_pay1, Cert.OprojRefIdeal.Value.REFr, Cert.OprojRefIdeal.Value.rowS, Cert.OprojRefIdeal.Gen.k0_pay4]
  blk_point [iblk, V, idx t]

/-- The normalised rows: the kernel's block at `(r, l)` is the reference at `(R, l)`. -/
theorem v_at (l : Fin 8192) :
    k0_pay2 (F := Ideal) (iblk m c 4 t) (iblk m c 0 t) (iblk m c 2 t) (iblk m c 1 t) (iblk m c 3 t) (iblk m c 5 t) (ix2 r l)
    = Cert.OprojRefIdeal.Value.REFv (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (ix2 R l) := by
  pointwise [k0_pay2, k0_pay1, Cert.OprojRefIdeal.Value.REFv, Cert.OprojRefIdeal.Value.rowS, Cert.OprojRefIdeal.Value.rowG,
    Cert.OprojRefIdeal.Gen.k0_pay5, Cert.OprojRefIdeal.Gen.k0_pay4]
  blk_point [iblk, V, idx t]

/-- The greatest magnitude of the kernel's row `r` is that of the reference's row `R`. -/
theorem a_at : k0_pay3 (F := Ideal) (iblk m c 4 t) (iblk m c 0 t) (iblk m c 2 t) (iblk m c 1 t) (iblk m c 3 t) (iblk m c 5 t) (ix2 r 0)
    = Cert.OprojRefIdeal.Value.REFa (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 R 0) := by
  rw [pay3_eq, Cert.OprojRefIdeal.Value.REFa_eq, amax_at, Cert.OprojRefIdeal.Value.amax_at]
  exact Finset.fold_congr fun l _ => congrArg _ (v_at m c t r R hR l)

/-- The codes: the kernel's block at `(r, l)` is the reference at `(R, l)`. -/
theorem q_at (l : Fin 8192) :
    k0_pay7 (F := Ideal) (k0_pay2 (iblk m c 4 t) (iblk m c 0 t) (iblk m c 2 t) (iblk m c 1 t) (iblk m c 3 t) (iblk m c 5 t)) (k0_pay3 (iblk m c 4 t) (iblk m c 0 t) (iblk m c 2 t) (iblk m c 1 t) (iblk m c 3 t) (iblk m c 5 t)) (thr (k0_pay3 (iblk m c 4 t) (iblk m c 0 t) (iblk m c 2 t) (iblk m c 1 t) (iblk m c 3 t) (iblk m c 5 t))) k0_pay5 (ix2 r l)
    = Cert.OprojRefIdeal.Value.REFq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 R l) := by
  unfold Cert.OprojRefIdeal.Value.REFq
  rw [code_at', Cert.OprojRefIdeal.Value.code_at', a_at m c t r R hR, v_at m c t r R hR]

/-- The row scales: the kernel's block at row `r` is the reference at row `R`. -/
theorem s_at :
    k0_pay8 (F := Ideal) (k0_pay3 (iblk m c 4 t) (iblk m c 0 t) (iblk m c 2 t) (iblk m c 1 t) (iblk m c 3 t) (iblk m c 5 t)) (thr (k0_pay3 (iblk m c 4 t) (iblk m c 0 t) (iblk m c 2 t) (iblk m c 1 t) (iblk m c 3 t) (iblk m c 5 t))) k0_pay5 (ix2 r 0)
    = Cert.OprojRefIdeal.Value.REFs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 R 0) := by
  unfold Cert.OprojRefIdeal.Value.REFs
  rw [scale_at', Cert.OprojRefIdeal.Value.scale_at', a_at m c t r R hR]

end

/-- The kernel's residual array after its run is the reference's. -/
theorem final6 (c : Dev nD) : (dats m 0 c).arrAt 6 (cfgs 0).N = Cert.OprojRefIdeal.Value.REFr (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  frame_out
  idx_vars y
  obtain_idx i : S1024x8192 := [t.val * 128 + (y0 : ℕ), (y1 : ℕ)] with hi
  refine (r_at m c t y0 (i 0) hi0 y1).trans (congrArg _ ?_)
  blk_ext [idx t]

/-- The kernel's codes after its run are the reference's. -/
theorem final7 (c : Dev nD) : (dats m 0 c).arrAt 7 (cfgs 0).N = Cert.OprojRefIdeal.Value.REFq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7]
  frame_out
  rw [pay9_eq, pay10_eq, pay11_eq]
  idx_vars y
  obtain_idx i : S1024x8192 := [t.val * 128 + (y0 : ℕ), (y1 : ℕ)] with hi
  refine (q_at m c t y0 (i 0) hi0 y1).trans (congrArg _ ?_)
  blk_ext [idx t]

/-- The kernel's row scales after its run are the reference's. -/
theorem final8 (c : Dev nD) : (dats m 0 c).arrAt 8 (cfgs 0).N = Cert.OprojRefIdeal.Value.REFs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t _ y => ?_
  blk_simp
  rw [after0_8]
  frame_out
  rw [pay9_eq, pay10_eq, pay11_eq]
  idx_vars y
  obtain_idx i : S1024x1 := [t.val * 128 + (y0 : ℕ), (y1 : ℕ)] with hi
  obtain rfl : y1 = 0 := Subsingleton.elim _ _
  refine (s_at m c t y0 (i 0) hi0).trans (congrArg _ ?_)
  blk_ext [idx t]

end Cert.OprojIdeal.Value

end
-- ==== Proof.Attention.lean ====
module

public import Idealize.ShloMosaic.Lib.Pipeline.ValueKit

@[expose] public section

noncomputable section

open Idealize.ShloMosaic

namespace Cert.Attention

/-- The scaled score of key `s` against a query row, `-∞` where the mask is off. -/
def score (q : Fin 64 → EReal) (k : Fin 512 → Fin 64 → EReal) (M : Fin 512 → BitVec 1) (s : Fin 512) : EReal :=
  Scalar.select (M s) ((∑ d, q d * k s d) * Ideal.ofBits .f32 0x3E000000#32) (Ideal.ofBits .f32 0xFF800000#32)

/-- The exponential of a row's entry less the row's greatest. -/
def expLess (f : Fin 512 → EReal) (s : Fin 512) : EReal :=
  Ideal.exp (f s - Finset.fold max (Ideal.ofBits .f32 0xFF800000#32) f Finset.univ)

/-- The mean of `v` with weights `p`. -/
def mean (p v : Fin 512 → EReal) : EReal := ∑ s, Ideal.div (p s) (∑ s', p s') * v s

/-- One entry of a query row's attention: the values' mean, weighted by the exponentials of the scores. -/
def att (q : Fin 64 → EReal) (k : Fin 512 → Fin 64 → EReal) (v : Fin 512 → EReal) (M : Fin 512 → BitVec 1) : EReal :=
  mean (expLess (score q k M)) v

/-- The greatest of a row, folded from a start, is no less than the start. -/
theorem max_fold (b : EReal) (f : Fin 512 → EReal) : max b (Finset.fold max b f Finset.univ) = Finset.fold max b f Finset.univ :=
  max_eq_right (Finset.le_fold_max b |>.mpr (Or.inl le_rfl))

end Cert.Attention
-- ==== Proof.AttnRefValue.lean ====
module

public import proofs.«01_k».proof.Proof.Gen.AttnRefIdeal.Frame
public import proofs.«01_k».proof.Proof.Quantise
public import proofs.«01_k».proof.Proof.Attention
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AttnRefIdeal.Value

open Cert.AttnRefIdeal Cert.AttnRefIdeal.Gen

variable (m : (ℓ : Loc nD τ sig) → Buf (Elt Ideal) ℓ)

/-- Every window's block of the reference's one grid point is its whole array. -/
theorem idx : ∀ t : Fin cfg0.N, win0_0.index t = ![0, 0] ∧ win0_1.index t = ![0, 0] ∧ win0_2.index t = ![0, 0] :=
  (by decide +kernel : ∀ t : Fin grid0.N, _)

/-! The host lines before the region -/

/-- The causal mask over every batch and head. -/
def mask : IVec S2x16x512x512 1 :=
  broadcastInDim S2x16x512x512 ![2, 3] bcast_S512x512_S2x16x512x512_2_3 (cmpi .sle
    (broadcastInDim S512x512 ![0, 1] bcast_S1x512_S512x512_0_1 (broadcastInDim S1x512 ![1] bcast_S512_S1x512_1 (iotaInDim S512 32 0)))
    (broadcastInDim S512x512 ![0, 1] bcast_S512x1_S512x512_0_1 (broadcastInDim S512x1 ![0] bcast_S512_S512x1_0 (iotaInDim S512 32 0))))

/-- The masked and scaled scores. -/
def scores (Q : FVec Ideal S1024x1024 .bf16) (KV : FVec Ideal S1024x128 .bf16) (M : IVec S2x16x512x512 1) : FVec Ideal S2x16x512x512 .f32 :=
  select M (mulf (transpose S2x16x512x512 [0, 3, 2, 1] (Host.dotGeneral dot_S2x512x64_S2x512x16x64_S2x512x512x16_2_3_1_12_0_0 none
      (shapeCast S2x512x64 (extractStridedSlice S1024x64 ![0, 0] KV slices_S1024x128_S1024x64_0_0) shapeCasts_S1024x64_S2x512x64)
      (shapeCast S2x512x16x64 Q shapeCasts_S1024x1024_S2x512x16x64)) transposes_S2x512x512x16_S2x16x512x512_0_3_2_1)
      (broadcastInDim S2x16x512x512 ![] bcast_S_S2x16x512x512 (constant S_ .f32 0x3E000000#32)))
    (broadcastInDim S2x16x512x512 ![] bcast_S_S2x16x512x512 (constant S_ .f32 0xFF800000#32))

/-- Each row's greatest score. -/
def tops (s : FVec Ideal S2x16x512x512 .f32) : FVec Ideal S2x16x512 .f32 :=
  Host.reduce FloatOps.maximumf s (constant S_ .f32 0xFF800000#32) reducesTo_S2x16x512x512_S2x16x512_d3 h_S_

/-- The exponentials of the scores, each less its row's greatest. -/
def exps (s : FVec Ideal S2x16x512x512 .f32) (t : FVec Ideal S2x16x512 .f32) : FVec Ideal S2x16x512x512 .f32 :=
  Host.exp (subf s (broadcastInDim S2x16x512x512 ![0, 1, 2, 3] bcast_S2x16x512x1_S2x16x512x512_0_1_2_3
    (broadcastInDim S2x16x512x1 ![0, 1, 2] bcast_S2x16x512_S2x16x512x1_0_1_2
      (maximumf (broadcastInDim S2x16x512 ![] bcast_S_S2x16x512 (constant S_ .f32 0xFF800000#32)) t))))

/-- The exponentials over their row's sum, times the values, as rows of tokens. -/
def outs (KV : FVec Ideal S1024x128 .bf16) (p : FVec Ideal S2x16x512x512 .f32) : FVec Ideal S1024x1024 .f32 :=
  shapeCast S1024x1024 (transpose S2x512x16x64 [0, 3, 2, 1] (Host.dotGeneral dot_S2x512x64_S2x16x512x512_S2x64x16x512_1_3_2_12_0_0 none
    (shapeCast S2x512x64 (extractStridedSlice S1024x64 ![0, 64] KV slices_S1024x128_S1024x64_0_64) shapeCasts_S1024x64_S2x512x64)
    (truncf .bf16 (Host.divf p (broadcastInDim S2x16x512x512 ![0, 1, 2, 3] bcast_S2x16x512x1_S2x16x512x512_0_1_2_3
      (broadcastInDim S2x16x512x1 ![0, 1, 2] bcast_S2x16x512_S2x16x512x1_0_1_2
        (Host.reduceAdd p (constant S_ .f32 0x00000000#32) reducesTo_S2x16x512x512_S2x16x512_d3 h_S_)))) bitsLt_bf16_f32))
    transposes_S2x64x16x512_S2x512x16x64_0_3_2_1) shapeCasts_S2x512x16x64_S1024x1024

/-- The attention output that the reference quantises. -/
def REFo (Q : FVec Ideal S1024x1024 .bf16) (KV : FVec Ideal S1024x128 .bf16) : FVec Ideal S1024x1024 .f32 :=
  outs KV (exps (scores Q KV mask) (tops (scores Q KV mask)))

theorem mask_at (b : Fin 2) (h : Fin 16) (q s : Fin 512) :
    mask (ix4 b h q s) = IntOp.cmpi CmpIPredicate.sle (BitVec.ofNat 32 s) (BitVec.ofNat 32 q) := by
  pointwise [mask]

theorem scores_at (Q : FVec Ideal S1024x1024 .bf16) (KV : FVec Ideal S1024x128 .bf16) (M : IVec S2x16x512x512 1) (b : Fin 2) (h : Fin 16) (q s : Fin 512) :
    scores Q KV M (ix4 b h q s) = Cert.Attention.score (fun d => Q (ix2 ⟨b * 512 + q, by omega⟩ ⟨h * 64 + d, by omega⟩))
      (fun s d => KV (ix2 ⟨b * 512 + s, by omega⟩ ⟨d, by omega⟩)) (fun s => M (ix4 b h q s)) s := by
  unfold Cert.Attention.score
  pointwise [scores]
  simp only [mul_comm (KV _) (Q _)]

theorem tops_at (S : FVec Ideal S2x16x512x512 .f32) (b : Fin 2) (h : Fin 16) (q : Fin 512) :
    tops S (ix3 b h q) = Finset.fold max (Ideal.ofBits .f32 0xFF800000#32) (fun s => S (ix4 b h q s)) Finset.univ := by
  pointwise [tops]

theorem exps_at (S : FVec Ideal S2x16x512x512 .f32) (t : FVec Ideal S2x16x512 .f32) (b : Fin 2) (h : Fin 16) (q s : Fin 512) :
    exps S t (ix4 b h q s) = Ideal.exp (S (ix4 b h q s) - max (Ideal.ofBits .f32 0xFF800000#32) (t (ix3 b h q))) := by
  pointwise [exps]

theorem outs_at (KV : FVec Ideal S1024x128 .bf16) (p : FVec Ideal S2x16x512x512 .f32) (b : Fin 2) (h : Fin 16) (q : Fin 512) (d : Fin 64) :
    outs KV p (ix2 ⟨b * 512 + q, by omega⟩ ⟨h * 64 + d, by omega⟩) = Cert.Attention.mean (fun s => p (ix4 b h q s))
      (fun s => KV (ix2 ⟨b * 512 + s, by omega⟩ ⟨64 + d, by omega⟩)) := by
  unfold Cert.Attention.mean
  pointwise [outs]
  simp only [mul_comm (KV _)]

theorem V_eq (c : Dev nD) : V m c main_v32 = REFo (m ((c : Thread nD τ).loc main_arg0)) (m ((c : Thread nD τ).loc main_arg1)) := by
  entry_read
  rfl

theorem exps_row (S : FVec Ideal S2x16x512x512 .f32) (b : Fin 2) (h : Fin 16) (q s : Fin 512) :
    exps S (tops S) (ix4 b h q s) = Cert.Attention.expLess (fun s => S (ix4 b h q s)) s := by
  unfold Cert.Attention.expLess
  rw [exps_at, tops_at, Cert.Attention.max_fold]

/-- The reference's attention output at row `b·512 + q` and column `h·64 + d`. -/
theorem REFo_at (Q : FVec Ideal S1024x1024 .bf16) (KV : FVec Ideal S1024x128 .bf16) (b : Fin 2) (h : Fin 16) (q : Fin 512) (d : Fin 64) :
    REFo Q KV (ix2 ⟨b * 512 + q, by omega⟩ ⟨h * 64 + d, by omega⟩) = Cert.Attention.att
      (fun d => Q (ix2 ⟨b * 512 + q, by omega⟩ ⟨h * 64 + d, by omega⟩)) (fun s d => KV (ix2 ⟨b * 512 + s, by omega⟩ ⟨d, by omega⟩))
      (fun s => KV (ix2 ⟨b * 512 + s, by omega⟩ ⟨64 + d, by omega⟩))
      (fun s => IntOp.cmpi CmpIPredicate.sle (BitVec.ofNat 32 s) (BitVec.ofNat 32 q)) := by
  unfold REFo Cert.Attention.att
  rw [outs_at]
  simp only [exps_row, scores_at, mask_at]

/-! The quantiser's lines -/

/-- A row's greatest magnitude: the reference's lines. -/
def amax (v : FVec Ideal S1024x1024 .f32) : FVec Ideal S1024x1 .f32 :=
  shapeCast S1024x1 (multiReduction .maximumf [1] S1024 (absf (shapeCast S1024x1024 v shapeCasts_S1024x1024_S1024x1024)) 0xFF800000#32 reduces_S1024x1024_S1024 (.inl rfl) rfl) shapeCasts_S1024_S1024x1

theorem amax_at (v : FVec Ideal S1024x1024 .f32) (R : Fin 1024) : amax v (ix2 R 0)
    = Finset.fold max (Ideal.ofBits .f32 0xFF800000#32) (fun l : Fin 1024 => FloatOps.absf (F := Ideal) (φ := .f32) (v (ix2 R l))) Finset.univ := by
  pointwise [amax]

/-- A row's clipped exponent, from its greatest magnitude: the reference's lines. -/
def expLines (a : FVec Ideal S1024x1 .f32) : FVec Ideal S1024x1 .f32 :=
  select (cmpf .oeq a (broadcast S1024x1 (Scalar.ofBits .f32 0x00000000#32))) (broadcast S1024x1 (Scalar.ofBits .f32 0x00000000#32))
    (minimumf (broadcast S1024x1 (Scalar.ofBits .f32 0x42F00000#32)) (maximumf (broadcast S1024x1 (Scalar.ofBits .f32 0xC2FC0000#32))
      (addf (floor (divf (log (mulf a (broadcast S1024x1 (Scalar.ofBits .f32 0x3B124925#32)))) (log (broadcast S1024x1 (Scalar.ofBits .f32 0x40000000#32)))))
        (broadcast S1024x1 (Scalar.ofBits .f32 0x3F800000#32)))))

theorem expLines_at (a : FVec Ideal S1024x1 .f32) (R : Fin 1024) : expLines a (ix2 R 0)
    = Cert.Quantise.refExp (a (ix2 R 0)) (a (ix2 R 0) * Ideal.ofBits .f32 0x3B124925#32) := by
  unfold Cert.Quantise.refExp Cert.Quantise.clipExp Cert.Quantise.logExp
  pointwise [expLines]

/-- The printed exponents are those lines. -/
theorem pay2_eq (v) : k0_pay2 (F := Ideal) v = expLines (amax v) := by
  delta k0_pay2 k0_pay1 expLines amax
  rfl

/-- The scales' last line over any exponents. -/
def scaleLines (e : FVec Ideal S1024x1 .f32) : FVec Ideal S1024x1 .f32 := exp2 e

/-- The codes' lines over any exponents. -/
def codeLines (v : FVec Ideal S1024x1024 .f32) (e : FVec Ideal S1024x1 .f32) : FVec Ideal S1024x1024 .fp8e4m3 :=
  truncf .fp8e4m3 (minimumf (broadcast S1024x1024 (Scalar.ofBits .f32 0x43E00000#32)) (maximumf (broadcast S1024x1024 (Scalar.ofBits .f32 0xC3E00000#32))
    (mulf (shapeCast S1024x1024 v shapeCasts_S1024x1024_S1024x1024) (broadcastTo S1024x1024 (exp2 (subf (broadcast S1024x1 (Scalar.ofBits .f32 0x00000000#32)) e)) broadcasts_S1024x1_S1024x1024)))) bitsLt_fp8e4m3_f32

theorem scaleLines_at (e : FVec Ideal S1024x1 .f32) (R : Fin 1024) : scaleLines e (ix2 R 0) = Ideal.exp2 (e (ix2 R 0)) := by
  pointwise [scaleLines]
  rfl

theorem codeLines_at (v : FVec Ideal S1024x1024 .f32) (e : FVec Ideal S1024x1 .f32) (R l : Fin 1024) : codeLines v e (ix2 R l)
    = min (Ideal.ofBits .f32 0x43E00000#32) (max (Ideal.ofBits .f32 0xC3E00000#32) (v (ix2 R l) * Ideal.exp2 (0 - e (ix2 R 0)))) := by
  pointwise [codeLines]
  rfl

theorem pay3_eq (v) : k0_pay3 (F := Ideal) v = scaleLines (expLines (amax v)) := by
  rw [← pay2_eq]; delta k0_pay3 scaleLines; rfl
theorem pay4_eq (v) : k0_pay4 (F := Ideal) v = codeLines v (expLines (amax v)) := by
  rw [← pay2_eq]; delta k0_pay4 k0_pay1 codeLines; rfl

/-- The codes the reference writes. -/
def REFq (Q : FVec Ideal S1024x1024 .bf16) (KV : FVec Ideal S1024x128 .bf16) : FVec Ideal S1024x1024 .fp8e4m3 := codeLines (REFo Q KV) (expLines (amax (REFo Q KV)))
/-- The row scales the reference writes. -/
def REFs (Q : FVec Ideal S1024x1024 .bf16) (KV : FVec Ideal S1024x128 .bf16) : FVec Ideal S1024x1 .f32 := scaleLines (expLines (amax (REFo Q KV)))

/-- A code is the value times two to the negated clipped exponent, clipped to ±448. -/
theorem REFq_at (Q KV) (R l : Fin 1024) : REFq Q KV (ix2 R l)
    = min (Ideal.ofBits .f32 0x43E00000#32) (max (Ideal.ofBits .f32 0xC3E00000#32) (REFo Q KV (ix2 R l) *
        Ideal.exp2 (0 - Cert.Quantise.refExp (amax (REFo Q KV) (ix2 R 0)) (amax (REFo Q KV) (ix2 R 0) * Ideal.ofBits .f32 0x3B124925#32)))) := by
  unfold REFq
  rw [codeLines_at, expLines_at]

/-- The scale at a row is two to the clipped exponent of its greatest magnitude. -/
theorem REFs_at (Q KV) (R : Fin 1024) : REFs Q KV (ix2 R 0)
    = Ideal.exp2 (Cert.Quantise.refExp (amax (REFo Q KV) (ix2 R 0)) (amax (REFo Q KV) (ix2 R 0) * Ideal.ofBits .f32 0x3B124925#32)) := by
  unfold REFs
  rw [scaleLines_at, expLines_at]

section
variable (c : Dev nD)

theorem blk0 : iblk m c 0 t0_0 = REFo (m ((c : Thread nD τ).loc main_arg0)) (m ((c : Thread nD τ).loc main_arg1)) := by
  rw [← V_eq]
  blk_ext! [iblk, idx t0_0]

/-- The reference's codes after its run. -/
theorem final1 : (dats m 0 c).arrAt 1 (cfgs 0).N
    = REFq (m ((c : Thread nD τ).loc main_arg0)) (m ((c : Thread nD τ).loc main_arg1)) := by
  refine (dats m 0 c).arrAt_eq_of_after_last 1 t0_0 (by decide +kernel) _ fun j => ?_
  blk_simp
  rw [after0_1]
  frame_out
  rw [blk0, pay4_eq]
  rfl

/-- The reference's row scales after its run. -/
theorem final2 : (dats m 0 c).arrAt 2 (cfgs 0).N
    = REFs (m ((c : Thread nD τ).loc main_arg0)) (m ((c : Thread nD τ).loc main_arg1)) := by
  refine (dats m 0 c).arrAt_eq_of_after_last 2 t0_0 (by decide +kernel) _ fun j => ?_
  blk_simp
  rw [after0_2]
  frame_out
  rw [blk0, pay3_eq]
  rfl
end

end Cert.AttnRefIdeal.Value

end
-- ==== Proof.AttnValue.lean ====
module

public import proofs.«01_k».proof.Proof.Gen.AttnIdeal.Frame
public import proofs.«01_k».proof.Proof.AttnRefValue

@[expose] public section

set_option maxRecDepth 16384

noncomputable section

open Idealize.ShloMosaic Idealize.ShloMosaic.TcCoe Idealize.SL.Sem
open Idealize.ShloMosaic.Pipeline (Dat)

namespace Cert.AttnIdeal.Value

open Cert.AttnIdeal Cert.AttnIdeal.Gen

variable (m : (ℓ : Loc nD τ sig) → Buf (Elt Ideal) ℓ)

/-! One head's lines, over any rows -/

/-- A head's masked and scaled scores. -/
def headS (M : IVec S256x512 1) (k : FVec Ideal S512x64 .bf16) (q : FVec Ideal S256x64 .bf16) : FVec Ideal S256x512 .f32 :=
  select M (mulf (matmul dot_S256x64_S512x64_S256x512_1_1_0_0_n_n none q k (constant S256x512 .f32 0x00000000#32)) (broadcast S256x512 (Scalar.ofBits .f32 0x3E000000#32)))
    (broadcast S256x512 (Scalar.ofBits .f32 0xFF800000#32))

/-- The exponentials of the scores, each less its row's greatest. -/
def headP (s : FVec Ideal S256x512 .f32) : FVec Ideal S256x512 .f32 :=
  exp (subf s (broadcastTo S256x512 (shapeCast S256x1 (multiReduction .maximumf [1] S256 s 0xFF800000#32 reduces_S256x512_S256 (.inl rfl) rfl) shapeCasts_S256_S256x1) broadcasts_S256x1_S256x512))

/-- The exponentials over their row's sum, times the values. -/
def headO (v : FVec Ideal S512x64 .bf16) (p : FVec Ideal S256x512 .f32) : FVec Ideal S256x64 .f32 :=
  shapeCast S256x64 (matmul dot_S256x512_S512x64_S256x64_1_0_0_1_n_n none (truncf .bf16 (divf p (broadcastTo S256x512 (shapeCast S256x1 (multiReduction .add [1] S256 p 0x00000000#32 reduces_S256x512_S256 (.inl rfl) rfl) shapeCasts_S256_S256x1) broadcasts_S256x1_S256x512)) bitsLt_bf16_f32) v (constant S256x64 .f32 0x00000000#32)) shapeCasts_S256x64_S256x64

/-- A head. -/
def head (M : IVec S256x512 1) (k v : FVec Ideal S512x64 .bf16) (q : FVec Ideal S256x64 .bf16) : FVec Ideal S256x64 .f32 :=
  headO v (headP (headS M k q))

theorem headS_at (M : IVec S256x512 1) (k : FVec Ideal S512x64 .bf16) (q : FVec Ideal S256x64 .bf16) (r : Fin 256) (s : Fin 512) :
    headS M k q (ix2 r s) = Cert.Attention.score (fun d => q (ix2 r d)) (fun s d => k (ix2 s d)) (fun s => M (ix2 r s)) s := by
  unfold Cert.Attention.score
  pointwise [headS]

theorem headP_at (S : FVec Ideal S256x512 .f32) (r : Fin 256) (s : Fin 512) :
    headP S (ix2 r s) = Cert.Attention.expLess (fun s => S (ix2 r s)) s := by
  unfold Cert.Attention.expLess
  pointwise [headP]

theorem headO_at (v : FVec Ideal S512x64 .bf16) (p : FVec Ideal S256x512 .f32) (r : Fin 256) (d : Fin 64) :
    headO v p (ix2 r d) = Cert.Attention.mean (fun s => p (ix2 r s)) (fun s => v (ix2 s d)) := by
  unfold Cert.Attention.mean
  pointwise [headO]

/-- A head at a row and a column is the attention of that row. -/
theorem head_at (M : IVec S256x512 1) (k v : FVec Ideal S512x64 .bf16) (q : FVec Ideal S256x64 .bf16) (r : Fin 256) (d : Fin 64) :
    head M k v q (ix2 r d) = Cert.Attention.att (fun d => q (ix2 r d)) (fun s d => k (ix2 s d)) (fun s => v (ix2 s d)) (fun s => M (ix2 r s)) := by
  unfold head Cert.Attention.att
  rw [headO_at]
  simp only [headP_at, headS_at]

/-! The printed heads are those lines -/

theorem h0_eq (i k v q) : k0_pay5 (F := Ideal) i k v q = head (k0_pay4 i) k v q := by delta k0_pay5 head headO headP headS; rfl
theorem h1_eq (i k v q) : k0_pay8 (F := Ideal) v (k0_pay6 i k q) (k0_pay7 i k q) = head (k0_pay4 i) k v q := by delta k0_pay8 k0_pay7 k0_pay6 head headO headP headS; rfl
theorem h2_eq (M k v q) : k0_pay9 (F := Ideal) k v M q = head M k v q := by delta k0_pay9 head headO headP headS; rfl
theorem h3_eq (M k v q) : k0_pay11 (F := Ideal) v (k0_pay10 k M q) = head M k v q := by delta k0_pay11 k0_pay10 head headO headP headS; rfl
theorem h4_eq (M k v q) : k0_pay12 (F := Ideal) k v M q = head M k v q := by delta k0_pay12 head headO headP headS; rfl
theorem h5_eq (M k v q) : k0_pay15 (F := Ideal) v M (k0_pay13 k q) k0_pay14 = head M k v q := by delta k0_pay15 k0_pay14 k0_pay13 head headO headP headS; rfl
theorem h6_eq (M k v q) : k0_pay16 (F := Ideal) k v M q = head M k v q := by delta k0_pay16 head headO headP headS; rfl
theorem h7_eq (M k v q) : k0_pay18 (F := Ideal) v M (k0_pay17 k q) = head M k v q := by delta k0_pay18 k0_pay17 head headO headP headS; rfl
theorem h8_eq (M k v q) : k0_pay19 (F := Ideal) k v M q = head M k v q := by delta k0_pay19 head headO headP headS; rfl
theorem h9_eq (M k v q) : k0_pay21 (F := Ideal) v M (k0_pay20 k q) (FloatOps.ofBits .f32 0x3E000000#32) = head M k v q := by delta k0_pay21 k0_pay20 head headO headP headS; rfl
theorem h10_eq (M k v q) : k0_pay22 (F := Ideal) k v M q = head M k v q := by delta k0_pay22 head headO headP headS; rfl
theorem h11_eq (M k v q) : k0_pay23 (F := Ideal) k v M q (constant S256x512 .f32 0x00000000#32) = head M k v q := by delta k0_pay23 head headO headP headS; rfl
theorem h12_eq (M k v q) : k0_pay24 (F := Ideal) k v M q = head M k v q := by delta k0_pay24 head headO headP headS; rfl
theorem h13_eq (M k v q) : k0_pay25 (F := Ideal) k v M q = head M k v q := by delta k0_pay25 head headO headP headS; rfl
theorem h14_eq (M k v q) : k0_pay26 (F := Ideal) k v M q = head M k v q := by delta k0_pay26 head headO headP headS; rfl
theorem h15_eq (M k v q) : k0_pay27 (F := Ideal) k v M q = head M k v q := by delta k0_pay27 head headO headP headS; rfl

/-! The quantiser's lines -/

/-- A row's greatest magnitude: the kernel's lines. -/
def amax (v : FVec Ideal S256x1024 .f32) : FVec Ideal S256x1 .f32 :=
  shapeCast S256x1 (multiReduction .maximumf [1] S256 (absf v) 0xFF800000#32 reduces_S256x1024_S256 (.inl rfl) rfl) shapeCasts_S256_S256x1

theorem amax_at (v : FVec Ideal S256x1024 .f32) (r : Fin 256) : amax v (ix2 r 0)
    = Finset.fold max (Ideal.ofBits .f32 0xFF800000#32) (fun l : Fin 1024 => FloatOps.absf (F := Ideal) (φ := .f32) (v (ix2 r l))) Finset.univ := by
  pointwise [amax]

/-- The greatest magnitudes times `f32(1/448)`. -/
def thr (a : FVec Ideal S256x1 .f32) : FVec Ideal S256x1 .f32 := mulf a (broadcast S256x1 (Scalar.ofBits .f32 0x3B124925#32))

theorem thr_at (a : FVec Ideal S256x1 .f32) (r : Fin 256) : thr a (ix2 r 0) = a (ix2 r 0) * Ideal.ofBits .f32 0x3B124925#32 := by
  pointwise [thr]

/-- How many powers of two from `2^-126` on are no greater than each row's `t`: the kernel's lines. -/
def countLines (t : FVec Ideal S256x1 .f32) : IVec S256x1 32 :=
  shapeCast S256x1 (multiReductionI .add [1] S256 (extui 32 (andi (cmpi .sle (addi (iota .tc S256x256 32 [1] iota_S256x256_d1_w32) (broadcast S256x256 1#32)) (broadcast S256x256 246#32))
    (cmpf .oge (broadcastTo S256x256 t broadcasts_S256x1_S256x256)
      (bitcastToFloat .f32 (shli (addi (iota .tc S256x256 32 [1] iota_S256x256_d1_w32) (broadcast S256x256 1#32)) (broadcast S256x256 23#32))))) natLt_1_32) 0#32 reduces_S256x256_S256 rfl) shapeCasts_S256_S256x1

theorem pay28_eq (v) : k0_pay28 (F := Ideal) v = amax v := by delta k0_pay28 amax; rfl
theorem pay29_eq (v) : k0_pay29 (F := Ideal) v = thr (amax v) := by rw [← pay28_eq]; delta k0_pay29 thr; rfl
theorem pay30_eq (v) : k0_pay30 (F := Ideal) v = countLines (thr (amax v)) := by rw [← pay29_eq]; delta k0_pay30 countLines; rfl

/-- The scale at a row is two to the reference's clipped exponent. -/
theorem scale_at (a : FVec Ideal S256x1 .f32) (r : Fin 256) : k0_pay3 (F := Ideal) a (thr a) (countLines (thr a)) 126#32 (ix2 r 0)
    = Ideal.exp2 (Cert.Quantise.refExp (a (ix2 r 0)) (a (ix2 r 0) * Ideal.ofBits .f32 0x3B124925#32)) := by
  rw [← Cert.Quantise.kernel_exp2, ← thr_at]
  generalize thr a = t
  unfold Cert.Quantise.kernelExp Cert.Quantise.countExp
  pointwise [k0_pay3, k0_pay1, countLines]

/-- A code is the value times two to the reference's negated exponent, clipped. -/
theorem code_at (v : FVec Ideal S256x1024 .f32) (a : FVec Ideal S256x1 .f32) (r : Fin 256) (l : Fin 1024) :
    k0_pay2 (F := Ideal) v a (thr a) (countLines (thr a)) 126#32 (ix2 r l)
    = min (Ideal.ofBits .f32 0x43E00000#32) (max (Ideal.ofBits .f32 0xC3E00000#32) (v (ix2 r l) *
        Ideal.exp2 (0 - Cert.Quantise.refExp (a (ix2 r 0)) (a (ix2 r 0) * Ideal.ofBits .f32 0x3B124925#32)))) := by
  rw [← Cert.Quantise.kernel_exp2_neg, ← thr_at]
  generalize thr a = t
  unfold Cert.Quantise.kernelExp Cert.Quantise.countExp
  pointwise [k0_pay2, k0_pay1, countLines]

/-! A block's attention output, as the scratch holds it after the sixteen heads -/

/-- The block each window holds at grid point `t`: row block `t` of the queries and of the results, batch `t / 2` of the keys and values. -/
theorem idx : ∀ t : Fin cfg0.N, win0_0.index t = ![t.val, 0] ∧ win0_1.index t = ![t.val / 2, 0] ∧ win0_2.index t = ![t.val, 0]
    ∧ win0_3.index t = ![t.val, 0] :=
  (by decide +kernel : ∀ t : Fin grid0.N, _)

/-- The second grid coordinate. -/
theorem coord1 : ∀ t : Fin cfg0.N, ((grid0.coords t) 1).val = t.val % 2 :=
  (by decide +kernel : ∀ t : Fin grid0.N, _)

/-- The kernel's mask at a row and a key. -/
theorem mask_at (t : Fin cfg0.N) (r : Fin 256) (s : Fin 512) (q : Fin 512) (hq : (q : ℕ) = t.val % 2 * 256 + r) :
    k0_pay4 (grid0.coords t) (ix2 r s) = IntOp.cmpi CmpIPredicate.sle (BitVec.ofNat 32 s) (BitVec.ofNat 32 q) := by
  have h : BitVec.ofNat 32 (q : ℕ) = IntOp.addi (IntOp.muli (BitVec.ofNat 32 ((grid0.coords t) 1).val) 256#32) (BitVec.ofNat 32 r) := by
    rw [coord1, hq, BitVec.ofNat_add, BitVec.ofNat_mul]; rfl
  rw [h]
  pointwise [k0_pay4]
  rfl

/-- What the scratch holds after the sixteen heads' stores. -/
def O (c : Dev nD) (t : Fin cfg0.N) : FVec Ideal S256x1024 .f32 :=
  View.canon (Val := Elt Ideal) (s := S256x1024) (e := .f32) [⟨Rect.unit ![0, 960] ![256, 64] inb_S256x1024_S256x64_0_960, head (k0_pay4 (grid0.coords t)) (View.ld (iblk m c 1 t) (Rect.unit ![0, 0] ![512, 64] inb_S512x128_S512x64_0_0)) (View.ld (iblk m c 1 t) (Rect.unit ![0, 64] ![512, 64] inb_S512x128_S512x64_0_64)) (View.ld (iblk m c 0 t) (Rect.unit ![0, 960] ![256, 64] inb_S256x1024_S256x64_0_960))⟩,
    ⟨Rect.unit ![0, 896] ![256, 64] inb_S256x1024_S256x64_0_896, head (k0_pay4 (grid0.coords t)) (View.ld (iblk m c 1 t) (Rect.unit ![0, 0] ![512, 64] inb_S512x128_S512x64_0_0)) (View.ld (iblk m c 1 t) (Rect.unit ![0, 64] ![512, 64] inb_S512x128_S512x64_0_64)) (View.ld (iblk m c 0 t) (Rect.unit ![0, 896] ![256, 64] inb_S256x1024_S256x64_0_896))⟩,
    ⟨Rect.unit ![0, 832] ![256, 64] inb_S256x1024_S256x64_0_832, head (k0_pay4 (grid0.coords t)) (View.ld (iblk m c 1 t) (Rect.unit ![0, 0] ![512, 64] inb_S512x128_S512x64_0_0)) (View.ld (iblk m c 1 t) (Rect.unit ![0, 64] ![512, 64] inb_S512x128_S512x64_0_64)) (View.ld (iblk m c 0 t) (Rect.unit ![0, 832] ![256, 64] inb_S256x1024_S256x64_0_832))⟩,
    ⟨Rect.unit ![0, 768] ![256, 64] inb_S256x1024_S256x64_0_768, head (k0_pay4 (grid0.coords t)) (View.ld (iblk m c 1 t) (Rect.unit ![0, 0] ![512, 64] inb_S512x128_S512x64_0_0)) (View.ld (iblk m c 1 t) (Rect.unit ![0, 64] ![512, 64] inb_S512x128_S512x64_0_64)) (View.ld (iblk m c 0 t) (Rect.unit ![0, 768] ![256, 64] inb_S256x1024_S256x64_0_768))⟩,
    ⟨Rect.unit ![0, 704] ![256, 64] inb_S256x1024_S256x64_0_704, head (k0_pay4 (grid0.coords t)) (View.ld (iblk m c 1 t) (Rect.unit ![0, 0] ![512, 64] inb_S512x128_S512x64_0_0)) (View.ld (iblk m c 1 t) (Rect.unit ![0, 64] ![512, 64] inb_S512x128_S512x64_0_64)) (View.ld (iblk m c 0 t) (Rect.unit ![0, 704] ![256, 64] inb_S256x1024_S256x64_0_704))⟩,
    ⟨Rect.unit ![0, 640] ![256, 64] inb_S256x1024_S256x64_0_640, head (k0_pay4 (grid0.coords t)) (View.ld (iblk m c 1 t) (Rect.unit ![0, 0] ![512, 64] inb_S512x128_S512x64_0_0)) (View.ld (iblk m c 1 t) (Rect.unit ![0, 64] ![512, 64] inb_S512x128_S512x64_0_64)) (View.ld (iblk m c 0 t) (Rect.unit ![0, 640] ![256, 64] inb_S256x1024_S256x64_0_640))⟩,
    ⟨Rect.unit ![0, 576] ![256, 64] inb_S256x1024_S256x64_0_576, head (k0_pay4 (grid0.coords t)) (View.ld (iblk m c 1 t) (Rect.unit ![0, 0] ![512, 64] inb_S512x128_S512x64_0_0)) (View.ld (iblk m c 1 t) (Rect.unit ![0, 64] ![512, 64] inb_S512x128_S512x64_0_64)) (View.ld (iblk m c 0 t) (Rect.unit ![0, 576] ![256, 64] inb_S256x1024_S256x64_0_576))⟩,
    ⟨Rect.unit ![0, 512] ![256, 64] inb_S256x1024_S256x64_0_512, head (k0_pay4 (grid0.coords t)) (View.ld (iblk m c 1 t) (Rect.unit ![0, 0] ![512, 64] inb_S512x128_S512x64_0_0)) (View.ld (iblk m c 1 t) (Rect.unit ![0, 64] ![512, 64] inb_S512x128_S512x64_0_64)) (View.ld (iblk m c 0 t) (Rect.unit ![0, 512] ![256, 64] inb_S256x1024_S256x64_0_512))⟩,
    ⟨Rect.unit ![0, 448] ![256, 64] inb_S256x1024_S256x64_0_448, head (k0_pay4 (grid0.coords t)) (View.ld (iblk m c 1 t) (Rect.unit ![0, 0] ![512, 64] inb_S512x128_S512x64_0_0)) (View.ld (iblk m c 1 t) (Rect.unit ![0, 64] ![512, 64] inb_S512x128_S512x64_0_64)) (View.ld (iblk m c 0 t) (Rect.unit ![0, 448] ![256, 64] inb_S256x1024_S256x64_0_448))⟩,
    ⟨Rect.unit ![0, 384] ![256, 64] inb_S256x1024_S256x64_0_384, head (k0_pay4 (grid0.coords t)) (View.ld (iblk m c 1 t) (Rect.unit ![0, 0] ![512, 64] inb_S512x128_S512x64_0_0)) (View.ld (iblk m c 1 t) (Rect.unit ![0, 64] ![512, 64] inb_S512x128_S512x64_0_64)) (View.ld (iblk m c 0 t) (Rect.unit ![0, 384] ![256, 64] inb_S256x1024_S256x64_0_384))⟩,
    ⟨Rect.unit ![0, 320] ![256, 64] inb_S256x1024_S256x64_0_320, head (k0_pay4 (grid0.coords t)) (View.ld (iblk m c 1 t) (Rect.unit ![0, 0] ![512, 64] inb_S512x128_S512x64_0_0)) (View.ld (iblk m c 1 t) (Rect.unit ![0, 64] ![512, 64] inb_S512x128_S512x64_0_64)) (View.ld (iblk m c 0 t) (Rect.unit ![0, 320] ![256, 64] inb_S256x1024_S256x64_0_320))⟩,
    ⟨Rect.unit ![0, 256] ![256, 64] inb_S256x1024_S256x64_0_256, head (k0_pay4 (grid0.coords t)) (View.ld (iblk m c 1 t) (Rect.unit ![0, 0] ![512, 64] inb_S512x128_S512x64_0_0)) (View.ld (iblk m c 1 t) (Rect.unit ![0, 64] ![512, 64] inb_S512x128_S512x64_0_64)) (View.ld (iblk m c 0 t) (Rect.unit ![0, 256] ![256, 64] inb_S256x1024_S256x64_0_256))⟩,
    ⟨Rect.unit ![0, 192] ![256, 64] inb_S256x1024_S256x64_0_192, head (k0_pay4 (grid0.coords t)) (View.ld (iblk m c 1 t) (Rect.unit ![0, 0] ![512, 64] inb_S512x128_S512x64_0_0)) (View.ld (iblk m c 1 t) (Rect.unit ![0, 64] ![512, 64] inb_S512x128_S512x64_0_64)) (View.ld (iblk m c 0 t) (Rect.unit ![0, 192] ![256, 64] inb_S256x1024_S256x64_0_192))⟩,
    ⟨Rect.unit ![0, 128] ![256, 64] inb_S256x1024_S256x64_0_128, head (k0_pay4 (grid0.coords t)) (View.ld (iblk m c 1 t) (Rect.unit ![0, 0] ![512, 64] inb_S512x128_S512x64_0_0)) (View.ld (iblk m c 1 t) (Rect.unit ![0, 64] ![512, 64] inb_S512x128_S512x64_0_64)) (View.ld (iblk m c 0 t) (Rect.unit ![0, 128] ![256, 64] inb_S256x1024_S256x64_0_128))⟩,
    ⟨Rect.unit ![0, 64] ![256, 64] inb_S256x1024_S256x64_0_64, head (k0_pay4 (grid0.coords t)) (View.ld (iblk m c 1 t) (Rect.unit ![0, 0] ![512, 64] inb_S512x128_S512x64_0_0)) (View.ld (iblk m c 1 t) (Rect.unit ![0, 64] ![512, 64] inb_S512x128_S512x64_0_64)) (View.ld (iblk m c 0 t) (Rect.unit ![0, 64] ![256, 64] inb_S256x1024_S256x64_0_64))⟩,
    ⟨Rect.unit ![0, 0] ![256, 64] inb_S256x1024_S256x64_0_0, head (k0_pay4 (grid0.coords t)) (View.ld (iblk m c 1 t) (Rect.unit ![0, 0] ![512, 64] inb_S512x128_S512x64_0_0)) (View.ld (iblk m c 1 t) (Rect.unit ![0, 64] ![512, 64] inb_S512x128_S512x64_0_64)) (View.ld (iblk m c 0 t) (Rect.unit ![0, 0] ![256, 64] inb_S256x1024_S256x64_0_0))⟩]

/-- The load of the whole scratch reads every index at itself. -/
theorem whole_idx (z : S256x1024.Idx) : (Rect.unit (s := S256x1024) ![0, 0] S256x1024.size inb_S256x1024_S256x1024_0_0).toLoadRect.idx z = z := by
  funext a
  apply Fin.ext
  show (![0, 0] : Fin 2 → ℕ) a + 1 * (z a : ℕ) = (z a : ℕ)
  fin_cases a <;> simp

/-- What the body leaves in the row scales' block, from the scratch. -/
theorem scales_eq (c : Dev nD) (t : Fin cfg0.N) : (outsAt0 m c t).2 = k0_pay3 (amax (O m c t)) (thr (amax (O m c t))) (countLines (thr (amax (O m c t)))) 126#32 := by
  funext y
  unfold outsAt0
  frame_out
  simp only [pay30_eq, pay29_eq, pay28_eq]
  refine congrArg (fun o => k0_pay3 (amax o) (thr (amax o)) (countLines (thr (amax o))) 126#32 y) (?_ : _ = O m c t)
  funext z
  rw [View.readCov_eq_canon']
  unfold O
  simp only [h0_eq, h1_eq, h2_eq, h3_eq, h4_eq, h5_eq, h6_eq, h7_eq, h8_eq, h9_eq, h10_eq, h11_eq, h12_eq, h13_eq, h14_eq, h15_eq]
  exact congrArg _ (whole_idx z)

/-- A load of the queries' block from column `off` on, at `(r, d)`. -/
theorem ldQ_at (c : Dev nD) (t : Fin cfg0.N) (off : ℕ) (inb : ∀ a, (![0, off] : Fin 2 → ℕ) a + (![256, 64] : Fin 2 → ℕ) a ≤ S256x1024.size a)
    (r : Fin 256) (d : Fin 64) (R l : Fin 1024) (hR : (R : ℕ) = t.val * 256 + r) (hl : (l : ℕ) = off + d) :
    View.ld (Val := Elt Ideal) (S := S256x1024) (e' := .bf16) (iblk m c 0 t) (Rect.unit ![0, off] ![256, 64] inb) (ix2 r d) = m ((c : Thread nD τ).loc main_arg0) (ix2 R l) := by
  have hoff : off + 64 ≤ 1024 := by have := inb 1; simpa using this
  have he : (Rect.unit (s := ⟨2, ![256, 1024]⟩) ![0, off] ![256, 64] inb).emb (ix2 r d) = (ix2 r ⟨off + d, by omega⟩ : (⟨2, ![256, 1024]⟩ : Shape).Idx) := by
    funext a
    apply Fin.ext
    fin_cases a
    · show 0 + 1 * (r : ℕ) = r; omega
    · show off + 1 * (d : ℕ) = off + d; omega
  show iblk m c 0 t ((Rect.unit (s := ⟨2, ![256, 1024]⟩) ![0, off] ![256, 64] inb).emb (ix2 r d)) = _
  rw [he]
  blk_ext [iblk, V, idx t]

/-- A load of the keys' and values' block from column `off` on, at `(s, d)`. -/
theorem ldKV_at (c : Dev nD) (t : Fin cfg0.N) (off : ℕ) (inb : ∀ a, (![0, off] : Fin 2 → ℕ) a + (![512, 64] : Fin 2 → ℕ) a ≤ S512x128.size a)
    (s : Fin 512) (d : Fin 64) (S : Fin 1024) (l : Fin 128) (hS : (S : ℕ) = t.val / 2 * 512 + s) (hl : (l : ℕ) = off + d) :
    View.ld (Val := Elt Ideal) (S := S512x128) (e' := .bf16) (iblk m c 1 t) (Rect.unit ![0, off] ![512, 64] inb) (ix2 s d) = m ((c : Thread nD τ).loc main_arg1) (ix2 S l) := by
  have hoff : off + 64 ≤ 128 := by have := inb 1; simpa using this
  have he : (Rect.unit (s := ⟨2, ![512, 128]⟩) ![0, off] ![512, 64] inb).emb (ix2 s d) = (ix2 s ⟨off + d, by omega⟩ : (⟨2, ![512, 128]⟩ : Shape).Idx) := by
    funext a
    apply Fin.ext
    fin_cases a
    · show 0 + 1 * (s : ℕ) = s; omega
    · show off + 1 * (d : ℕ) = off + d; omega
  show iblk m c 1 t ((Rect.unit (s := ⟨2, ![512, 128]⟩) ![0, off] ![512, 64] inb).emb (ix2 s d)) = _
  rw [he]
  blk_ext [iblk, V, idx t]

/-- A head of the block, from column `off` of the queries on, is the attention of its row. -/
theorem piece (c : Dev nD) (t : Fin cfg0.N) (off : ℕ) (inb : ∀ a, (![0, off] : Fin 2 → ℕ) a + (![256, 64] : Fin 2 → ℕ) a ≤ S256x1024.size a) (x : S256x64.Idx)
    (b : Fin 2) (hh : Fin 16) (q : Fin 512) (d : Fin 64)
    (hb : (b : ℕ) = t.val / 2) (hq : (q : ℕ) = t.val % 2 * 256 + (x 0 : ℕ)) (ho : off = hh * 64) (hd : (d : ℕ) = x 1) :
    head (k0_pay4 (grid0.coords t)) (View.ld (Val := Elt Ideal) (S := S512x128) (e' := .bf16) (iblk m c 1 t) (Rect.unit ![0, 0] ![512, 64] inb_S512x128_S512x64_0_0))
      (View.ld (Val := Elt Ideal) (S := S512x128) (e' := .bf16) (iblk m c 1 t) (Rect.unit ![0, 64] ![512, 64] inb_S512x128_S512x64_0_64))
      (View.ld (Val := Elt Ideal) (S := S256x1024) (e' := .bf16) (iblk m c 0 t) (Rect.unit ![0, off] ![256, 64] inb)) x
    = Cert.Attention.att
      (fun d => m ((c : Thread nD τ).loc main_arg0) (ix2 ⟨b * 512 + q, by omega⟩ ⟨hh * 64 + d, by omega⟩))
      (fun s d => m ((c : Thread nD τ).loc main_arg1) (ix2 ⟨b * 512 + s, by omega⟩ ⟨d, by omega⟩))
      (fun s => m ((c : Thread nD τ).loc main_arg1) (ix2 ⟨b * 512 + s, by omega⟩ ⟨64 + d, by omega⟩))
      (fun s => IntOp.cmpi CmpIPredicate.sle (BitVec.ofNat 32 s) (BitVec.ofNat 32 q)) := by
  idx_vars x
  refine (head_at _ _ _ _ _ _).trans ?_
  have e1 : (fun d => View.ld (Val := Elt Ideal) (S := S256x1024) (e' := .bf16) (iblk m c 0 t) (Rect.unit ![0, off] ![256, 64] inb) (ix2 x0 d))
      = fun d : Fin 64 => m ((c : Thread nD τ).loc main_arg0) (ix2 ⟨b * 512 + q, by omega⟩ ⟨hh * 64 + d, by omega⟩) :=
    funext fun d => ldQ_at m c t off inb x0 d _ _ (by show (b : ℕ) * 512 + q = _; rw [hb, hq]; show _ = _ + ((x0 : Fin 256) : ℕ); have : ((ix2 x0 x1 : S256x64.Idx) 0 : ℕ) = x0 := rfl; omega) (by show (hh : ℕ) * 64 + d = _; rw [ho])
  have e2 : (fun (s : Fin 512) (d : Fin 64) => View.ld (Val := Elt Ideal) (S := S512x128) (e' := .bf16) (iblk m c 1 t) (Rect.unit ![0, 0] ![512, 64] inb_S512x128_S512x64_0_0) (ix2 s d))
      = fun (s : Fin 512) (d : Fin 64) => m ((c : Thread nD τ).loc main_arg1) (ix2 ⟨b * 512 + s, by omega⟩ ⟨d, by omega⟩) :=
    funext fun s => funext fun d => ldKV_at m c t 0 _ s d _ _ (by show (b : ℕ) * 512 + s = _; rw [hb]) (by show (d : ℕ) = _; omega)
  have e3 : (fun (s : Fin 512) => View.ld (Val := Elt Ideal) (S := S512x128) (e' := .bf16) (iblk m c 1 t) (Rect.unit ![0, 64] ![512, 64] inb_S512x128_S512x64_0_64) (ix2 s x1))
      = fun (s : Fin 512) => m ((c : Thread nD τ).loc main_arg1) (ix2 ⟨b * 512 + s, by omega⟩ ⟨64 + d, by omega⟩) :=
    funext fun s => ldKV_at m c t 64 _ s x1 _ _ (by show (b : ℕ) * 512 + s = _; rw [hb]) (by show 64 + (d : ℕ) = _; rw [hd]; rfl)
  have e4 : (fun (s : Fin 512) => k0_pay4 (grid0.coords t) (ix2 x0 s)) = fun s : Fin 512 => IntOp.cmpi CmpIPredicate.sle (BitVec.ofNat 32 s) (BitVec.ofNat 32 q) :=
    funext fun s => mask_at t x0 s q hq
  exact congr (congr (congr (congrArg Cert.Attention.att e1) e2) e3) e4

/-- The scratch at `(r, l)` is the reference's attention output at `(R, l)`. -/
theorem o_at (c : Dev nD) (t : Fin cfg0.N) (y : S256x1024.Idx) (b : Fin 2) (hh : Fin 16) (q : Fin 512) (d : Fin 64)
    (hb : (b : ℕ) = t.val / 2) (hq : (q : ℕ) = t.val % 2 * 256 + (y 0 : ℕ)) (hl : (y 1 : ℕ) = hh * 64 + d) :
    O m c t y = Cert.Attention.att
      (fun d => m ((c : Thread nD τ).loc main_arg0) (ix2 ⟨b * 512 + q, by omega⟩ ⟨hh * 64 + d, by omega⟩))
      (fun s d => m ((c : Thread nD τ).loc main_arg1) (ix2 ⟨b * 512 + s, by omega⟩ ⟨d, by omega⟩))
      (fun s => m ((c : Thread nD τ).loc main_arg1) (ix2 ⟨b * 512 + s, by omega⟩ ⟨64 + d, by omega⟩))
      (fun s => IntOp.cmpi CmpIPredicate.sle (BitVec.ofNat 32 s) (BitVec.ofNat 32 q)) := by
  unfold O
  have hd := d.isLt
  canon_tiles x h
  all_goals
    first
      | (refine piece m c t _ _ x b hh q d hb (by omega) (by omega) (by omega))
      | (exfalso; omega)

/-- The scratch's entry that the reference quantises at `(R, l)`. -/
theorem O_at (c : Dev nD) (t : Fin cfg0.N) (r : Fin 256) (l R : Fin 1024) (hR : (R : ℕ) = t.val * 256 + r) :
    O m c t (ix2 r l) = Cert.AttnRefIdeal.Value.REFo (m ((c : Thread nD τ).loc main_arg0)) (m ((c : Thread nD τ).loc main_arg1)) (ix2 R l) := by
  have ht : t.val < 4 := lt_of_lt_of_eq t.isLt N_0
  have h := Cert.AttnRefIdeal.Value.REFo_at (m ((c : Thread nD τ).loc main_arg0)) (m ((c : Thread nD τ).loc main_arg1))
    ⟨t.val / 2, by omega⟩ ⟨l.val / 64, by omega⟩ ⟨t.val % 2 * 256 + r, by omega⟩ ⟨l.val % 64, by omega⟩
  refine (o_at m c t (ix2 r l) ⟨t.val / 2, by omega⟩ ⟨l.val / 64, by omega⟩ ⟨t.val % 2 * 256 + r, by omega⟩ ⟨l.val % 64, by omega⟩ rfl rfl ?_).trans (h.symm.trans ?_)
  · show (l : ℕ) = l.val / 64 * 64 + l.val % 64; omega
  · congr 1
    refine congrArg₂ _ (Fin.ext ?_) (Fin.ext ?_)
    · show t.val / 2 * 512 + (t.val % 2 * 256 + r.val) = R.val; omega
    · show l.val / 64 * 64 + l.val % 64 = l.val; omega

/-- The greatest magnitude of the scratch's row `r` is that of the reference's row `R`. -/
theorem a_at (c : Dev nD) (t : Fin cfg0.N) (r : Fin 256) (R : Fin 1024) (hR : (R : ℕ) = t.val * 256 + r) :
    amax (O m c t) (ix2 r 0) = Cert.AttnRefIdeal.Value.amax (Cert.AttnRefIdeal.Value.REFo (m ((c : Thread nD τ).loc main_arg0)) (m ((c : Thread nD τ).loc main_arg1))) (ix2 R 0) := by
  rw [amax_at, Cert.AttnRefIdeal.Value.amax_at]
  exact Finset.fold_congr fun l _ => congrArg _ (O_at m c t r l R hR)

/-- What the body leaves in the codes' block, from the scratch. -/
theorem codes_eq (c : Dev nD) (t : Fin cfg0.N) :
    (outsAt0 m c t).1 = k0_pay2 (O m c t) (amax (O m c t)) (thr (amax (O m c t))) (countLines (thr (amax (O m c t)))) 126#32 := by
  funext y
  unfold outsAt0
  frame_out
  simp only [pay30_eq, pay29_eq, pay28_eq]
  refine congrArg (fun o => k0_pay2 o (amax o) (thr (amax o)) (countLines (thr (amax o))) 126#32 y) (?_ : _ = O m c t)
  funext z
  rw [View.readCov_eq_canon']
  unfold O
  simp only [h0_eq, h1_eq, h2_eq, h3_eq, h4_eq, h5_eq, h6_eq, h7_eq, h8_eq, h9_eq, h10_eq, h11_eq, h12_eq, h13_eq, h14_eq, h15_eq]
  exact congrArg _ (whole_idx z)

/-- The kernel's codes after its run are the reference's. -/
theorem final2 (c : Dev nD) : (dats m 0 c).arrAt 2 (cfgs 0).N
    = Cert.AttnRefIdeal.Value.REFq (m ((c : Thread nD τ).loc main_arg0)) (m ((c : Thread nD τ).loc main_arg1)) := by
  refine (dats m 0 c).arrAt_eq_of_covers 2 _ (by decide +kernel) fun t _ y => ?_
  blk_simp
  rw [after0_2, codes_eq]
  idx_vars y
  have ht : t.val < 4 := lt_of_lt_of_eq t.isLt N_0
  obtain ⟨R, hR⟩ : ∃ R : Fin 1024, (R : ℕ) = t.val * 256 + y0 := ⟨⟨t.val * 256 + y0, by omega⟩, rfl⟩
  have h : k0_pay2 (F := Ideal) (O m c t) (amax (O m c t)) (thr (amax (O m c t))) (countLines (thr (amax (O m c t)))) 126#32 (ix2 y0 y1)
      = Cert.AttnRefIdeal.Value.REFq (m ((c : Thread nD τ).loc main_arg0)) (m ((c : Thread nD τ).loc main_arg1)) (ix2 R y1) := by
    rw [code_at, Cert.AttnRefIdeal.Value.REFq_at, O_at m c t y0 y1 R hR, a_at m c t y0 R hR]
  refine h.trans (congrArg _ ?_)
  blk_ext! [idx t]

/-- The kernel's row scales after its run are the reference's. -/
theorem final3 (c : Dev nD) : (dats m 0 c).arrAt 3 (cfgs 0).N
    = Cert.AttnRefIdeal.Value.REFs (m ((c : Thread nD τ).loc main_arg0)) (m ((c : Thread nD τ).loc main_arg1)) := by
  refine (dats m 0 c).arrAt_eq_of_covers 3 _ (by decide +kernel) fun t _ y => ?_
  blk_simp
  rw [after0_3, scales_eq]
  idx_vars y
  have ht : t.val < 4 := lt_of_lt_of_eq t.isLt N_0
  obtain ⟨R, hR⟩ : ∃ R : Fin 1024, (R : ℕ) = t.val * 256 + y0 := ⟨⟨t.val * 256 + y0, by omega⟩, rfl⟩
  obtain rfl : y1 = 0 := Subsingleton.elim _ _
  have h : k0_pay3 (F := Ideal) (amax (O m c t)) (thr (amax (O m c t))) (countLines (thr (amax (O m c t)))) 126#32 (ix2 y0 0)
      = Cert.AttnRefIdeal.Value.REFs (m ((c : Thread nD τ).loc main_arg0)) (m ((c : Thread nD τ).loc main_arg1)) (ix2 R 0) := by
    rw [scale_at, Cert.AttnRefIdeal.Value.REFs_at, a_at m c t y0 R hR]
  refine h.trans (congrArg _ ?_)
  blk_ext! [idx t]

end Cert.AttnIdeal.Value

end
-- ==== Proof.QkvRefValue.lean ====
module

public import proofs.«01_k».proof.Proof.Gen.QkvRefIdeal.Frame
public import proofs.«01_k».proof.Proof.Quantise

@[expose] public section

set_option maxRecDepth 16384

noncomputable section

open Idealize.ShloMosaic Idealize.ShloMosaic.TcCoe Idealize.SL.Sem
open Idealize.ShloMosaic.Pipeline (Dat)

namespace Cert.QkvRefIdeal.Value

open Cert.QkvRefIdeal Cert.QkvRefIdeal.Gen

variable (m : (ℓ : Loc nD τ sig) → Buf (Elt Ideal) ℓ)

/-- Every window's block of the reference's one grid point is its whole array. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] :=
  (by decide +kernel : ∀ t : Fin grid0.N, _)

/-- The constant one of the exponent's lines. -/
def one : Ideal .f32 := Scalar.ofBits .f32 0x3F800000#32

theorem one_def : one = Scalar.ofBits .f32 0x3F800000#32 := rfl

/-- A row's greatest magnitude: the reference's lines. -/
def amax (v : FVec Ideal S1024x8192 .f32) : FVec Ideal S1024x1 .f32 :=
  shapeCast S1024x1 (multiReduction .maximumf [1] S1024 (absf v) 0xFF800000#32 reduces_S1024x8192_S1024 (.inl rfl) rfl) shapeCasts_S1024_S1024x1

/-- Those lines at a row. -/
theorem amax_at (v : FVec Ideal S1024x8192 .f32) (R : Fin 1024) : amax v (ix2 R 0)
    = Finset.fold max (Ideal.ofBits .f32 0xFF800000#32) (fun l : Fin 8192 => FloatOps.absf (F := Ideal) (φ := .f32) (v (ix2 R l))) Finset.univ := by
  pointwise [amax]

/-- The whole part of a row's binary logarithm, from its greatest magnitude `v`: the reference's lines. -/
def floorLines (v : FVec Ideal S1024x1 .f32) : FVec Ideal S1024x1 .f32 :=
  floor (divf (log (mulf v (broadcast S1024x1 (Scalar.ofBits .f32 0x3B124925#32)))) (log (broadcast S1024x1 (Scalar.ofBits .f32 0x40000000#32))))

/-- One more than those lines at a row is the exponent before clipping. -/
theorem floorLines_at (v : FVec Ideal S1024x1 .f32) (R : Fin 1024) :
    FloatOps.addf (F := Ideal) (φ := .f32) (floorLines v (ix2 R 0)) one = Cert.Quantise.logExp (v (ix2 R 0) * Ideal.ofBits .f32 0x3B124925#32) := by
  unfold Cert.Quantise.logExp one
  pointwise [floorLines]

/-- The printed greatest magnitudes are `amax` of the normalised rows. -/
theorem pay5_eq (v0 v2) : k0_pay5 (F := Ideal) v0 v2 = amax (k0_pay4 (F := Ideal) v0 v2) := by
  delta k0_pay5 amax
  rfl

/-- The printed logarithms are `floorLines` of the greatest magnitudes. -/
theorem pay6_eq (v0 v2) : k0_pay6 (F := Ideal) v0 v2 = floorLines (amax (k0_pay4 (F := Ideal) v0 v2)) := by
  rw [← pay5_eq]
  delta k0_pay6 floorLines
  rfl

/-- The frame's name for the normalised rows is the payload of the blocks. -/
theorem pay13_eq (x0 x1 x2 x3 x4 x5 x6 x7) : k0_pay13 (F := Ideal) x0 x1 x2 x3 x4 x5 x6 x7 = k0_pay4 (F := Ideal) x0 x1 := by
  unfold k0_pay13
  simp (disch := decide) only [View.ld_unit_lit']

/-- The frame's name for the greatest magnitudes is the payload of the blocks. -/
theorem pay14_eq (x0 x1 x2 x3 x4 x5 x6 x7) : k0_pay14 (F := Ideal) x0 x1 x2 x3 x4 x5 x6 x7 = amax (k0_pay4 (F := Ideal) x0 x1) := by
  rw [← pay5_eq]
  unfold k0_pay14
  simp (disch := decide) only [View.ld_unit_lit']

/-- The frame's name for the logarithms is the payload of the blocks. -/
theorem pay15_eq (x0 x1 x2 x3 x4 x5 x6 x7) : k0_pay15 (F := Ideal) x0 x1 x2 x3 x4 x5 x6 x7 = floorLines (amax (k0_pay4 (F := Ideal) x0 x1)) := by
  rw [← pay6_eq]
  unfold k0_pay15
  simp (disch := decide) only [View.ld_unit_lit']

/-- The scale at a row, from the greatest magnitude `a` and the logarithm `e`. -/
theorem scale_at (a e : FVec Ideal S1024x1 .f32) (R : Fin 1024) : k0_pay8 (F := Ideal) a e one (ix2 R 0)
    = Ideal.exp2 (if a (ix2 R 0) = 0 then 0 else min (Ideal.ofBits .f32 0x42F00000#32) (max (Ideal.ofBits .f32 0xC2FC0000#32) (FloatOps.addf (F := Ideal) (φ := .f32) (e (ix2 R 0)) one))) := by
  pointwise [k0_pay8, k0_pay7]
  rfl

/-- A code, from the value `v`, the row's greatest magnitude `a` and the logarithm `e`. -/
theorem code_at (v : FVec Ideal S1024x8192 .f32) (a e : FVec Ideal S1024x1 .f32) (R : Fin 1024) (l : Fin 8192) :
    k0_pay9 (F := Ideal) v a e one (ix2 R l)
    = min (Ideal.ofBits .f32 0x43E00000#32) (max (Ideal.ofBits .f32 0xC3E00000#32) (v (ix2 R l) *
        Ideal.exp2 (0 - if a (ix2 R 0) = 0 then 0 else min (Ideal.ofBits .f32 0x42F00000#32) (max (Ideal.ofBits .f32 0xC2FC0000#32) (FloatOps.addf (F := Ideal) (φ := .f32) (e (ix2 R 0)) one))))) := by
  pointwise [k0_pay9, k0_pay7]
  rfl

/-- The scale at a row is two to the clipped exponent of its greatest magnitude. -/
theorem scale_at' (a : FVec Ideal S1024x1 .f32) (R : Fin 1024) : k0_pay8 (F := Ideal) a (floorLines a) one (ix2 R 0)
    = Ideal.exp2 (Cert.Quantise.refExp (a (ix2 R 0)) (a (ix2 R 0) * Ideal.ofBits .f32 0x3B124925#32)) := by
  rw [scale_at, floorLines_at]
  unfold Cert.Quantise.refExp Cert.Quantise.clipExp
  rfl

/-- A code is the value times two to the negated clipped exponent, clipped to ±448. -/
theorem code_at' (v : FVec Ideal S1024x8192 .f32) (a : FVec Ideal S1024x1 .f32) (R : Fin 1024) (l : Fin 8192) :
    k0_pay9 (F := Ideal) v a (floorLines a) one (ix2 R l)
    = min (Ideal.ofBits .f32 0x43E00000#32) (max (Ideal.ofBits .f32 0xC3E00000#32) (v (ix2 R l) *
        Ideal.exp2 (0 - Cert.Quantise.refExp (a (ix2 R 0)) (a (ix2 R 0) * Ideal.ofBits .f32 0x3B124925#32)))) := by
  rw [code_at, floorLines_at]
  unfold Cert.Quantise.refExp Cert.Quantise.clipExp
  rfl

section
variable (x : FVec Ideal S2x512x8192 .bf16) (g : FVec Ideal S8192 .bf16)

/-- The input's rows. -/
def rowsX : FVec Ideal S1024x8192 .bf16 := shapeCast S1024x8192 x (by decide)
/-- The norm's weights as one row. -/
def rowG : FVec Ideal S1x8192 .bf16 := shapeCast S1x8192 g (by decide)
/-- The query weights' scales as one row. -/
def rowSq (s : FVec Ideal S1024 .f32) : FVec Ideal S1x1024 .f32 := shapeCast S1x1024 s (by decide)
/-- The key or value weights' scales as one row. -/
def rowSk (s : FVec Ideal S64 .f32) : FVec Ideal S1x64 .f32 := shapeCast S1x64 s (by decide)
/-- The normalised rows that the reference quantises. -/
def REFv : FVec Ideal S1024x8192 .f32 := k0_pay4 (rowsX x) (rowG g)
/-- Each normalised row's greatest magnitude. -/
def REFa : FVec Ideal S1024x1 .f32 := amax (REFv x g)
/-- The codes the reference writes. -/
def REFq : FVec Ideal S1024x8192 .fp8e4m3 := k0_pay9 (REFv x g) (REFa x g) (floorLines (REFa x g)) one
/-- The row scales the reference writes. -/
def REFs : FVec Ideal S1024x1 .f32 := k0_pay8 (REFa x g) (floorLines (REFa x g)) one
end

/-- The product of codes `q` with weights `w` of `1024` columns, times the row scales and the column scales. -/
def linear (q : FVec Ideal S1024x8192 .fp8e4m3) (a : FVec Ideal S1024x1 .f32) (w : FVec Ideal S8192x1024 .fp8e4m3) (s : FVec Ideal S1x1024 .f32) : FVec Ideal S1024x1024 .f32 :=
  mulf (mulf (matmul dot_S1024x8192_S8192x1024_S1024x1024_1_0_0_1_n_n none q w (constant S1024x1024 .f32 0x00000000#32))
    (broadcastTo S1024x1024 a broadcasts_S1024x1_S1024x1024)) (broadcastTo S1024x1024 s broadcasts_S1x1024_S1024x1024)

/-- That product at an index. -/
theorem linear_at (q a w s) (R n : Fin 1024) : linear q a w s (ix2 R n)
    = (∑ l : Fin 8192, q (ix2 R l) * w (ix2 l n)) * a (ix2 R 0) * s (ix2 0 n) := by
  pointwise [linear]

/-- The product of codes `q` with weights `w` of `64` columns, times the row scales and the column scales. -/
def linear64 (q : FVec Ideal S1024x8192 .fp8e4m3) (a : FVec Ideal S1024x1 .f32) (w : FVec Ideal S8192x64 .fp8e4m3) (s : FVec Ideal S1x64 .f32) : FVec Ideal S1024x64 .f32 :=
  mulf (mulf (matmul dot_S1024x8192_S8192x64_S1024x64_1_0_0_1_n_n none q w (constant S1024x64 .f32 0x00000000#32))
    (broadcastTo S1024x64 a broadcasts_S1024x1_S1024x64)) (broadcastTo S1024x64 s broadcasts_S1x64_S1024x64)

/-- That product at an index. -/
theorem linear64_at (q a w s) (R : Fin 1024) (n : Fin 64) : linear64 q a w s (ix2 R n)
    = (∑ l : Fin 8192, q (ix2 R l) * w (ix2 l n)) * a (ix2 R 0) * s (ix2 0 n) := by
  pointwise [linear64]

theorem pay10_eq (w : FVec Ideal S8192x1024 .fp8e4m3) (s : FVec Ideal S1x1024 .f32) (v a e) : k0_pay10 (F := Ideal) w (k0_pay1 s) v a e one = linear (k0_pay9 v a e one) (k0_pay8 a e one) w s := by
  have h : k0_pay1 s = s := by funext i; pointwise [k0_pay1]
  rw [h]
  delta k0_pay10 linear
  rfl
theorem pay11_eq (w : FVec Ideal S8192x64 .fp8e4m3) (s : FVec Ideal S1x64 .f32) (v a e) : k0_pay11 (F := Ideal) w (k0_pay2 s) v a e one = linear64 (k0_pay9 v a e one) (k0_pay8 a e one) w s := by
  have h : k0_pay2 s = s := by funext i; pointwise [k0_pay2]
  rw [h]
  delta k0_pay11 linear64
  rfl
theorem pay12_eq (w : FVec Ideal S8192x64 .fp8e4m3) (s : FVec Ideal S1x64 .f32) (v a e) : k0_pay12 (F := Ideal) w (k0_pay3 s) v a e one = linear64 (k0_pay9 v a e one) (k0_pay8 a e one) w s := by
  have h : k0_pay3 s = s := by funext i; pointwise [k0_pay3]
  rw [h]
  delta k0_pay12 linear64
  rfl

section
variable (c : Dev nD)

/-- What the host lines before the call hand it. -/
theorem V_v0 : V m c main_v0 = rowsX (m ((c : Thread nD τ).loc main_arg0)) := by
  entry_read
  rfl
theorem blk0 : iblk m c 0 t0_0 = rowsX (m ((c : Thread nD τ).loc main_arg0)) := by
  rw [← V_v0]
  blk_ext! [iblk, idx t0_0]
theorem V_v1 : V m c main_v1 = rowG (m ((c : Thread nD τ).loc main_arg2)) := by
  refine Eq.trans (b := broadcastInDim S1x8192 ![1] bcast_S8192_S1x8192_1 (m ((c : Thread nD τ).loc main_arg2))) (by entry_read; rfl) ?_
  funext j
  unfold rowG
  pointwise
theorem blk1 : iblk m c 1 t0_0 = rowG (m ((c : Thread nD τ).loc main_arg2)) := by
  rw [← V_v1]
  blk_ext! [iblk, idx t0_0]
theorem V_v2 : V m c main_v2 = rowSq (m ((c : Thread nD τ).loc main_arg4)) := by
  refine Eq.trans (b := broadcastInDim S1x1024 ![1] bcast_S1024_S1x1024_1 (m ((c : Thread nD τ).loc main_arg4))) (by entry_read; rfl) ?_
  funext j
  unfold rowSq
  pointwise
theorem blk3 : iblk m c 3 t0_0 = rowSq (m ((c : Thread nD τ).loc main_arg4)) := by
  rw [← V_v2]
  blk_ext! [iblk, idx t0_0]
theorem V_v3 : V m c main_v3 = rowSk (m ((c : Thread nD τ).loc main_arg6)) := by
  refine Eq.trans (b := broadcastInDim S1x64 ![1] bcast_S64_S1x64_1 (m ((c : Thread nD τ).loc main_arg6))) (by entry_read; rfl) ?_
  funext j
  unfold rowSk
  pointwise
theorem blk5 : iblk m c 5 t0_0 = rowSk (m ((c : Thread nD τ).loc main_arg6)) := by
  rw [← V_v3]
  blk_ext! [iblk, idx t0_0]
theorem V_v4 : V m c main_v4 = rowSk (m ((c : Thread nD τ).loc main_arg8)) := by
  refine Eq.trans (b := broadcastInDim S1x64 ![1] bcast_S64_S1x64_1 (m ((c : Thread nD τ).loc main_arg8))) (by entry_read; rfl) ?_
  funext j
  unfold rowSk
  pointwise
theorem blk7 : iblk m c 7 t0_0 = rowSk (m ((c : Thread nD τ).loc main_arg8)) := by
  rw [← V_v4]
  blk_ext! [iblk, idx t0_0]
theorem blk2 : iblk m c 2 t0_0 = m ((c : Thread nD τ).loc main_arg3) := by blk_ext! [iblk, V, idx t0_0]
theorem blk4 : iblk m c 4 t0_0 = m ((c : Thread nD τ).loc main_arg5) := by blk_ext! [iblk, V, idx t0_0]
theorem blk6 : iblk m c 6 t0_0 = m ((c : Thread nD τ).loc main_arg7) := by blk_ext! [iblk, V, idx t0_0]
/-- The codes after the reference's call. -/
theorem final8 : (dats m 0 c).arrAt 8 (cfgs 0).N = REFq (m ((c : Thread nD τ).loc main_arg0)) (m ((c : Thread nD τ).loc main_arg2)) := by
  refine (dats m 0 c).arrAt_eq_of_after_last 8 t0_0 (by decide +kernel) _ fun j => ?_
  blk_simp
  rw [after0_8]
  frame_out
  rw [pay13_eq, pay14_eq, pay15_eq, blk0, blk1]
  unfold REFq REFa REFv
  rfl

/-- The row scales after the reference's call. -/
theorem final9 : (dats m 0 c).arrAt 9 (cfgs 0).N = REFs (m ((c : Thread nD τ).loc main_arg0)) (m ((c : Thread nD τ).loc main_arg2)) := by
  refine (dats m 0 c).arrAt_eq_of_after_last 9 t0_0 (by decide +kernel) _ fun j => ?_
  blk_simp
  rw [after0_9]
  frame_out
  rw [pay14_eq, pay15_eq, blk0, blk1]
  unfold REFs REFa REFv
  rfl

/-- The queries before the rotation after the reference's call. -/
theorem final10 : (dats m 0 c).arrAt 10 (cfgs 0).N = linear (REFq (m ((c : Thread nD τ).loc main_arg0)) (m ((c : Thread nD τ).loc main_arg2))) (REFs (m ((c : Thread nD τ).loc main_arg0)) (m ((c : Thread nD τ).loc main_arg2))) (m ((c : Thread nD τ).loc main_arg3)) (rowSq (m ((c : Thread nD τ).loc main_arg4))) := by
  refine (dats m 0 c).arrAt_eq_of_after_last 10 t0_0 (by decide +kernel) _ fun j => ?_
  blk_simp
  rw [after0_10]
  frame_out
  rw [pay13_eq, pay14_eq, pay15_eq, blk0, blk1, blk2, blk3, ← one_def, pay10_eq]
  unfold REFq REFs REFa REFv
  rfl

/-- The keys before the rotation after the reference's call. -/
theorem final11 : (dats m 0 c).arrAt 11 (cfgs 0).N = linear64 (REFq (m ((c : Thread nD τ).loc main_arg0)) (m ((c : Thread nD τ).loc main_arg2))) (REFs (m ((c : Thread nD τ).loc main_arg0)) (m ((c : Thread nD τ).loc main_arg2))) (m ((c : Thread nD τ).loc main_arg5)) (rowSk (m ((c : Thread nD τ).loc main_arg6))) := by
  refine (dats m 0 c).arrAt_eq_of_after_last 11 t0_0 (by decide +kernel) _ fun j => ?_
  blk_simp
  rw [after0_11]
  frame_out
  rw [pay13_eq, pay14_eq, pay15_eq, blk0, blk1, blk4, blk5, ← one_def, pay11_eq]
  unfold REFq REFs REFa REFv
  rfl

/-- The values after the reference's call. -/
theorem final12 : (dats m 0 c).arrAt 12 (cfgs 0).N = linear64 (REFq (m ((c : Thread nD τ).loc main_arg0)) (m ((c : Thread nD τ).loc main_arg2))) (REFs (m ((c : Thread nD τ).loc main_arg0)) (m ((c : Thread nD τ).loc main_arg2))) (m ((c : Thread nD τ).loc main_arg7)) (rowSk (m ((c : Thread nD τ).loc main_arg8))) := by
  refine (dats m 0 c).arrAt_eq_of_after_last 12 t0_0 (by decide +kernel) _ fun j => ?_
  blk_simp
  rw [after0_12]
  frame_out
  rw [pay13_eq, pay14_eq, pay15_eq, blk0, blk1, blk6, blk7, ← one_def, pay12_eq]
  unfold REFq REFs REFa REFv
  rfl
end

end Cert.QkvRefIdeal.Value

end
-- ==== Proof.Rope.lean ====
module

public import Idealize.ShloMosaic.Lib.Pipeline.ValueKit

@[expose] public section

noncomputable section

open Idealize.ShloMosaic

/-! The rotation of the queries and keys by position, as both programs compute it. -/

namespace Cert.Rope

/-- The angle of a row `s` places after the start `p`, at frequency `i`: `(p + s) · 500000 ^ (−2i / 64)`. -/
def ang (p : BitVec 32) (s i : ℕ) : EReal :=
  FloatOps.sitofp (F := Ideal) FTy.f32 (IntOp.addi p (BitVec.ofNat 32 s)) *
    Ideal.pow (Ideal.ofBits FTy.f32 1223959552#32)
      (Ideal.div (-(Ideal.ofBits FTy.f32 1073741824#32 * FloatOps.sitofp (F := Ideal) FTy.f32 (BitVec.ofNat 32 i)))
        (Ideal.ofBits FTy.f32 1115684864#32))

/-- The rotated entry `n` of a row `q` of heads of `64`, the row's angles being `θ`: in a head's first half
    `q n · cos − q (n + 32) · sin`, in its second `q n · cos + q (n − 32) · sin`. -/
def rope {N : ℕ} (hN : N % 64 = 0) (q : Fin N → EReal) (θ : ℕ → EReal) (n : Fin N) : EReal :=
  q n * Ideal.cos (θ (n % 32))
    + (if h : (n : ℕ) % 64 < 32 then -q ⟨n + 32, by omega⟩ else q ⟨n - 32, by omega⟩) * Ideal.sin (θ (n % 32))

/-- The same with the sign on the sine, as the kernel keeps it. -/
theorem rope_sign {N : ℕ} (hN : N % 64 = 0) (q : Fin N → EReal) (θ : ℕ → EReal) (n : Fin N) : rope hN q θ n
    = q n * Ideal.cos (θ (n % 32))
      + (if h : (n : ℕ) % 64 < 32 then q ⟨n + 32, by omega⟩ else q ⟨n - 32, by omega⟩)
        * (if (n : ℕ) % 64 < 32 then -Ideal.sin (θ (n % 32)) else Ideal.sin (θ (n % 32))) := by
  unfold rope
  split_ifs
  · rw [neg_mul, mul_neg]
  · rfl

end Cert.Rope

end
-- ==== Proof.QkvRefTail.lean ====
module

public import proofs.«01_k».proof.Proof.QkvRefValue
public import proofs.«01_k».proof.Proof.Rope

@[expose] public section

set_option maxRecDepth 16384

noncomputable section

open Idealize.ShloMosaic Idealize.ShloMosaic.TcCoe Idealize.SL.Sem
open Idealize.ShloMosaic.Pipeline (Dat)

namespace Cert.QkvRefIdeal.Value
open Cert.QkvRefIdeal Cert.QkvRefIdeal.Gen

/-- The rotary frequencies: the reference's lines. -/
def freq : FVec Ideal S32 .f32 :=
  Host.powf (broadcastInDim S32 ![] bcast_S_S32 (constant S_ .f32 0x48F42400#32))
    (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0)))))
      (broadcastInDim S32 ![] bcast_S_S32 (constant S_ .f32 0x42800000#32)))

/-- The rows' positions: the reference's lines. -/
def pos (p : IVec S2 32) : FVec Ideal S2x512 .f32 :=
  sitofp .f32 (addi (broadcastInDim S2x512 ![0, 1] bcast_S2x1_S2x512_0_1 (broadcastInDim S2x1 ![0] bcast_S2_S2x1_0 p))
    (broadcastInDim S2x512 ![0, 1] bcast_S1x512_S2x512_0_1 (broadcastInDim S1x512 ![1] bcast_S512_S1x512_1 (iotaInDim S512 32 0))))

/-- The rotary angles: the reference's lines. -/
def angles (p : FVec Ideal S2x512 .f32) (f : FVec Ideal S32 .f32) : FVec Ideal S2x512x32 .f32 :=
  mulf (broadcastInDim S2x512x32 ![0, 1, 2] bcast_S2x512x1_S2x512x32_0_1_2 (broadcastInDim S2x512x1 ![0, 1] bcast_S2x512_S2x512x1_0_1 p))
    (broadcastInDim S2x512x32 ![0, 1, 2] bcast_S1x1x32_S2x512x32_0_1_2 (broadcastInDim S1x1x32 ![2] bcast_S32_S1x1x32_2 f))

/-- The cosines of the angles, the angles repeated over both halves of a head: the reference's lines. -/
def cosT (a : FVec Ideal S2x512x32 .f32) : FVec Ideal S2x512x1x64 .f32 :=
  broadcastInDim S2x512x1x64 ![0, 1, 3] bcast_S2x512x64_S2x512x1x64_0_1_3 (Host.cos (concatenate S2x512x64 2 [⟨S2x512x32, a⟩, ⟨S2x512x32, a⟩] concatenates_S2x512x32_S2x512x32_S2x512x64_d2))

/-- The sines of the angles, likewise: the reference's lines. -/
def sinT (a : FVec Ideal S2x512x32 .f32) : FVec Ideal S2x512x1x64 .f32 :=
  broadcastInDim S2x512x1x64 ![0, 1, 3] bcast_S2x512x64_S2x512x1x64_0_1_3 (Host.sin (concatenate S2x512x64 2 [⟨S2x512x32, a⟩, ⟨S2x512x32, a⟩] concatenates_S2x512x32_S2x512x32_S2x512x64_d2))

/-- The queries rotated, before the last reshape: the reference's lines. -/
def rotQ (q : FVec Ideal S2x512x16x64 .f32) (C S : FVec Ideal S2x512x1x64 .f32) : FVec Ideal S2x512x16x64 .bf16 :=
  truncf .bf16 (addf (mulf q (broadcastInDim S2x512x16x64 ![0, 1, 2, 3] bcast_S2x512x1x64_S2x512x16x64_0_1_2_3 C))
    (mulf (concatenate S2x512x16x64 3 [⟨S2x512x16x32, Host.negf (extractStridedSlice S2x512x16x32 ![0, 0, 0, 32] q slices_S2x512x16x64_S2x512x16x32_0_0_0_32)⟩,
        ⟨S2x512x16x32, extractStridedSlice S2x512x16x32 ![0, 0, 0, 0] q slices_S2x512x16x64_S2x512x16x32_0_0_0_0⟩] concatenates_S2x512x16x32_S2x512x16x32_S2x512x16x64_d3)
      (broadcastInDim S2x512x16x64 ![0, 1, 2, 3] bcast_S2x512x1x64_S2x512x16x64_0_1_2_3 S))) bitsLt_bf16_f32

/-- The keys rotated, before the last reshape: the reference's lines. -/
def rotK (k : FVec Ideal S2x512x1x64 .f32) (C S : FVec Ideal S2x512x1x64 .f32) : FVec Ideal S2x512x1x64 .bf16 :=
  truncf .bf16 (addf (mulf k C)
    (mulf (concatenate S2x512x1x64 3 [⟨S2x512x1x32, Host.negf (extractStridedSlice S2x512x1x32 ![0, 0, 0, 32] k slices_S2x512x1x64_S2x512x1x32_0_0_0_32)⟩,
        ⟨S2x512x1x32, extractStridedSlice S2x512x1x32 ![0, 0, 0, 0] k slices_S2x512x1x64_S2x512x1x32_0_0_0_0⟩] concatenates_S2x512x1x32_S2x512x1x32_S2x512x1x64_d3) S)) bitsLt_bf16_f32

/-- The queries the reference returns. -/
def outQ (q : FVec Ideal S1024x1024 .f32) (C S : FVec Ideal S2x512x1x64 .f32) : FVec Ideal S1024x1024 .bf16 :=
  shapeCast S1024x1024 (rotQ (shapeCast S2x512x16x64 q shapeCasts_S1024x1024_S2x512x16x64) C S) shapeCasts_S2x512x16x64_S1024x1024

/-- The keys and values the reference returns. -/
def outKV (k v : FVec Ideal S1024x64 .f32) (C S : FVec Ideal S2x512x1x64 .f32) : FVec Ideal S1024x128 .bf16 :=
  concatenate S1024x128 1 [⟨S1024x64, shapeCast S1024x64 (rotK (shapeCast S2x512x1x64 k shapeCasts_S1024x64_S2x512x1x64) C S) shapeCasts_S2x512x1x64_S1024x64⟩,
    ⟨S1024x64, truncf .bf16 v bitsLt_bf16_f32⟩] concatenates_S1024x64_S1024x64_S1024x128_d1

/-- The reference's rotary angles, from the positions' starts. -/
def ANG (p : IVec S2 32) : FVec Ideal S2x512x32 .f32 := angles (pos p) freq

/-- The host lines after the call leave the rotated queries in the third result. -/
theorem tail_v56 (W : Valuation τ sig (Elt Ideal)) : StableHlo.after hostOps1 W (Proc.devRef (τ := τ) .tc main_v56)
    = outQ (W (Proc.devRef (τ := τ) .tc main_v5_2)) (cosT (ANG (W (Proc.devRef (τ := τ) .tc main_arg1)))) (sinT (ANG (W (Proc.devRef (τ := τ) .tc main_arg1)))) := by
  entry_read
  rfl

/-- And the rotated keys beside the values in the fourth. -/
theorem tail_v55 (W : Valuation τ sig (Elt Ideal)) : StableHlo.after hostOps1 W (Proc.devRef (τ := τ) .tc main_v55)
    = outKV (W (Proc.devRef (τ := τ) .tc main_v5_3)) (W (Proc.devRef (τ := τ) .tc main_v5_4)) (cosT (ANG (W (Proc.devRef (τ := τ) .tc main_arg1)))) (sinT (ANG (W (Proc.devRef (τ := τ) .tc main_arg1)))) := by
  entry_read
  rfl

/-- An angle. -/
theorem ANG_at (p : IVec S2 32) (b : Fin 2) (s : Fin 512) (i : Fin 32) : ANG p (ix3 b s i) = Cert.Rope.ang (p (ix1 b)) s i := by
  unfold ANG Cert.Rope.ang
  pointwise [angles, pos, freq]

/-- A cosine: both halves of a head have the same angles. -/
theorem cosT_at (a : FVec Ideal S2x512x32 .f32) (b : Fin 2) (s : Fin 512) (d : Fin 64) : cosT a (ix4 b s 0 d) = Ideal.cos (a (ix3 b s ⟨d % 32, by omega⟩)) := by
  pointwise [cosT]
  congr 1
  split
  · congr 2; ext; simp; omega
  · congr 2; ext; simp; omega

/-- A sine, likewise. -/
theorem sinT_at (a : FVec Ideal S2x512x32 .f32) (b : Fin 2) (s : Fin 512) (d : Fin 64) : sinT a (ix4 b s 0 d) = Ideal.sin (a (ix3 b s ⟨d % 32, by omega⟩)) := by
  pointwise [sinT]
  congr 1
  split
  · congr 2; ext; simp; omega
  · congr 2; ext; simp; omega

/-- A rotated query. -/
theorem rotQ_at (q : FVec Ideal S2x512x16x64 .f32) (C S : FVec Ideal S2x512x1x64 .f32) (b : Fin 2) (s : Fin 512) (h : Fin 16) (d : Fin 64) :
    rotQ q C S (ix4 b s h d) = q (ix4 b s h d) * C (ix4 b s 0 d) +
      (if hd : (d : ℕ) < 32 then -q (ix4 b s h ⟨32 + d, by omega⟩) else q (ix4 b s h ⟨d - 32, by omega⟩)) * S (ix4 b s 0 d) := by
  pointwise [rotQ]

/-- A rotated key. -/
theorem rotK_at (q : FVec Ideal S2x512x1x64 .f32) (C S : FVec Ideal S2x512x1x64 .f32) (b : Fin 2) (s : Fin 512) (d : Fin 64) :
    rotK q C S (ix4 b s 0 d) = q (ix4 b s 0 d) * C (ix4 b s 0 d) +
      (if hd : (d : ℕ) < 32 then -q (ix4 b s 0 ⟨32 + d, by omega⟩) else q (ix4 b s 0 ⟨d - 32, by omega⟩)) * S (ix4 b s 0 d) := by
  pointwise [rotK]

theorem headsQ_at (q : FVec Ideal S1024x1024 .f32) (b : Fin 2) (s : Fin 512) (h : Fin 16) (d : Fin 64) :
    shapeCast S2x512x16x64 q shapeCasts_S1024x1024_S2x512x16x64 (ix4 b s h d) = q (ix2 ⟨b * 512 + s, by omega⟩ ⟨h * 64 + d, by omega⟩) := by
  pointwise
theorem headsK_at (q : FVec Ideal S1024x64 .f32) (b : Fin 2) (s : Fin 512) (d : Fin 64) :
    shapeCast S2x512x1x64 q shapeCasts_S1024x64_S2x512x1x64 (ix4 b s 0 d) = q (ix2 ⟨b * 512 + s, by omega⟩ d) := by
  pointwise

/-- A query the reference returns. -/
theorem outQ_at (q : FVec Ideal S1024x1024 .f32) (p : IVec S2 32) (R n : Fin 1024) :
    outQ q (cosT (ANG p)) (sinT (ANG p)) (ix2 R n)
    = Cert.Rope.rope (by norm_num) (fun n => q (ix2 R n)) (Cert.Rope.ang (p (ix1 ⟨R / 512, by omega⟩)) (R % 512)) n := by
  pointwise [outQ]
  rw [rotQ_at, headsQ_at, cosT_at, sinT_at, ANG_at]
  unfold Cert.Rope.rope
  have e : (n : ℕ) % 64 % 32 = n % 32 := by omega
  have hR : ∀ h, (⟨R / 512 * 512 + R % 512, h⟩ : Fin 1024) = R := fun h => Fin.ext (by simp; omega)
  have hn : ∀ h, (⟨n / 64 * 64 + n % 64, h⟩ : Fin 1024) = n := fun h => Fin.ext (by simp; omega)
  simp only [e, hR, hn]
  by_cases hd : (n : ℕ) % 64 < 32
  · rw [dif_pos hd, dif_pos hd, headsQ_at]
    simp only [hR]
    congr 5
    ext; simp; omega
  · rw [dif_neg hd, dif_neg hd, headsQ_at]
    simp only [hR]
    congr 4
    ext; simp; omega

/-- The keys the reference returns, before the values are set beside them. -/
theorem outK_at (q : FVec Ideal S1024x64 .f32) (p : IVec S2 32) (R : Fin 1024) (n : Fin 64) :
    shapeCast S1024x64 (rotK (shapeCast S2x512x1x64 q shapeCasts_S1024x64_S2x512x1x64) (cosT (ANG p)) (sinT (ANG p))) shapeCasts_S2x512x1x64_S1024x64 (ix2 R n)
    = Cert.Rope.rope (by norm_num) (fun n => q (ix2 R n)) (Cert.Rope.ang (p (ix1 ⟨R / 512, by omega⟩)) (R % 512)) n := by
  pointwise
  rw [rotK_at, headsK_at, cosT_at, sinT_at, ANG_at]
  unfold Cert.Rope.rope
  have e : (n : ℕ) % 64 = n := by omega
  have hR : ∀ h, (⟨R / 512 * 512 + R % 512, h⟩ : Fin 1024) = R := fun h => Fin.ext (by simp; omega)
  simp only [hR]
  by_cases hd : (n : ℕ) < 32
  · rw [dif_pos hd, dif_pos (by omega), headsK_at]
    simp only [hR]
    congr 5
    ext; simp; omega
  · rw [dif_neg hd, dif_neg (by omega), headsK_at]
    simp only [hR]

/-- A key or value the reference returns. -/
theorem outKV_at (k v : FVec Ideal S1024x64 .f32) (p : IVec S2 32) (R : Fin 1024) (n : Fin 128) :
    outKV k v (cosT (ANG p)) (sinT (ANG p)) (ix2 R n)
    = if h : (n : ℕ) < 64 then Cert.Rope.rope (by norm_num) (fun n => k (ix2 R n)) (Cert.Rope.ang (p (ix1 ⟨R / 512, by omega⟩)) (R % 512)) ⟨n, h⟩
      else v (ix2 R ⟨n - 64, by omega⟩) := by
  unfold outKV
  simp only [← outK_at]
  generalize shapeCast S1024x64 _ _ = K
  pointwise

/-! The results after the whole run -/

section
variable (m : (ℓ : Loc nD τ sig) → Buf (Elt Ideal) ℓ) (c : Dev nD)

theorem arrRef_inj : Function.Injective (Pipeline.arrRef spec0) := by decide +kernel

/-- The valuation the host lines after the call start from. -/
abbrev W : Valuation τ sig (Elt Ideal) := Pipeline.withArrays (cfgs 0).spec c (V0 m c) fun w => (dats m 0 c).arrAt w (cfgs 0).N

theorem W_arg1 : W m c (Proc.devRef .tc main_arg1) = m ((c : Thread nD τ).loc main_arg1) := by
  refine (Pipeline.withArrays_of_ne _ c (V0 m c) _ main_arg1 (by exact (by decide : ∀ w, Pipeline.arrRef spec0 w ≠ main_arg1))).trans ?_
  exact V_main_arg1 m c

/-- The third result is the rotated queries. -/
theorem res_q : Pipeline.afterTail₀ cfgs (dats m) 0 (V0 m) [hostOps1] c main_v56
    = outQ ((dats m 0 c).arrAt 10 (cfgs 0).N) (cosT (ANG (m ((c : Thread nD τ).loc main_arg1)))) (sinT (ANG (m ((c : Thread nD τ).loc main_arg1)))) := by
  refine (tail_v56 (W m c)).trans ?_
  rw [W_arg1, show W m c (Proc.devRef .tc main_v5_2) = _ from Pipeline.withArrays_arr _ arrRef_inj c _ _ 10]

/-- The fourth result is the rotated keys beside the values. -/
theorem res_kv : Pipeline.afterTail₀ cfgs (dats m) 0 (V0 m) [hostOps1] c main_v55
    = outKV ((dats m 0 c).arrAt 11 (cfgs 0).N) ((dats m 0 c).arrAt 12 (cfgs 0).N) (cosT (ANG (m ((c : Thread nD τ).loc main_arg1)))) (sinT (ANG (m ((c : Thread nD τ).loc main_arg1)))) := by
  refine (tail_v55 (W m c)).trans ?_
  rw [W_arg1, show W m c (Proc.devRef .tc main_v5_3) = _ from Pipeline.withArrays_arr _ arrRef_inj c _ _ 11,
    show W m c (Proc.devRef .tc main_v5_4) = _ from Pipeline.withArrays_arr _ arrRef_inj c _ _ 12]
end

end Cert.QkvRefIdeal.Value

end
-- ==== Proof.QkvBlock.lean ====
module

public import proofs.«01_k».proof.Proof.Gen.QkvIdeal.Frame
public import proofs.«01_k».proof.Proof.QkvRefTail

@[expose] public section

set_option maxRecDepth 16384

noncomputable section

open Idealize.ShloMosaic Idealize.ShloMosaic.TcCoe Idealize.SL.Sem
open Idealize.ShloMosaic.Pipeline (Dat)

namespace Cert.QkvIdeal.Value

open Cert.QkvIdeal Cert.QkvIdeal.Gen

/-! The quantiser's lines at a row of a block -/

/-- A row's greatest magnitude: the kernel's lines. -/
def amax (v : FVec Ideal S128x8192 .f32) : FVec Ideal S128x1 .f32 :=
  shapeCast S128x1 (multiReduction .maximumf [1] S128 (absf v) 0xFF800000#32 reduces_S128x8192_S128 (.inl rfl) rfl) shapeCasts_S128_S128x1

theorem amax_at (v : FVec Ideal S128x8192 .f32) (r : Fin 128) : amax v (ix2 r 0)
    = Finset.fold max (Ideal.ofBits .f32 0xFF800000#32) (fun l : Fin 8192 => FloatOps.absf (F := Ideal) (φ := .f32) (v (ix2 r l))) Finset.univ := by
  pointwise [amax]

/-- The greatest magnitudes times `f32(1/448)`. -/
def thr (a : FVec Ideal S128x1 .f32) : FVec Ideal S128x1 .f32 := mulf a (broadcast S128x1 (Scalar.ofBits .f32 0x3B124925#32))

theorem thr_at (a : FVec Ideal S128x1 .f32) (r : Fin 128) : thr a (ix2 r 0) = a (ix2 r 0) * Ideal.ofBits .f32 0x3B124925#32 := by
  pointwise [thr]

/-- The exponents counted from the scaled greatest magnitudes: the kernel's lines. -/
def countLines (t : FVec Ideal S128x1 .f32) : IVec S128x1 32 :=
  subi (shapeCast S128x1 (multiReductionI .add [1] S128 (extui 32 (andi
      (cmpi .sle (addi (iota .tc S128x256 32 [1] iota_S128x256_d1_w32) (broadcast S128x256 1#32)) (broadcast S128x256 246#32))
      (cmpf .oge (broadcastTo S128x256 t broadcasts_S128x1_S128x256) (bitcastToFloat .f32 (shli (addi (iota .tc S128x256 32 [1] iota_S128x256_d1_w32) (broadcast S128x256 1#32)) (broadcast S128x256 23#32))))) natLt_1_32)
    0#32 reduces_S128x256_S128 rfl) shapeCasts_S128_S128x1) (broadcast S128x1 126#32)

theorem pay4_eq (v0 v2) : k0_pay4 (F := Ideal) v0 v2 = amax (k0_pay3 (F := Ideal) v0 v2) := by
  delta k0_pay4 amax
  rfl
theorem pay5_eq (v0 v2) : k0_pay5 (F := Ideal) v0 v2 = thr (amax (k0_pay3 (F := Ideal) v0 v2)) := by
  rw [← pay4_eq]
  delta k0_pay5 thr
  rfl
theorem pay6_eq (v0 v2) : k0_pay6 (F := Ideal) v0 v2 = countLines (thr (amax (k0_pay3 (F := Ideal) v0 v2))) := by
  rw [← pay5_eq]
  delta k0_pay6 countLines
  rfl

/-- The scale at a row, assembled from the exponent word. -/
theorem scale_at (a t : FVec Ideal S128x1 .f32) (r : Fin 128) : k0_pay8 (F := Ideal) a t (countLines t) (ix2 r 0)
    = Ideal.ofBits .f32 (IntOp.shli ArithUnit.vector (IntOp.addi (Cert.Quantise.kernelExp (a (ix2 r 0)) (t (ix2 r 0))) 127#32) 23#32) := by
  unfold Cert.Quantise.kernelExp Cert.Quantise.countExp
  pointwise [k0_pay8, k0_pay7, countLines]

/-- A code: the value times the inverse scale assembled from the negated exponent word, clipped. -/
theorem code_at (v : FVec Ideal S128x8192 .f32) (a t : FVec Ideal S128x1 .f32) (r : Fin 128) (l : Fin 8192) :
    k0_pay9 (F := Ideal) v a t (countLines t) (ix2 r l)
    = min (Ideal.ofBits .f32 0x43E00000#32) (max (Ideal.ofBits .f32 0xC3E00000#32) (v (ix2 r l) *
        Ideal.ofBits .f32 (IntOp.shli ArithUnit.vector (IntOp.addi (IntOp.subi 0#32 (Cert.Quantise.kernelExp (a (ix2 r 0)) (t (ix2 r 0)))) 127#32) 23#32))) := by
  unfold Cert.Quantise.kernelExp Cert.Quantise.countExp
  pointwise [k0_pay9, k0_pay7, countLines]

/-- The scale at a row is two to the reference's clipped exponent. -/
theorem scale_at' (a : FVec Ideal S128x1 .f32) (r : Fin 128) : k0_pay8 (F := Ideal) a (thr a) (countLines (thr a)) (ix2 r 0)
    = Ideal.exp2 (Cert.Quantise.refExp (a (ix2 r 0)) (a (ix2 r 0) * Ideal.ofBits .f32 0x3B124925#32)) := by
  rw [scale_at, thr_at, Cert.Quantise.kernel_exp2]

/-- A code is the value times two to the reference's negated exponent, clipped. -/
theorem code_at' (v : FVec Ideal S128x8192 .f32) (a : FVec Ideal S128x1 .f32) (r : Fin 128) (l : Fin 8192) :
    k0_pay9 (F := Ideal) v a (thr a) (countLines (thr a)) (ix2 r l)
    = min (Ideal.ofBits .f32 0x43E00000#32) (max (Ideal.ofBits .f32 0xC3E00000#32) (v (ix2 r l) *
        Ideal.exp2 (0 - Cert.Quantise.refExp (a (ix2 r 0)) (a (ix2 r 0) * Ideal.ofBits .f32 0x3B124925#32)))) := by
  rw [code_at, thr_at, Cert.Quantise.kernel_exp2_neg]

/-! The projections and the rotation at a row of a block -/

/-- The query block before the rotation: codes times weights, times the row scales, times the column scales. -/
def linear (q : FVec Ideal S128x8192 .fp8e4m3) (a : FVec Ideal S128x1 .f32) (w : FVec Ideal S8192x1024 .fp8e4m3) (s : FVec Ideal S1x1024 .f32) : FVec Ideal S128x1024 .f32 :=
  k0_pay13 (mulf (matmul dot_S128x8192_S8192x1024_S128x1024_1_0_0_1_n_n none q w (constant S128x1024 .f32 0x00000000#32))
    (broadcastTo S128x1024 a broadcasts_S128x1_S128x1024)) s

theorem linear_at (q a w s) (r : Fin 128) (n : Fin 1024) : linear q a w s (ix2 r n)
    = (∑ l : Fin 8192, q (ix2 r l) * w (ix2 l n)) * a (ix2 r 0) * s (ix2 0 n) := by
  pointwise [linear, k0_pay13]

theorem pay12_eq (v a t e w s) : k0_pay13 (F := Ideal) (k0_pay12 v a t e w) s = linear (k0_pay9 v a t e) (k0_pay8 a t e) w s := by
  delta k0_pay12 linear
  rfl

/-- The key and value block before the rotation. -/
theorem pay31_at (a : FVec Ideal S128x1 .f32) (q : FVec Ideal S128x8192 .fp8e4m3) (w : FVec Ideal S8192x256 .fp8e4m3) (s : FVec Ideal S1x128 .f32) (r n : Fin 128) : k0_pay31 (F := Ideal) a q w s (ix2 r n)
    = (∑ l : Fin 8192, q (ix2 r l) * w (ix2 l ⟨n, by omega⟩)) * a (ix2 r 0) * s (ix2 0 n) := by
  pointwise [k0_pay31]

/-- The scratch's columns: the key weights, then the value weights. -/
theorem pay2_at (wk wv : FVec Ideal S8192x64 .fp8e4m3) (l : Fin 8192) (n : Fin 256) (hn : (n : ℕ) < 128) : k0_pay2 (F := Ideal) wk wv (ix2 l n)
    = if h : (n : ℕ) < 64 then wk (ix2 l ⟨n, h⟩) else wv (ix2 l ⟨n - 64, by omega⟩) := by
  pointwise [k0_pay2]
  by_cases h : (n : ℕ) < 64
  · rw [dif_pos h, dif_pos h]
  · rw [dif_neg h, dif_neg h, dif_pos (by omega)]

/-- Which half of its head a lane is in. -/
theorem mask_at (r l : Fin 128) : k0_pay14 (ix2 r l) = if (l : ℕ) % 64 < 32 then 1#1 else 0#1 := by
  pointwise [k0_pay14]
  revert l
  decide +kernel

/-- A lane's place in its head. -/
theorem lane_at (r l : Fin 128) : k0_pay32 (ix2 r l) = BitVec.ofNat 32 (l % 64) := by
  pointwise [k0_pay32]
  revert l
  decide +kernel

/-- The rotation of a block of two heads, before its cast: the kernel's lines. -/
def ropeBlk (x C S : FVec Ideal S128x128 .f32) (M : IVec S128x128 1) : FVec Ideal S128x128 .f32 :=
  addf (mulf x C) (mulf (select M (dynamicRotate 1 96#32 none x rotates_S128x128_d1) (dynamicRotate 1 32#32 none x rotates_S128x128_d1)) S)

theorem ropeBlk_at (x C S M) (r l : Fin 128) : ropeBlk x C S M (ix2 r l)
    = x (ix2 r l) * C (ix2 r l) + Scalar.select (M (ix2 r l)) (x (ix2 r ⟨(l + 128 - 96) % 128, Nat.mod_lt _ (by norm_num)⟩)) (x (ix2 r ⟨(l + 128 - 32) % 128, Nat.mod_lt _ (by norm_num)⟩)) * S (ix2 r l) := by
  pointwise [ropeBlk]

/-- Those lines rotate: if `x` is columns `off …` of rows whose row `r` is `q`, and the tables hold row `r`'s cosines and
    signed sines, lane `l` is the rotated entry `off + l`. -/
theorem ropeBlk_rope (x C S : FVec Ideal S128x128 .f32) (q : Fin 1024 → EReal) (θ : ℕ → EReal) (r l : Fin 128) (n : Fin 1024) (off : ℕ)
    (hoff : off % 128 = 0) (hn : (n : ℕ) = off + l) (hx : ∀ (l' : Fin 128) (n' : Fin 1024), (n' : ℕ) = off + l' → x (ix2 r l') = q n')
    (hC : C (ix2 r l) = Ideal.cos (θ (l % 32)))
    (hS : S (ix2 r l) = if (l : ℕ) % 64 < 32 then -Ideal.sin (θ (l % 32)) else Ideal.sin (θ (l % 32))) :
    ropeBlk x C S k0_pay14 (ix2 r l) = Cert.Rope.rope (by norm_num) q θ n := by
  have e : (n : ℕ) % 32 = l % 32 := by omega
  have e' : (n : ℕ) % 64 = l % 64 := by omega
  have hn' := n.isLt
  rw [ropeBlk_at, Cert.Rope.rope_sign, mask_at, hC, hS, hx l n hn, e]
  by_cases h : (l : ℕ) % 64 < 32
  · have hh := hx ⟨(l + 128 - 96) % 128, Nat.mod_lt _ (by norm_num)⟩ ⟨n + 32, by omega⟩ (by show (n : ℕ) + 32 = off + (l + 128 - 96) % 128; omega)
    rw [dif_pos (by omega), if_pos h, if_pos h, if_pos (by omega), hh]
    rfl
  · have hh := hx ⟨(l + 128 - 32) % 128, Nat.mod_lt _ (by norm_num)⟩ ⟨n - 32, by omega⟩ (by show (n : ℕ) - 32 = off + (l + 128 - 32) % 128; omega)
    rw [dif_neg (by omega), if_neg h, if_neg h, if_neg (by omega), hh]
    rfl

/-- A rotated block as stored. -/
def ropeT (x C S : FVec Ideal S128x128 .f32) : FVec Ideal S128x128 .bf16 := truncf .bf16 (ropeBlk x C S k0_pay14) bitsLt_bf16_f32

theorem ropeT_at (x C S) (i) : ropeT x C S i = ropeBlk x C S k0_pay14 i := rfl

theorem pay10_id (x : FVec Ideal S128x128 .f32) : k0_pay10 x = x := by funext i; pointwise [k0_pay10]
theorem pay11_id (x : FVec Ideal S128x128 .f32) : k0_pay11 x = x := by funext i; pointwise [k0_pay11]

section
variable (C S : FVec Ideal S128x128 .f32) (v : FVec Ideal S128x1024 .f32) (s : FVec Ideal S1x1024 .f32)
theorem st0 : k0_pay23 (k0_pay15 C S v s) = ropeT (extractStridedSlice S128x128 ![0, 0] (k0_pay13 v s) slices_S128x1024_o0_0_S128x128) C S := by
  delta k0_pay23 k0_pay15 ropeT ropeBlk
  rfl
theorem st1 : k0_pay24 (k0_pay16 C S v s) = ropeT (extractStridedSlice S128x128 ![0, 128] (k0_pay13 v s) slices_S128x1024_o0_128_S128x128) C S := by
  delta k0_pay24 k0_pay16 ropeT ropeBlk
  rfl
theorem st2 : k0_pay25 (k0_pay17 C S v s) = ropeT (extractStridedSlice S128x128 ![0, 256] (k0_pay13 v s) slices_S128x1024_o0_256_S128x128) C S := by
  delta k0_pay25 k0_pay17 ropeT ropeBlk
  rfl
theorem st3 : k0_pay26 C S k0_pay14 (k0_pay18 v s) 96#32 = ropeT (extractStridedSlice S128x128 ![0, 384] (k0_pay13 v s) slices_S128x1024_o0_384_S128x128) C S := by
  delta k0_pay26 k0_pay18 ropeT ropeBlk
  rfl
theorem st4 : k0_pay27 (k0_pay19 C S v k0_pay14) = ropeT (extractStridedSlice S128x128 ![0, 512] v slices_S128x1024_o0_512_S128x128) C S := by
  delta k0_pay27 k0_pay19 ropeT ropeBlk
  rfl
theorem st5 : k0_pay28 (k0_pay20 C S v k0_pay14) = ropeT (extractStridedSlice S128x128 ![0, 640] v slices_S128x1024_o0_640_S128x128) C S := by
  delta k0_pay28 k0_pay20 ropeT ropeBlk
  rfl
theorem st6 : k0_pay29 (k0_pay21 C S v k0_pay14) = ropeT (extractStridedSlice S128x128 ![0, 768] v slices_S128x1024_o0_768_S128x128) C S := by
  delta k0_pay29 k0_pay21 ropeT ropeBlk
  rfl
theorem st7 : k0_pay30 (k0_pay22 C S v k0_pay14) = ropeT (extractStridedSlice S128x128 ![0, 896] v slices_S128x1024_o0_896_S128x128) C S := by
  delta k0_pay30 k0_pay22 ropeT ropeBlk
  rfl
end

/-- The eight stores of a query block. -/
def queries (Q : FVec Ideal S128x1024 .f32) (C S : FVec Ideal S128x128 .f32) : FVec Ideal S128x1024 .bf16 :=
  View.canon (Val := Elt Ideal) (s := S128x1024) (e := .bf16)
    [⟨Rect.unit ![0, 896] ![128, 128] inb_S128x1024_S128x128_0_896, ropeT (extractStridedSlice S128x128 ![0, 896] Q slices_S128x1024_o0_896_S128x128) C S⟩,
     ⟨Rect.unit ![0, 768] ![128, 128] inb_S128x1024_S128x128_0_768, ropeT (extractStridedSlice S128x128 ![0, 768] Q slices_S128x1024_o0_768_S128x128) C S⟩,
     ⟨Rect.unit ![0, 640] ![128, 128] inb_S128x1024_S128x128_0_640, ropeT (extractStridedSlice S128x128 ![0, 640] Q slices_S128x1024_o0_640_S128x128) C S⟩,
     ⟨Rect.unit ![0, 512] ![128, 128] inb_S128x1024_S128x128_0_512, ropeT (extractStridedSlice S128x128 ![0, 512] Q slices_S128x1024_o0_512_S128x128) C S⟩,
     ⟨Rect.unit ![0, 384] ![128, 128] inb_S128x1024_S128x128_0_384, ropeT (extractStridedSlice S128x128 ![0, 384] Q slices_S128x1024_o0_384_S128x128) C S⟩,
     ⟨Rect.unit ![0, 256] ![128, 128] inb_S128x1024_S128x128_0_256, ropeT (extractStridedSlice S128x128 ![0, 256] Q slices_S128x1024_o0_256_S128x128) C S⟩,
     ⟨Rect.unit ![0, 128] ![128, 128] inb_S128x1024_S128x128_0_128, ropeT (extractStridedSlice S128x128 ![0, 128] Q slices_S128x1024_o0_128_S128x128) C S⟩,
     ⟨Rect.unit ![0, 0] ![128, 128] inb_S128x1024_S128x128_0_0, ropeT (extractStridedSlice S128x128 ![0, 0] Q slices_S128x1024_o0_0_S128x128) C S⟩]

/-- One store of a query block, at an index. -/
theorem piece (Q : FVec Ideal S128x1024 .f32) (C S : FVec Ideal S128x128 .f32) (θ : ℕ → EReal) (off : ℕ) (sl) (x : S128x128.Idx) (r : Fin 128) (n : Fin 1024)
    (hC : ∀ l : Fin 128, C (ix2 r l) = Ideal.cos (θ (l % 32)))
    (hS : ∀ l : Fin 128, S (ix2 r l) = if (l : ℕ) % 64 < 32 then -Ideal.sin (θ (l % 32)) else Ideal.sin (θ (l % 32)))
    (hoff : off % 128 = 0) (h0 : (r : ℕ) = x 0) (h1 : (n : ℕ) = off + x 1) :
    ropeT (extractStridedSlice S128x128 ![0, off] Q sl) C S x = Cert.Rope.rope (by norm_num) (fun n => Q (ix2 r n)) θ n := by
  idx_vars x
  obtain rfl : r = x0 := Fin.ext h0
  rw [ropeT_at]
  refine ropeBlk_rope _ C S _ θ r x1 n off hoff h1 (fun l' n' hn' => ?_) (hC _) (hS _)
  pointwise
  congr 2
  exact Fin.ext hn'.symm

theorem queries_at' (Q : FVec Ideal S128x1024 .f32) (C S : FVec Ideal S128x128 .f32) (θ : ℕ → EReal) (y : S128x1024.Idx) (r : Fin 128) (n : Fin 1024)
    (hC : ∀ l : Fin 128, C (ix2 r l) = Ideal.cos (θ (l % 32)))
    (hS : ∀ l : Fin 128, S (ix2 r l) = if (l : ℕ) % 64 < 32 then -Ideal.sin (θ (l % 32)) else Ideal.sin (θ (l % 32)))
    (hr : (r : ℕ) = y 0) (hn : (n : ℕ) = y 1) :
    queries Q C S y = Cert.Rope.rope (by norm_num) (fun n => Q (ix2 r n)) θ n := by
  unfold queries
  canon_tiles x h
  all_goals
    first
      | (refine piece Q C S θ _ _ x r n hC hS (by omega) (by omega) (by omega))
      | (exfalso; omega)

/-- A query block at a row and column. -/
theorem queries_at (Q : FVec Ideal S128x1024 .f32) (C S : FVec Ideal S128x128 .f32) (θ : ℕ → EReal) (r : Fin 128) (n : Fin 1024)
    (hC : ∀ l : Fin 128, C (ix2 r l) = Ideal.cos (θ (l % 32)))
    (hS : ∀ l : Fin 128, S (ix2 r l) = if (l : ℕ) % 64 < 32 then -Ideal.sin (θ (l % 32)) else Ideal.sin (θ (l % 32))) :
    queries Q C S (ix2 r n) = Cert.Rope.rope (by norm_num) (fun n => Q (ix2 r n)) θ n :=
  queries_at' Q C S θ (ix2 r n) r n hC hS rfl rfl

/-- A key and value block at a row and column: the keys rotated, the values as they are. -/
theorem keys_at (C S x : FVec Ideal S128x128 .f32) (θ : ℕ → EReal) (r l : Fin 128)
    (hC : C (ix2 r l) = Ideal.cos (θ (l % 32)))
    (hS : S (ix2 r l) = if (l : ℕ) % 64 < 32 then -Ideal.sin (θ (l % 32)) else Ideal.sin (θ (l % 32))) :
    k0_pay1 C S x k0_pay32 (ix2 r l)
    = if h : (l : ℕ) < 64 then Cert.Rope.rope (by norm_num) (fun n : Fin 64 => x (ix2 r ⟨n, by omega⟩)) θ ⟨l, h⟩ else x (ix2 r l) := by
  have h1 : ∀ l : Fin 128, IntOp.cmpi CmpIPredicate.slt (BitVec.ofNat 32 l) 64#32 = if (l : ℕ) < 64 then 1#1 else 0#1 := by
    decide +kernel
  have h2 : ∀ l : Fin 128, IntOp.cmpi CmpIPredicate.slt (BitVec.ofNat 32 (l % 64)) 32#32 = if (l : ℕ) % 64 < 32 then 1#1 else 0#1 := by
    decide +kernel
  pointwise [k0_pay1]
  rw [h1, lane_at, h2]
  by_cases hl : (l : ℕ) < 64
  · rw [dif_pos hl, if_pos hl, Cert.Rope.rope_sign, hC, hS]
    by_cases h : (l : ℕ) % 64 < 32
    · simp only [if_pos h, dif_pos h]
      have e : ((l : ℕ) + 128 - 96) % 128 = l + 32 := by omega
      simp only [e]
      rfl
    · simp only [if_neg h, dif_neg h]
      have e : ((l : ℕ) + 128 - 32) % 128 = l - 32 := by omega
      simp only [e]
      rfl
  · rw [dif_neg hl, if_neg hl]
    rfl

end Cert.QkvIdeal.Value

end
-- ==== Proof.QkvValue.lean ====
module

public import proofs.«01_k».proof.Proof.QkvBlock
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.QkvIdeal.Value

open Cert.QkvIdeal Cert.QkvIdeal.Gen

variable (m : (ℓ : Loc nD τ sig) → Buf (Elt Ideal) ℓ)

/-- The block each window holds at grid point `t`: row block `t` of the input, the tables and the results, the weights whole. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0] ∧ win0_10.index t = ![t.val, 0]
    ∧ win0_11.index t = ![t.val, 0] ∧ win0_12.index t = ![t.val, 0] :=
  (by decide +kernel : ∀ t : Fin grid0.N, _)

/-! The tables the host lines hand the call -/

/-- The rotary frequencies: the kernel's host lines. -/
def freq : FVec Ideal S32 .f32 :=
  Host.powf (broadcastInDim S32 ![] bcast_S_S32 (constant S_ .f32 0x48F42400#32))
    (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0)))))
      (broadcastInDim S32 ![] bcast_S_S32 (constant S_ .f32 0x42800000#32)))

/-- The rows' positions: the kernel's host lines. -/
def pos (p : IVec S2 32) : FVec Ideal S2x512 .f32 :=
  sitofp .f32 (addi (broadcastInDim S2x512 ![0, 1] bcast_S2x1_S2x512_0_1 (broadcastInDim S2x1 ![0] bcast_S2_S2x1_0 p))
    (broadcastInDim S2x512 ![0, 1] bcast_S1x512_S2x512_0_1 (broadcastInDim S1x512 ![1] bcast_S512_S1x512_1 (iotaInDim S512 32 0))))

/-- The rotary angles: the kernel's host lines. -/
def angles (p : FVec Ideal S2x512 .f32) (f : FVec Ideal S32 .f32) : FVec Ideal S1024x32 .f32 :=
  mulf (broadcastInDim S1024x32 ![0, 1] bcast_S1024x1_S1024x32_0_1 (shapeCast S1024x1 p shapeCasts_S2x512_S1024x1))
    (broadcastInDim S1024x32 ![0, 1] bcast_S1x32_S1024x32_0_1 (broadcastInDim S1x32 ![1] bcast_S32_S1x32_1 f))

/-- The kernel's rotary angles, from the positions' starts. -/
def ANG (p : IVec S2 32) : FVec Ideal S1024x32 .f32 := angles (pos p) freq

/-- An angle. -/
theorem ANG_at (p : IVec S2 32) (R : Fin 1024) (i : Fin 32) : ANG p (ix2 R i) = Cert.Rope.ang (p (ix1 ⟨R / 512, by omega⟩)) (R % 512) i := by
  unfold ANG Cert.Rope.ang
  pointwise [angles, pos, freq]

/-- The cosine table: a row's cosines four times over. -/
def cosT (a : FVec Ideal S1024x32 .f32) : FVec Ideal S1024x128 .f32 :=
  concatenate S1024x128 1 [⟨S1024x32, Host.cos a⟩, ⟨S1024x32, Host.cos a⟩, ⟨S1024x32, Host.cos a⟩, ⟨S1024x32, Host.cos a⟩] concatenates_S1024x32_S1024x32_S1024x32_S1024x32_S1024x128_d1

/-- The sine table: a row's sines negated, then as they are, twice over. -/
def sinT (a : FVec Ideal S1024x32 .f32) : FVec Ideal S1024x128 .f32 :=
  concatenate S1024x128 1 [⟨S1024x32, Host.negf (Host.sin a)⟩, ⟨S1024x32, Host.sin a⟩, ⟨S1024x32, Host.negf (Host.sin a)⟩, ⟨S1024x32, Host.sin a⟩] concatenates_S1024x32_S1024x32_S1024x32_S1024x32_S1024x128_d1

theorem cosT_at (a : FVec Ideal S1024x32 .f32) (R : Fin 1024) (l : Fin 128) : cosT a (ix2 R l) = Ideal.cos (a (ix2 R ⟨l % 32, by omega⟩)) := by
  pointwise [cosT]
  split_ifs <;> (congr 3; ext; simp; omega)

theorem sinT_at (a : FVec Ideal S1024x32 .f32) (R : Fin 1024) (l : Fin 128) : sinT a (ix2 R l)
    = if (l : ℕ) % 64 < 32 then -Ideal.sin (a (ix2 R ⟨l % 32, by omega⟩)) else Ideal.sin (a (ix2 R ⟨l % 32, by omega⟩)) := by
  pointwise [sinT]
  have h : ∀ (k : ℕ) (hk : k < 32), k = (l : ℕ) % 32 → a (ix2 R ⟨k, hk⟩) = a (ix2 R ⟨l % 32, by omega⟩) := by
    intro k hk e
    subst e
    rfl
  split_ifs <;> (rw [h _ _ (by omega)]; first | (exfalso; omega) | rw [if_pos (by omega)] | rw [if_neg (by omega)])

/-- The key and value weights' scales as one row. -/
def rowSkv (sk sv : FVec Ideal S64 .f32) : FVec Ideal S1x128 .f32 :=
  shapeCast S1x128 (concatenate S128 0 [⟨S64, sk⟩, ⟨S64, sv⟩] concatenates_S64_S64_S128_d0) shapeCasts_S128_S1x128

theorem rowSkv_at (sk sv : FVec Ideal S64 .f32) (n : Fin 128) : rowSkv sk sv (ix2 0 n)
    = if h : (n : ℕ) < 64 then sk (ix1 ⟨n, h⟩) else sv (ix1 ⟨n - 64, by omega⟩) := by
  pointwise [rowSkv]

section
variable (c : Dev nD)

theorem V_v0 : V m c main_v0 = Cert.QkvRefIdeal.Value.rowsX (m ((c : Thread nD τ).loc main_arg0)) := by
  entry_read
  rfl
theorem V_v30 : V m c main_v30 = Cert.QkvRefIdeal.Value.rowG (m ((c : Thread nD τ).loc main_arg2)) := by
  entry_read
  rfl
theorem V_v31 : V m c main_v31 = Cert.QkvRefIdeal.Value.rowSq (m ((c : Thread nD τ).loc main_arg4)) := by
  entry_read
  rfl
theorem V_v29 : V m c main_v29 = rowSkv (m ((c : Thread nD τ).loc main_arg6)) (m ((c : Thread nD τ).loc main_arg8)) := by
  entry_read
  rfl
theorem V_v25 : V m c main_v25 = cosT (ANG (m ((c : Thread nD τ).loc main_arg1))) := by
  show StableHlo.after hostOps0 _ (Proc.devRef .tc main_v25) = _
  after_reads_simp
  rfl
theorem V_v27 : V m c main_v27 = sinT (ANG (m ((c : Thread nD τ).loc main_arg1))) := by
  show StableHlo.after hostOps0 _ (Proc.devRef .tc main_v27) = _
  after_reads_simp
  rfl
end

section
variable (c : Dev nD) (t : Fin cfg0.N)

theorem blk1 : iblk m c 1 t = Cert.QkvRefIdeal.Value.rowG (m ((c : Thread nD τ).loc main_arg2)) := by
  rw [← V_v30]
  blk_ext! [iblk, idx t]
theorem blk2 : iblk m c 2 t = (m ((c : Thread nD τ).loc main_arg3)) := by blk_ext! [iblk, V, idx t]
theorem blk3 : iblk m c 3 t = (m ((c : Thread nD τ).loc main_arg5)) := by blk_ext! [iblk, V, idx t]
theorem blk4 : iblk m c 4 t = (m ((c : Thread nD τ).loc main_arg7)) := by blk_ext! [iblk, V, idx t]
theorem blk5 : iblk m c 5 t = Cert.QkvRefIdeal.Value.rowSq (m ((c : Thread nD τ).loc main_arg4)) := by
  rw [← V_v31]
  blk_ext! [iblk, idx t]
theorem blk6 : iblk m c 6 t = rowSkv (m ((c : Thread nD τ).loc main_arg6)) (m ((c : Thread nD τ).loc main_arg8)) := by
  rw [← V_v29]
  blk_ext! [iblk, idx t]

theorem blk7_at (r l : Fin 128) (R : Fin 1024) (hR : (R : ℕ) = t.val * 128 + r) : iblk m c 7 t (ix2 r l) = cosT (ANG (m ((c : Thread nD τ).loc main_arg1))) (ix2 R l) := by
  rw [← V_v25]
  blk_ext! [iblk, idx t]
theorem blk8_at (r l : Fin 128) (R : Fin 1024) (hR : (R : ℕ) = t.val * 128 + r) : iblk m c 8 t (ix2 r l) = sinT (ANG (m ((c : Thread nD τ).loc main_arg1))) (ix2 R l) := by
  rw [← V_v27]
  blk_ext! [iblk, idx t]
theorem blk0_at (r : Fin 128) (l : Fin 8192) (R : Fin 1024) (hR : (R : ℕ) = t.val * 128 + r) : iblk m c 0 t (ix2 r l) = Cert.QkvRefIdeal.Value.rowsX (m ((c : Thread nD τ).loc main_arg0)) (ix2 R l) := by
  rw [← V_v0]
  blk_ext! [iblk, idx t]
end

/-! The values of a block -/

section
variable (x : FVec Ideal S128x8192 .bf16) (g : FVec Ideal S1x8192 .bf16)
/-- A block's normalised rows. -/
def nv : FVec Ideal S128x8192 .f32 := k0_pay3 x g
/-- Their greatest magnitudes. -/
def na : FVec Ideal S128x1 .f32 := amax (nv x g)
/-- Their codes. -/
def nq : FVec Ideal S128x8192 .fp8e4m3 := k0_pay9 (nv x g) (na x g) (thr (na x g)) (countLines (thr (na x g)))
/-- Their scales. -/
def ns : FVec Ideal S128x1 .f32 := k0_pay8 (na x g) (thr (na x g)) (countLines (thr (na x g)))

theorem nq_eq : k0_pay9 (F := Ideal) (k0_pay3 x g) (k0_pay4 x g) (k0_pay5 x g) (k0_pay6 (F := Ideal) x g) = nq x g := by
  rw [pay4_eq, pay5_eq, pay6_eq]
  rfl
theorem ns_eq : k0_pay8 (F := Ideal) (k0_pay4 x g) (k0_pay5 x g) (k0_pay6 (F := Ideal) x g) = ns x g := by
  rw [pay4_eq, pay5_eq, pay6_eq]
  rfl
end

section
variable (c : Dev nD)

/-- The scratch holds the key and value weights after every point: the first writes them, no other writes. -/
theorem scratch : ∀ (n : ℕ) (hn : n < cfg0.N), (outsAt0 m c n hn).2.2.2.2 = k0_pay2 (m ((c : Thread nD τ).loc main_arg5)) (m ((c : Thread nD τ).loc main_arg7)) := by
  intro n
  induction n with
  | zero =>
    intro hn
    rw [show outsAt0 m c 0 hn = _ from outsAt0_A m c ⟨0, hn⟩ (by rfl)]
    funext y
    frame_out
    rw [blk3, blk4]
  | succ n ih =>
    intro hn
    by_cases h0 : (n + 1) % 8 = 0
    · rw [show outsAt0 m c (n + 1) hn = _ from outsAt0_A m c ⟨n + 1, hn⟩ h0]
      funext y
      frame_out
      rw [blk3, blk4]
    · rw [show outsAt0 m c (n + 1) hn = _ from outsAt0_B m c ⟨n + 1, hn⟩ h0]
      dsimp only
      exact ih (Nat.lt_of_succ_lt hn)

/-- The codes a point leaves. -/
theorem outs_codes (t : Fin cfg0.N) : (outsAt0 m c t.val t.isLt).1 = nq (iblk m c 0 t) (iblk m c 1 t) := by
  funext y
  by_cases h0 : t.val % 8 = 0
  · rw [outsAt0_A m c t h0]
    frame_out
    rw [nq_eq]
  · rw [outsAt0_B m c t h0]
    frame_out
    rw [nq_eq]

/-- The scales a point leaves. -/
theorem outs_scales (t : Fin cfg0.N) : (outsAt0 m c t.val t.isLt).2.1 = ns (iblk m c 0 t) (iblk m c 1 t) := by
  funext y
  by_cases h0 : t.val % 8 = 0
  · rw [outsAt0_A m c t h0]
    frame_out
    rw [ns_eq]
  · rw [outsAt0_B m c t h0]
    frame_out
    rw [ns_eq]

/-- The queries a point leaves. -/
theorem outs_q (t : Fin cfg0.N) : (outsAt0 m c t.val t.isLt).2.2.1
    = queries (linear (nq (iblk m c 0 t) (iblk m c 1 t)) (ns (iblk m c 0 t) (iblk m c 1 t)) (iblk m c 2 t) (iblk m c 5 t)) (iblk m c 7 t) (iblk m c 8 t) := by
  funext y
  unfold queries
  by_cases h0 : t.val % 8 = 0
  · rw [outsAt0_A m c t h0]
    frame_out
    simp only [pay10_id, pay11_id, st0, st1, st2, st3, st4, st5, st6, st7, pay12_eq, nq_eq, ns_eq]
  · rw [outsAt0_B m c t h0]
    frame_out
    simp only [pay10_id, pay11_id, st0, st1, st2, st3, st4, st5, st6, st7, pay12_eq, nq_eq, ns_eq]

/-- The keys and values a point leaves. -/
theorem outs_kv (t : Fin cfg0.N) : (outsAt0 m c t.val t.isLt).2.2.2.1
    = k0_pay1 (iblk m c 7 t) (iblk m c 8 t) (k0_pay31 (ns (iblk m c 0 t) (iblk m c 1 t)) (nq (iblk m c 0 t) (iblk m c 1 t)) (k0_pay2 (m ((c : Thread nD τ).loc main_arg5)) (m ((c : Thread nD τ).loc main_arg7))) (iblk m c 6 t)) k0_pay32 := by
  funext y
  by_cases h0 : t.val % 8 = 0
  · rw [outsAt0_A m c t h0]
    frame_out
    rw [pay10_id, pay11_id, nq_eq, ns_eq, blk3, blk4]
  · rw [outsAt0_B m c t h0]
    frame_out
    rw [pay10_id, pay11_id, nq_eq, ns_eq, scratch]
    refine congrFun (congrArg (fun z => k0_pay1 _ _ (k0_pay31 _ _ z _) k0_pay32) ?_) y
    exact Memref.IsWhole.read_unread (Memref.isWhole_whole _) _
end

end Cert.QkvIdeal.Value

end
-- ==== Proof.QkvFinal.lean ====
module

public import proofs.«01_k».proof.Proof.QkvValue
public import proofs.«01_k».proof.Proof.QkvRefTail

@[expose] public section

set_option maxRecDepth 16384

noncomputable section

open Idealize.ShloMosaic Idealize.ShloMosaic.TcCoe Idealize.SL.Sem
open Idealize.ShloMosaic.Pipeline (Dat)

namespace Cert.QkvIdeal.Value

open Cert.QkvIdeal Cert.QkvIdeal.Gen

variable (m : (ℓ : Loc nD τ sig) → Buf (Elt Ideal) ℓ)

section
variable (c : Dev nD) (t : Fin cfg0.N) (r : Fin 128) (R : Fin 1024) (hR : (R : ℕ) = t.val * 128 + r)
include hR

/-- The normalised rows: the kernel's block at `(r, l)` is the reference at `(R, l)`. -/
theorem v_at (l : Fin 8192) : nv (iblk m c 0 t) (iblk m c 1 t) (ix2 r l) = Cert.QkvRefIdeal.Value.REFv (m ((c : Thread nD τ).loc main_arg0)) (m ((c : Thread nD τ).loc main_arg2)) (ix2 R l) := by
  rw [blk1]
  pointwise [nv, k0_pay3, Cert.QkvRefIdeal.Value.REFv, Cert.QkvRefIdeal.Gen.k0_pay4]
  simp only [blk0_at m c t r _ R hR]

/-- The rows' greatest magnitudes agree. -/
theorem a_at : na (iblk m c 0 t) (iblk m c 1 t) (ix2 r 0) = Cert.QkvRefIdeal.Value.REFa (m ((c : Thread nD τ).loc main_arg0)) (m ((c : Thread nD τ).loc main_arg2)) (ix2 R 0) := by
  unfold na Cert.QkvRefIdeal.Value.REFa
  rw [amax_at, Cert.QkvRefIdeal.Value.amax_at]
  exact Finset.fold_congr fun l _ => congrArg _ (v_at m c t r R hR l)

/-- The codes agree. -/
theorem q_at (l : Fin 8192) : nq (iblk m c 0 t) (iblk m c 1 t) (ix2 r l) = Cert.QkvRefIdeal.Value.REFq (m ((c : Thread nD τ).loc main_arg0)) (m ((c : Thread nD τ).loc main_arg2)) (ix2 R l) := by
  unfold nq Cert.QkvRefIdeal.Value.REFq
  rw [code_at', Cert.QkvRefIdeal.Value.code_at', a_at m c t r R hR, v_at m c t r R hR]

/-- The row scales agree. -/
theorem s_at : ns (iblk m c 0 t) (iblk m c 1 t) (ix2 r 0) = Cert.QkvRefIdeal.Value.REFs (m ((c : Thread nD τ).loc main_arg0)) (m ((c : Thread nD τ).loc main_arg2)) (ix2 R 0) := by
  unfold ns Cert.QkvRefIdeal.Value.REFs
  rw [scale_at', Cert.QkvRefIdeal.Value.scale_at', a_at m c t r R hR]

/-- The cosine table's block holds the cosines of the row's angles. -/
theorem cos_at (l : Fin 128) : iblk m c 7 t (ix2 r l) = Ideal.cos (Cert.Rope.ang ((m ((c : Thread nD τ).loc main_arg1)) (ix1 ⟨R / 512, by omega⟩)) (R % 512) (l % 32)) := by
  rw [blk7_at m c t r l R hR, cosT_at, ANG_at]

/-- The sine table's block holds the signed sines of the row's angles. -/
theorem sin_at (l : Fin 128) : iblk m c 8 t (ix2 r l) = if (l : ℕ) % 64 < 32
    then -Ideal.sin (Cert.Rope.ang ((m ((c : Thread nD τ).loc main_arg1)) (ix1 ⟨R / 512, by omega⟩)) (R % 512) (l % 32))
    else Ideal.sin (Cert.Rope.ang ((m ((c : Thread nD τ).loc main_arg1)) (ix1 ⟨R / 512, by omega⟩)) (R % 512) (l % 32)) := by
  rw [blk8_at m c t r l R hR, sinT_at, ANG_at]

/-- The queries before the rotation agree. -/
theorem lin_at (n : Fin 1024) : linear (nq (iblk m c 0 t) (iblk m c 1 t)) (ns (iblk m c 0 t) (iblk m c 1 t)) (iblk m c 2 t) (iblk m c 5 t) (ix2 r n)
    = Cert.QkvRefIdeal.Value.linear (Cert.QkvRefIdeal.Value.REFq (m ((c : Thread nD τ).loc main_arg0)) (m ((c : Thread nD τ).loc main_arg2))) (Cert.QkvRefIdeal.Value.REFs (m ((c : Thread nD τ).loc main_arg0)) (m ((c : Thread nD τ).loc main_arg2))) (m ((c : Thread nD τ).loc main_arg3)) (Cert.QkvRefIdeal.Value.rowSq (m ((c : Thread nD τ).loc main_arg4))) (ix2 R n) := by
  rw [linear_at, Cert.QkvRefIdeal.Value.linear_at, blk2, blk5, s_at m c t r R hR]
  simp only [q_at m c t r R hR]

/-- The queries agree. -/
theorem queries_eq (n : Fin 1024) : queries (linear (nq (iblk m c 0 t) (iblk m c 1 t)) (ns (iblk m c 0 t) (iblk m c 1 t)) (iblk m c 2 t) (iblk m c 5 t)) (iblk m c 7 t) (iblk m c 8 t) (ix2 r n)
    = Cert.QkvRefIdeal.Value.outQ (Cert.QkvRefIdeal.Value.linear (Cert.QkvRefIdeal.Value.REFq (m ((c : Thread nD τ).loc main_arg0)) (m ((c : Thread nD τ).loc main_arg2))) (Cert.QkvRefIdeal.Value.REFs (m ((c : Thread nD τ).loc main_arg0)) (m ((c : Thread nD τ).loc main_arg2))) (m ((c : Thread nD τ).loc main_arg3)) (Cert.QkvRefIdeal.Value.rowSq (m ((c : Thread nD τ).loc main_arg4))))
      (Cert.QkvRefIdeal.Value.cosT (Cert.QkvRefIdeal.Value.ANG (m ((c : Thread nD τ).loc main_arg1)))) (Cert.QkvRefIdeal.Value.sinT (Cert.QkvRefIdeal.Value.ANG (m ((c : Thread nD τ).loc main_arg1)))) (ix2 R n) := by
  rw [Cert.QkvRefIdeal.Value.outQ_at, queries_at _ _ _ (Cert.Rope.ang ((m ((c : Thread nD τ).loc main_arg1)) (ix1 ⟨R / 512, by omega⟩)) (R % 512)) r n (cos_at m c t r R hR) (sin_at m c t r R hR)]
  exact congrArg (fun q => Cert.Rope.rope _ q _ n) (funext fun n => lin_at m c t r R hR n)

/-- The keys and values before the rotation agree. -/
theorem kv0_at (l : Fin 128) : k0_pay31 (ns (iblk m c 0 t) (iblk m c 1 t)) (nq (iblk m c 0 t) (iblk m c 1 t)) (k0_pay2 (m ((c : Thread nD τ).loc main_arg5)) (m ((c : Thread nD τ).loc main_arg7))) (iblk m c 6 t) (ix2 r l)
    = if h : (l : ℕ) < 64
      then Cert.QkvRefIdeal.Value.linear64 (Cert.QkvRefIdeal.Value.REFq (m ((c : Thread nD τ).loc main_arg0)) (m ((c : Thread nD τ).loc main_arg2))) (Cert.QkvRefIdeal.Value.REFs (m ((c : Thread nD τ).loc main_arg0)) (m ((c : Thread nD τ).loc main_arg2))) (m ((c : Thread nD τ).loc main_arg5)) (Cert.QkvRefIdeal.Value.rowSk (m ((c : Thread nD τ).loc main_arg6))) (ix2 R ⟨l, h⟩)
      else Cert.QkvRefIdeal.Value.linear64 (Cert.QkvRefIdeal.Value.REFq (m ((c : Thread nD τ).loc main_arg0)) (m ((c : Thread nD τ).loc main_arg2))) (Cert.QkvRefIdeal.Value.REFs (m ((c : Thread nD τ).loc main_arg0)) (m ((c : Thread nD τ).loc main_arg2))) (m ((c : Thread nD τ).loc main_arg7)) (Cert.QkvRefIdeal.Value.rowSk (m ((c : Thread nD τ).loc main_arg8))) (ix2 R ⟨l - 64, by omega⟩) := by
  have hs : ∀ (s : FVec Ideal S64 .f32) (n : Fin 64), Cert.QkvRefIdeal.Value.rowSk s (ix2 0 n) = s (ix1 n) := by
    intro s n
    unfold Cert.QkvRefIdeal.Value.rowSk
    pointwise
  rw [pay31_at, blk6, rowSkv_at, s_at m c t r R hR]
  simp only [q_at m c t r R hR]
  by_cases h : (l : ℕ) < 64
  · rw [dif_pos h, dif_pos h, Cert.QkvRefIdeal.Value.linear64_at, hs]
    congr 2
    exact Finset.sum_congr rfl fun k _ => by rw [pay2_at _ _ _ _ (by exact l.isLt), dif_pos h]
  · rw [dif_neg h, dif_neg h, Cert.QkvRefIdeal.Value.linear64_at, hs]
    congr 2
    exact Finset.sum_congr rfl fun k _ => by rw [pay2_at _ _ _ _ (by exact l.isLt), dif_neg h]

/-- The keys and values agree. -/
theorem kv_eq (l : Fin 128) : k0_pay1 (iblk m c 7 t) (iblk m c 8 t) (k0_pay31 (ns (iblk m c 0 t) (iblk m c 1 t)) (nq (iblk m c 0 t) (iblk m c 1 t)) (k0_pay2 (m ((c : Thread nD τ).loc main_arg5)) (m ((c : Thread nD τ).loc main_arg7))) (iblk m c 6 t)) k0_pay32 (ix2 r l)
    = Cert.QkvRefIdeal.Value.outKV (Cert.QkvRefIdeal.Value.linear64 (Cert.QkvRefIdeal.Value.REFq (m ((c : Thread nD τ).loc main_arg0)) (m ((c : Thread nD τ).loc main_arg2))) (Cert.QkvRefIdeal.Value.REFs (m ((c : Thread nD τ).loc main_arg0)) (m ((c : Thread nD τ).loc main_arg2))) (m ((c : Thread nD τ).loc main_arg5)) (Cert.QkvRefIdeal.Value.rowSk (m ((c : Thread nD τ).loc main_arg6))))
      (Cert.QkvRefIdeal.Value.linear64 (Cert.QkvRefIdeal.Value.REFq (m ((c : Thread nD τ).loc main_arg0)) (m ((c : Thread nD τ).loc main_arg2))) (Cert.QkvRefIdeal.Value.REFs (m ((c : Thread nD τ).loc main_arg0)) (m ((c : Thread nD τ).loc main_arg2))) (m ((c : Thread nD τ).loc main_arg7)) (Cert.QkvRefIdeal.Value.rowSk (m ((c : Thread nD τ).loc main_arg8))))
      (Cert.QkvRefIdeal.Value.cosT (Cert.QkvRefIdeal.Value.ANG (m ((c : Thread nD τ).loc main_arg1)))) (Cert.QkvRefIdeal.Value.sinT (Cert.QkvRefIdeal.Value.ANG (m ((c : Thread nD τ).loc main_arg1)))) (ix2 R l) := by
  rw [Cert.QkvRefIdeal.Value.outKV_at, keys_at (iblk m c 7 t) (iblk m c 8 t) _ (Cert.Rope.ang ((m ((c : Thread nD τ).loc main_arg1)) (ix1 ⟨R / 512, by omega⟩)) (R % 512)) r l (cos_at m c t r R hR l) (sin_at m c t r R hR l)]
  by_cases h : (l : ℕ) < 64
  · rw [dif_pos h, dif_pos h]
    refine congrArg (fun q => Cert.Rope.rope _ q _ _) (funext fun n => ?_)
    rw [kv0_at m c t r R hR, dif_pos n.isLt]
  · rw [dif_neg h, dif_neg h, kv0_at m c t r R hR, dif_neg h]
end

/-- The kernel's codes after its run are the reference's. -/
theorem final9 (c : Dev nD) : (dats m 0 c).arrAt 9 (cfgs 0).N = Cert.QkvRefIdeal.Value.REFq (m ((c : Thread nD τ).loc main_arg0)) (m ((c : Thread nD τ).loc main_arg2)) := by
  refine (dats m 0 c).arrAt_eq_of_covers 9 _ (by decide +kernel) fun t _ y => ?_
  blk_simp
  rw [after0_9, outs_codes]
  idx_vars y
  obtain_idx i : S1024x8192 := [t.val * 128 + (y0 : ℕ), (y1 : ℕ)] with hi
  refine (q_at m c t y0 (i 0) hi0 y1).trans (congrArg _ ?_)
  blk_ext [idx t]

/-- The kernel's row scales after its run are the reference's. -/
theorem final10 (c : Dev nD) : (dats m 0 c).arrAt 10 (cfgs 0).N = Cert.QkvRefIdeal.Value.REFs (m ((c : Thread nD τ).loc main_arg0)) (m ((c : Thread nD τ).loc main_arg2)) := by
  refine (dats m 0 c).arrAt_eq_of_covers 10 _ (by decide +kernel) fun t _ y => ?_
  blk_simp
  rw [after0_10, outs_scales]
  idx_vars y
  obtain_idx i : S1024x1 := [t.val * 128 + (y0 : ℕ), (y1 : ℕ)] with hi
  obtain rfl : y1 = 0 := Subsingleton.elim _ _
  refine (s_at m c t y0 (i 0) hi0).trans (congrArg _ ?_)
  blk_ext [idx t]

/-- The kernel's queries after its run are the reference's. -/
theorem final11 (c : Dev nD) : (dats m 0 c).arrAt 11 (cfgs 0).N
    = Cert.QkvRefIdeal.Value.outQ (Cert.QkvRefIdeal.Value.linear (Cert.QkvRefIdeal.Value.REFq (m ((c : Thread nD τ).loc main_arg0)) (m ((c : Thread nD τ).loc main_arg2))) (Cert.QkvRefIdeal.Value.REFs (m ((c : Thread nD τ).loc main_arg0)) (m ((c : Thread nD τ).loc main_arg2))) (m ((c : Thread nD τ).loc main_arg3)) (Cert.QkvRefIdeal.Value.rowSq (m ((c : Thread nD τ).loc main_arg4))))
      (Cert.QkvRefIdeal.Value.cosT (Cert.QkvRefIdeal.Value.ANG (m ((c : Thread nD τ).loc main_arg1)))) (Cert.QkvRefIdeal.Value.sinT (Cert.QkvRefIdeal.Value.ANG (m ((c : Thread nD τ).loc main_arg1)))) := by
  refine (dats m 0 c).arrAt_eq_of_covers 11 _ (by decide +kernel) fun t _ y => ?_
  blk_simp
  rw [after0_11, outs_q]
  idx_vars y
  obtain_idx i : S1024x1024 := [t.val * 128 + (y0 : ℕ), (y1 : ℕ)] with hi
  refine (queries_eq m c t y0 (i 0) hi0 y1).trans (congrArg _ ?_)
  blk_ext [idx t]

/-- The kernel's keys and values after its run are the reference's. -/
theorem final12 (c : Dev nD) : (dats m 0 c).arrAt 12 (cfgs 0).N
    = Cert.QkvRefIdeal.Value.outKV (Cert.QkvRefIdeal.Value.linear64 (Cert.QkvRefIdeal.Value.REFq (m ((c : Thread nD τ).loc main_arg0)) (m ((c : Thread nD τ).loc main_arg2))) (Cert.QkvRefIdeal.Value.REFs (m ((c : Thread nD τ).loc main_arg0)) (m ((c : Thread nD τ).loc main_arg2))) (m ((c : Thread nD τ).loc main_arg5)) (Cert.QkvRefIdeal.Value.rowSk (m ((c : Thread nD τ).loc main_arg6))))
      (Cert.QkvRefIdeal.Value.linear64 (Cert.QkvRefIdeal.Value.REFq (m ((c : Thread nD τ).loc main_arg0)) (m ((c : Thread nD τ).loc main_arg2))) (Cert.QkvRefIdeal.Value.REFs (m ((c : Thread nD τ).loc main_arg0)) (m ((c : Thread nD τ).loc main_arg2))) (m ((c : Thread nD τ).loc main_arg7)) (Cert.QkvRefIdeal.Value.rowSk (m ((c : Thread nD τ).loc main_arg8))))
      (Cert.QkvRefIdeal.Value.cosT (Cert.QkvRefIdeal.Value.ANG (m ((c : Thread nD τ).loc main_arg1)))) (Cert.QkvRefIdeal.Value.sinT (Cert.QkvRefIdeal.Value.ANG (m ((c : Thread nD τ).loc main_arg1)))) := by
  refine (dats m 0 c).arrAt_eq_of_covers 12 _ (by decide +kernel) fun t _ y => ?_
  blk_simp
  rw [after0_12, outs_kv]
  idx_vars y
  obtain_idx i : S1024x128 := [t.val * 128 + (y0 : ℕ), (y1 : ℕ)] with hi
  refine (kv_eq m c t y0 (i 0) hi0 y1).trans (congrArg _ ?_)
  blk_ext [idx t]

end Cert.QkvIdeal.Value

end
-- ==== Proof.FfRefValue.lean ====
module

public import proofs.«01_k».proof.Proof.Gen.FfRefIdeal.Frame
public import proofs.«01_k».proof.Proof.Quantise

@[expose] public section

set_option maxRecDepth 16384

noncomputable section

open Idealize.ShloMosaic Idealize.ShloMosaic.TcCoe Idealize.SL.Sem
open Idealize.ShloMosaic.Pipeline (Dat)

namespace Cert.FfRefIdeal.Value

open Cert.FfRefIdeal Cert.FfRefIdeal.Gen

variable (m : (ℓ : Loc nD τ sig) → Buf (Elt Ideal) ℓ)

/-- Every window's block of the reference's one grid point is its whole array. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] :=
  (by decide +kernel : ∀ t : Fin grid0.N, _)

/-! ## The quantiser on rows, in numbers -/

/-- The greatest magnitude in row `R`. -/
def rowmax (X : FVec Ideal S1024x4096 .f32) (R : Fin 1024) : EReal :=
  Finset.fold max (Ideal.ofBits .f32 0xFF800000#32) (fun l : Fin 4096 => FloatOps.absf (F := Ideal) (φ := .f32) (X (ix2 R l))) Finset.univ

/-- The scale of row `R`. -/
def SCALE (X : FVec Ideal S1024x4096 .f32) (R : Fin 1024) : EReal :=
  Ideal.exp2 (Cert.Quantise.refExp (rowmax X R) (rowmax X R * Ideal.ofBits .f32 0x3B124925#32))

/-- The code of row `R`, column `l`: the value over the row's scale, clipped to ±448. -/
def CODE (X : FVec Ideal S1024x4096 .f32) (R : Fin 1024) (l : Fin 4096) : EReal :=
  min (Ideal.ofBits .f32 0x43E00000#32) (max (Ideal.ofBits .f32 0xC3E00000#32) (X (ix2 R l) *
    Ideal.exp2 (0 - Cert.Quantise.refExp (rowmax X R) (rowmax X R * Ideal.ofBits .f32 0x3B124925#32))))

/-- The codes of all rows. -/
def QUANT (X : FVec Ideal S1024x4096 .f32) : FVec Ideal S1024x4096 .fp8e4m3 := fun y => CODE X (y 0) (y 1)
/-- The scales of all rows. -/
def SCALES (X : FVec Ideal S1024x4096 .f32) : FVec Ideal S1024x1 .f32 := fun y => SCALE X (y 0)

/-! ## The reference's lines -/

/-- A row's exponent before clipping, from its greatest magnitude `v`. -/
def logLines (v : FVec Ideal S1024x1 .f32) : FVec Ideal S1024x1 .f32 :=
  addf (floor (divf (log (mulf v (broadcast S1024x1 (Scalar.ofBits .f32 0x3B124925#32)))) (log (broadcast S1024x1 (Scalar.ofBits .f32 0x40000000#32)))))
    (broadcast S1024x1 (Scalar.ofBits .f32 0x3F800000#32))

/-- Those lines at a row. -/
theorem logLines_at (v : FVec Ideal S1024x1 .f32) (R : Fin 1024) :
    logLines v (ix2 R 0) = Cert.Quantise.logExp (v (ix2 R 0) * Ideal.ofBits .f32 0x3B124925#32) := by
  unfold Cert.Quantise.logExp
  pointwise [logLines]

/-- The clipped exponent. -/
def clipLines (v : FVec Ideal S1024x1 .f32) : FVec Ideal S1024x1 .f32 :=
  minimumf (broadcast S1024x1 (Scalar.ofBits .f32 0x42F00000#32)) (maximumf (broadcast S1024x1 (Scalar.ofBits .f32 0xC2FC0000#32)) v)

/-- Whether a row is all zeros. -/
def zeroLines (v : FVec Ideal S1024x1 .f32) : IVec S1024x1 1 := cmpf .oeq v (broadcast S1024x1 (Scalar.ofBits .f32 0x00000000#32))

/-- A row's greatest magnitude. -/
def amax (v : FVec Ideal S1024x4096 .f32) : FVec Ideal S1024x1 .f32 :=
  shapeCast S1024x1 (multiReduction .maximumf [1] S1024 (absf v) 0xFF800000#32 reduces_S1024x4096_S1024 (.inl rfl) rfl) shapeCasts_S1024_S1024x1

/-- A row's greatest magnitude, as a fold over its columns. -/
theorem amax_at (v : FVec Ideal S1024x4096 .f32) (R : Fin 1024) : amax v (ix2 R 0) = rowmax v R := by
  unfold rowmax
  pointwise [amax]

/-- The printed clipped exponents are those lines of the hidden values. -/
theorem pay6_eq (v0 v1 v2 v3 v4 v6) : k0_pay6 (F := Ideal) v0 v1 v2 v3 v4 v6 = clipLines (logLines (amax (k0_pay4 (F := Ideal) v0 v1 v2 v3 v4 v6))) := by
  delta k0_pay6 k0_pay5 clipLines logLines amax
  rfl

/-- The printed test for zero rows is those lines of the hidden values. -/
theorem pay7_eq (v0 v1 v2 v3 v4 v6) : k0_pay7 (F := Ideal) v0 v1 v2 v3 v4 v6 = zeroLines (amax (k0_pay4 (F := Ideal) v0 v1 v2 v3 v4 v6)) := by
  delta k0_pay7 k0_pay5 zeroLines amax
  rfl

/-- The frame's name for the clipped exponents is those lines of the blocks' hidden values. -/
theorem pay8_eq (x0 x1 x2 x3 x4 x5) : k0_pay8 (F := Ideal) x0 x1 x2 x3 x4 x5 = clipLines (logLines (amax (k0_pay4 (F := Ideal) x0 x1 x2 x3 x4 x5))) := by
  rw [← pay6_eq]
  unfold k0_pay8
  simp (disch := decide) only [View.ld_unit_lit']

/-- The frame's name for the zero rows is those lines of the blocks' hidden values. -/
theorem pay9_eq (x0 x1 x2 x3 x4 x5) : k0_pay9 (F := Ideal) x0 x1 x2 x3 x4 x5 = zeroLines (amax (k0_pay4 (F := Ideal) x0 x1 x2 x3 x4 x5)) := by
  rw [← pay7_eq]
  unfold k0_pay9
  simp (disch := decide) only [View.ld_unit_lit']

/-- The scale at a row, from the greatest magnitude `a` and the exponent before clipping `e`. -/
theorem scale_at (a e : FVec Ideal S1024x1 .f32) (R : Fin 1024) : k0_pay2 (F := Ideal) (clipLines e) (zeroLines a) (ix2 R 0)
    = Ideal.exp2 (if a (ix2 R 0) = 0 then 0 else min (Ideal.ofBits .f32 0x42F00000#32) (max (Ideal.ofBits .f32 0xC2FC0000#32) (e (ix2 R 0)))) := by
  pointwise [k0_pay2, k0_pay1, clipLines, zeroLines]
  rfl

/-- A code, from the value `v`, the row's greatest magnitude `a` and the exponent before clipping `e`. -/
theorem code_at (v : FVec Ideal S1024x4096 .f32) (a e : FVec Ideal S1024x1 .f32) (R : Fin 1024) (l : Fin 4096) :
    k0_pay3 (F := Ideal) v (clipLines e) (zeroLines a) (ix2 R l)
    = min (Ideal.ofBits .f32 0x43E00000#32) (max (Ideal.ofBits .f32 0xC3E00000#32) (v (ix2 R l) *
        Ideal.exp2 (0 - if a (ix2 R 0) = 0 then 0 else min (Ideal.ofBits .f32 0x42F00000#32) (max (Ideal.ofBits .f32 0xC2FC0000#32) (e (ix2 R 0)))))) := by
  pointwise [k0_pay3, k0_pay1, clipLines, zeroLines]
  rfl

/-- The reference's scale at a row. -/
theorem scale_at' (X : FVec Ideal S1024x4096 .f32) (R : Fin 1024) : k0_pay2 (F := Ideal) (clipLines (logLines (amax X))) (zeroLines (amax X)) (ix2 R 0) = SCALE X R := by
  rw [scale_at, logLines_at, amax_at]
  unfold SCALE Cert.Quantise.refExp Cert.Quantise.clipExp
  rfl

/-- The reference's code at a row and column. -/
theorem code_at' (X : FVec Ideal S1024x4096 .f32) (R : Fin 1024) (l : Fin 4096) :
    k0_pay3 (F := Ideal) X (clipLines (logLines (amax X))) (zeroLines (amax X)) (ix2 R l) = CODE X R l := by
  rw [code_at, logLines_at, amax_at]
  unfold CODE Cert.Quantise.refExp Cert.Quantise.clipExp
  rfl

section
variable (xm : FVec Ideal S1024x8192 .fp8e4m3) (xms : FVec Ideal S1024x1 .f32) (wg wu : FVec Ideal S8192x4096 .fp8e4m3)
  (sg su : FVec Ideal S4096 .f32)

/-- The column scales as one row. -/
def rowS (s : FVec Ideal S4096 .f32) : FVec Ideal S1x4096 .f32 := shapeCast S1x4096 s (by decide)
/-- The hidden values the reference quantises. -/
def REFh : FVec Ideal S1024x4096 .f32 := k0_pay4 xm xms wg wu (rowS sg) (rowS su)

end

section
variable (c : Dev nD)

/-- The activations as the reference reads them. -/
theorem blk0 : iblk m c 0 t0_0 = m ((c : Thread nD τ).loc main_arg0) := by blk_ext! [iblk, V, idx t0_0]
/-- Their row scales as the reference reads them. -/
theorem blk1 : iblk m c 1 t0_0 = m ((c : Thread nD τ).loc main_arg1) := by blk_ext! [iblk, V, idx t0_0]
/-- The gate's weights as the reference reads them. -/
theorem blk2 : iblk m c 2 t0_0 = m ((c : Thread nD τ).loc main_arg2) := by blk_ext! [iblk, V, idx t0_0]
/-- The up projection's weights as the reference reads them. -/
theorem blk3 : iblk m c 3 t0_0 = m ((c : Thread nD τ).loc main_arg3) := by blk_ext! [iblk, V, idx t0_0]
/-- The gate's column scales as the reference reads them. -/
theorem blk4 : iblk m c 4 t0_0 = rowS (m ((c : Thread nD τ).loc main_arg4)) := by
  funext j
  unfold rowS
  blk_simp [iblk, idx t0_0]
  entry_read
  pointwise
  blk_ext [idx t0_0]
/-- The up projection's column scales as the reference reads them. -/
theorem blk5 : iblk m c 5 t0_0 = rowS (m ((c : Thread nD τ).loc main_arg5)) := by
  funext j
  unfold rowS
  blk_simp [iblk, idx t0_0]
  entry_read
  pointwise
  blk_ext [idx t0_0]

/-- The reference's codes after its run. -/
theorem final6 : (dats m 0 c).arrAt 6 (cfgs 0).N
    = QUANT (REFh (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))) := by
  refine (dats m 0 c).arrAt_eq_of_after_last 6 t0_0 (by decide +kernel) _ fun j => ?_
  blk_simp
  rw [after0_6]
  frame_out
  rw [blk0, blk1, blk2, blk3, blk4, blk5, pay8_eq, pay9_eq]
  idx_vars j
  exact code_at' _ _ _

/-- The reference's row scales after its run. -/
theorem final7 : (dats m 0 c).arrAt 7 (cfgs 0).N
    = SCALES (REFh (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))) := by
  refine (dats m 0 c).arrAt_eq_of_after_last 7 t0_0 (by decide +kernel) _ fun j => ?_
  blk_simp
  rw [after0_7]
  frame_out
  rw [blk0, blk1, blk2, blk3, blk4, blk5, pay8_eq, pay9_eq]
  idx_vars j
  obtain rfl : j1 = 0 := Subsingleton.elim _ _
  exact scale_at' _ _
end

end Cert.FfRefIdeal.Value

end
-- ==== Proof.FfIdealValue.lean ====
module

public import proofs.«01_k».proof.Proof.FfIdealFrame
public import proofs.«01_k».proof.Proof.FfRefValue

@[expose] public section

set_option maxRecDepth 16384

noncomputable section

open Idealize.ShloMosaic Idealize.ShloMosaic.TcCoe Idealize.SL.Sem
open Idealize.ShloMosaic.Pipeline (Dat)

namespace Cert.FfIdeal.Value

open Cert.FfIdeal Cert.FfIdeal.Gen

variable (m : (ℓ : Loc nD τ sig) → Buf (Elt Ideal) ℓ)

/-- The block each window holds at grid point `t`: the activations whole, column block `t` of the weights and their scales, the
    results whole. -/
theorem idx : ∀ t : Fin cfg0.N, win0_0.index t = ![0, 0] ∧ win0_1.index t = ![0, 0] ∧ win0_2.index t = ![0, t.val]
    ∧ win0_3.index t = ![0, t.val] ∧ win0_4.index t = ![0, t.val] ∧ win0_5.index t = ![0, t.val] ∧ win0_6.index t = ![0, 0]
    ∧ win0_7.index t = ![0, 0] :=
  (by decide +kernel : ∀ t : Fin grid0.N, _)

/-! ## The quantiser's lines on a block of rows -/

/-- A row's greatest magnitude. -/
def amax (v : FVec Ideal S128x4096 .f32) : FVec Ideal S128x1 .f32 :=
  shapeCast S128x1 (multiReduction .maximumf [1] S128 (absf v) 0xFF800000#32 reduces_S128x4096_S128 (.inl rfl) rfl) shapeCasts_S128_S128x1

/-- A row's greatest magnitude, as a fold over its columns. -/
theorem amax_at (v : FVec Ideal S128x4096 .f32) (r : Fin 128) : amax v (ix2 r 0)
    = Finset.fold max (Ideal.ofBits .f32 0xFF800000#32) (fun l : Fin 4096 => FloatOps.absf (F := Ideal) (φ := .f32) (v (ix2 r l))) Finset.univ := by
  pointwise [amax]

/-- The exponent word of each row, from the rows' greatest magnitudes. -/
def expWord (v33 : FVec Ideal S128x1 .f32) : IVec S128x1 32 :=
  have v35 : FVec Ideal S128x1 .f32 := mulf v33 (broadcast S128x1 (Scalar.ofBits .f32 0x3B124925#32))
  have v38 : IVec S128x256 32 := addi (iota .tc S128x256 32 [1] iota_S128x256_d1_w32) (broadcast S128x256 1#32)
  have v40 : IVec S128x256 1 := cmpi .sle v38 (broadcast S128x256 246#32)
  have v43 : FVec Ideal S128x256 .f32 := bitcastToFloat .f32 (shli v38 (broadcast S128x256 23#32))
  have v45 : IVec S128x256 1 := cmpf .oge (broadcastTo S128x256 v35 broadcasts_S128x1_S128x256) v43
  have v47 : IVec S128x256 32 := extui 32 (andi v40 v45) natLt_1_32
  have v49 : IVec S128x1 32 := shapeCast S128x1 (multiReductionI .add [1] S128 v47 0#32 reduces_S128x256_S128 rfl) shapeCasts_S128_S128x1
  have v51 : IVec S128x1 32 := subi v49 (broadcast S128x1 126#32)
  have v53 : IVec S128x1 1 := cmpf .oeq v33 (broadcast S128x1 (Scalar.ofBits .f32 0x00000000#32))
  have v55 : IVec S128x1 1 := cmpf .oeq v35 (broadcast S128x1 (Scalar.ofBits .f32 0x00000000#32))
  select (ori v53 v55) (broadcast S128x1 0#32) v51

/-- The exponent word at a row. -/
theorem expWord_at (a : FVec Ideal S128x1 .f32) (r : Fin 128) :
    expWord a (ix2 r 0) = Cert.Quantise.kernelExp (a (ix2 r 0)) (a (ix2 r 0) * Ideal.ofBits .f32 0x3B124925#32) := by
  unfold Cert.Quantise.kernelExp Cert.Quantise.countExp
  pointwise [expWord]

/-- The printed lines are those. -/
theorem pay2_eq (v) : k0_pay2 (F := Ideal) v = expWord (amax v) := by
  delta k0_pay2 expWord amax
  rfl

/-- The scale at a row, assembled from the exponent word. -/
theorem scale_at (e : IVec S128x1 32) (r : Fin 128) : k0_pay4 (F := Ideal) e (ix2 r 0)
    = Ideal.ofBits .f32 (IntOp.shli ArithUnit.vector (IntOp.addi (e (ix2 r 0)) 127#32) 23#32) := by
  pointwise [k0_pay4]

/-- A code: the value times the inverse scale assembled from the negated exponent word, clipped. -/
theorem code_at (v : FVec Ideal S128x4096 .f32) (r : Fin 128) (l : Fin 4096) : k0_pay3 (F := Ideal) v (ix2 r l)
    = min (Ideal.ofBits .f32 0x43E00000#32) (max (Ideal.ofBits .f32 0xC3E00000#32) (v (ix2 r l) *
        Ideal.ofBits .f32 (IntOp.shli ArithUnit.vector (IntOp.addi (IntOp.subi 0#32 (k0_pay2 (F := Ideal) v (ix2 r 0))) 127#32) 23#32))) := by
  pointwise [k0_pay3]

section
variable (X : FVec Ideal S1024x4096 .f32) (v : FVec Ideal S128x4096 .f32) (r : Fin 128) (R : Fin 1024)
  (hv : ∀ l : Fin 4096, v (ix2 r l) = X (ix2 R l))
include hv

/-- A block's row that is row `R` of `X` has that row's greatest magnitude. -/
theorem amax_row : amax v (ix2 r 0) = Cert.FfRefIdeal.Value.rowmax X R := by
  rw [amax_at]
  unfold Cert.FfRefIdeal.Value.rowmax
  exact Finset.fold_congr fun l _ => congrArg _ (hv l)

/-- A block's row that is row `R` of `X` gets that row's codes. -/
theorem code_row (l : Fin 4096) : k0_pay3 (F := Ideal) v (ix2 r l) = Cert.FfRefIdeal.Value.CODE X R l := by
  rw [code_at, pay2_eq, expWord_at, Cert.Quantise.kernel_exp2_neg, amax_row X v r R hv, hv]
  rfl

/-- A block's row that is row `R` of `X` gets that row's scale. -/
theorem scale_row : k0_pay4 (F := Ideal) (k0_pay2 (F := Ideal) v) (ix2 r 0) = Cert.FfRefIdeal.Value.SCALE X R := by
  rw [scale_at, pay2_eq, expWord_at, Cert.Quantise.kernel_exp2, amax_row X v r R hv]
  rfl
end

/-! ## The eight blocks of rows -/

/-- The rows from `o` on that the last point reads of the scratch's contents `X`. -/
def rows (X : FVec Ideal S1024x4096 .f32) (o : ℕ) (inb : ∀ a, (![o, 0] : Fin 2 → ℕ) a + S128x4096.size a ≤ S1024x4096.size a) : FVec Ideal S128x4096 .f32 :=
  View.readAt (Elt Ideal) scM0_0.view (Rect.unit (s := S1024x4096) ![o, 0] S128x4096.size inb).toLoadRect ((Memref.isWhole_whole _).unread X)

/-- An element of the rows read is the element of `X` at that row. -/
theorem rows_at (X : FVec Ideal S1024x4096 .f32) (o : ℕ) (inb) (r : Fin 128) (R : Fin 1024) (hR : R.val = o + r.val) (l : Fin 4096) :
    rows X o inb (ix2 r l) = X (ix2 R l) := by
  unfold rows
  rw [View.readAt_eq_ld, Memref.IsWhole.read_unread]
  refine congrArg X (funext fun a => Fin.ext ?_)
  fin_cases a
  · show o + 1 * r.val = R.val
    omega
  · show 0 + 1 * l.val = l.val
    omega

/-- A block's codes are the quantised rows. -/
theorem code_piece (X : FVec Ideal S1024x4096 .f32) (o : ℕ) (inb) (x : S128x4096.Idx) (y : S1024x4096.Idx)
    (h0 : (y 0).val = o + (x 0).val) (h1 : (y 1).val = (x 1).val) :
    k0_pay3 (F := Ideal) (rows X o inb) x = Cert.FfRefIdeal.Value.QUANT X y := by
  rw [show x = ix2 (x 0) (x 1) from by funext a; fin_cases a <;> rfl]
  refine (code_row X _ (x 0) (y 0) (rows_at X o inb (x 0) (y 0) h0) (x 1)).trans ?_
  unfold Cert.FfRefIdeal.Value.QUANT
  exact congrArg _ (Fin.ext h1.symm)

/-- A block's scales are the rows' scales. -/
theorem scale_piece (X : FVec Ideal S1024x4096 .f32) (o : ℕ) (inb) (x : S128x1.Idx) (y : S1024x1.Idx)
    (h0 : (y 0).val = o + (x 0).val) :
    k0_pay4 (F := Ideal) (k0_pay2 (F := Ideal) (rows X o inb)) x = Cert.FfRefIdeal.Value.SCALES X y := by
  rw [show x = ix2 (x 0) 0 from by
    funext a
    fin_cases a
    · rfl
    · exact Subsingleton.elim (α := Fin 1) _ _]
  exact scale_row X _ (x 0) (y 0) (rows_at X o inb (x 0) (y 0) h0)

/-! The eight blocks print the same lines, cut at different places -/

/-- Block 1 computes its codes by the lines of block 0. -/
theorem code_eq1 (v : FVec Ideal S128x4096 .f32) : k0_pay7 (F := Ideal) v (k0_pay6 (F := Ideal) v) 127#32 = k0_pay3 (F := Ideal) v := by
  delta k0_pay7 k0_pay6 k0_pay5 k0_pay3 k0_pay2
  rfl
/-- Block 1 computes its scales by the lines of block 0. -/
theorem scale_eq1 (v : FVec Ideal S128x4096 .f32) : k0_pay8 (F := Ideal) (k0_pay5 (F := Ideal) v) = k0_pay4 (F := Ideal) (k0_pay2 (F := Ideal) v) := by
  delta k0_pay8 k0_pay5 k0_pay4 k0_pay2
  rfl

/-- Block 2 computes its codes by the lines of block 0. -/
theorem code_eq2 (v : FVec Ideal S128x4096 .f32) : k0_pay14 (F := Ideal) v (k0_pay9 (F := Ideal) v) (k0_pay10 (F := Ideal) v) (k0_pay11 (F := Ideal) v) k0_pay12 = k0_pay3 (F := Ideal) v := by
  delta k0_pay14 k0_pay13 k0_pay9 k0_pay10 k0_pay11 k0_pay12 k0_pay3 k0_pay2
  rfl
/-- Block 2 computes its scales by the lines of block 0. -/
theorem scale_eq2 (v : FVec Ideal S128x4096 .f32) : k0_pay15 (F := Ideal) (k0_pay9 (F := Ideal) v) (k0_pay10 (F := Ideal) v) (k0_pay11 (F := Ideal) v) k0_pay12 = k0_pay4 (F := Ideal) (k0_pay2 (F := Ideal) v) := by
  delta k0_pay15 k0_pay13 k0_pay9 k0_pay10 k0_pay11 k0_pay12 k0_pay4 k0_pay2
  rfl

/-- Block 3 computes its codes by the lines of block 0. -/
theorem code_eq3 (v : FVec Ideal S128x4096 .f32) : k0_pay20 (F := Ideal) v (k0_pay16 (F := Ideal) v) (k0_pay17 (F := Ideal) v) k0_pay18 246#32 = k0_pay3 (F := Ideal) v := by
  delta k0_pay20 k0_pay19 k0_pay16 k0_pay17 k0_pay18 k0_pay3 k0_pay2
  rfl
/-- Block 3 computes its scales by the lines of block 0. -/
theorem scale_eq3 (v : FVec Ideal S128x4096 .f32) : k0_pay21 (F := Ideal) (k0_pay16 (F := Ideal) v) (k0_pay17 (F := Ideal) v) k0_pay18 246#32 = k0_pay4 (F := Ideal) (k0_pay2 (F := Ideal) v) := by
  delta k0_pay21 k0_pay19 k0_pay16 k0_pay17 k0_pay18 k0_pay4 k0_pay2
  rfl

/-- Block 4 computes its codes by the lines of block 0. -/
theorem code_eq4 (v : FVec Ideal S128x4096 .f32) : k0_pay23 (F := Ideal) v = k0_pay3 (F := Ideal) v := by
  delta k0_pay23 k0_pay22 k0_pay3 k0_pay2
  rfl
/-- Block 4 computes its scales by the lines of block 0. -/
theorem scale_eq4 (v : FVec Ideal S128x4096 .f32) : k0_pay24 (F := Ideal) (k0_pay22 (F := Ideal) v) = k0_pay4 (F := Ideal) (k0_pay2 (F := Ideal) v) := by
  delta k0_pay24 k0_pay22 k0_pay4 k0_pay2
  rfl

/-- Block 5 computes its codes by the lines of block 0. -/
theorem code_eq5 (v : FVec Ideal S128x4096 .f32) : k0_pay27 (F := Ideal) v (k0_pay26 (F := Ideal) v) 127#32 = k0_pay3 (F := Ideal) v := by
  delta k0_pay27 k0_pay26 k0_pay25 k0_pay3 k0_pay2
  rfl
/-- Block 5 computes its scales by the lines of block 0. -/
theorem scale_eq5 (v : FVec Ideal S128x4096 .f32) : k0_pay28 (F := Ideal) (k0_pay25 (F := Ideal) v) = k0_pay4 (F := Ideal) (k0_pay2 (F := Ideal) v) := by
  delta k0_pay28 k0_pay25 k0_pay4 k0_pay2
  rfl

/-- Block 6 computes its codes by the lines of block 0. -/
theorem code_eq6 (v : FVec Ideal S128x4096 .f32) : k0_pay34 (F := Ideal) v (k0_pay29 (F := Ideal) v) (k0_pay30 (F := Ideal) v) (k0_pay31 (F := Ideal) v) k0_pay32 = k0_pay3 (F := Ideal) v := by
  delta k0_pay34 k0_pay33 k0_pay29 k0_pay30 k0_pay31 k0_pay32 k0_pay3 k0_pay2
  rfl
/-- Block 6 computes its scales by the lines of block 0. -/
theorem scale_eq6 (v : FVec Ideal S128x4096 .f32) : k0_pay35 (F := Ideal) (k0_pay29 (F := Ideal) v) (k0_pay30 (F := Ideal) v) (k0_pay31 (F := Ideal) v) k0_pay32 = k0_pay4 (F := Ideal) (k0_pay2 (F := Ideal) v) := by
  delta k0_pay35 k0_pay33 k0_pay29 k0_pay30 k0_pay31 k0_pay32 k0_pay4 k0_pay2
  rfl

/-- Block 7 computes its codes by the lines of block 0. -/
theorem code_eq7 (v : FVec Ideal S128x4096 .f32) : k0_pay40 (F := Ideal) v (k0_pay36 (F := Ideal) v) (k0_pay37 (F := Ideal) v) k0_pay38 246#32 = k0_pay3 (F := Ideal) v := by
  delta k0_pay40 k0_pay39 k0_pay36 k0_pay37 k0_pay38 k0_pay3 k0_pay2
  rfl
/-- Block 7 computes its scales by the lines of block 0. -/
theorem scale_eq7 (v : FVec Ideal S128x4096 .f32) : k0_pay41 (F := Ideal) (k0_pay36 (F := Ideal) v) (k0_pay37 (F := Ideal) v) k0_pay38 246#32 = k0_pay4 (F := Ideal) (k0_pay2 (F := Ideal) v) := by
  delta k0_pay41 k0_pay39 k0_pay36 k0_pay37 k0_pay38 k0_pay4 k0_pay2
  rfl

/-- The pieces the last point stores of the codes. -/
theorem pieces6 (c : Dev nD) (X : FVec Ideal S1024x4096 .f32) : (runT (F := Ideal) c (grid0.coords t15) (ms0_0 t15) (hs0_0 t15) (ms0_1 t15) (hs0_1 t15) (ms0_2 t15) (hs0_2 t15) (ms0_3 t15) (hs0_3 t15) (ms0_4 t15) (hs0_4 t15) (ms0_5 t15) (hs0_5 t15) (ms0_6 t15) (hs0_6 t15) (ms0_7 t15) (hs0_7 t15) scM0_0 (Memref.isWhole_whole _) hc15 X).1 =
    ([⟨Rect.unit (s := S1024x4096) ![896, 0] S128x4096.size inb_S1024x4096_S128x4096_896_0, k0_pay40 (F := Ideal) (rows X 896 inb_S1024x4096_S128x4096_896_0) (k0_pay36 (F := Ideal) (rows X 896 inb_S1024x4096_S128x4096_896_0)) (k0_pay37 (F := Ideal) (rows X 896 inb_S1024x4096_S128x4096_896_0)) k0_pay38 246#32⟩,
      ⟨Rect.unit (s := S1024x4096) ![768, 0] S128x4096.size inb_S1024x4096_S128x4096_768_0, k0_pay34 (F := Ideal) (rows X 768 inb_S1024x4096_S128x4096_768_0) (k0_pay29 (F := Ideal) (rows X 768 inb_S1024x4096_S128x4096_768_0)) (k0_pay30 (F := Ideal) (rows X 768 inb_S1024x4096_S128x4096_768_0)) (k0_pay31 (F := Ideal) (rows X 768 inb_S1024x4096_S128x4096_768_0)) k0_pay32⟩,
      ⟨Rect.unit (s := S1024x4096) ![640, 0] S128x4096.size inb_S1024x4096_S128x4096_640_0, k0_pay27 (F := Ideal) (rows X 640 inb_S1024x4096_S128x4096_640_0) (k0_pay26 (F := Ideal) (rows X 640 inb_S1024x4096_S128x4096_640_0)) 127#32⟩,
      ⟨Rect.unit (s := S1024x4096) ![512, 0] S128x4096.size inb_S1024x4096_S128x4096_512_0, k0_pay23 (F := Ideal) (rows X 512 inb_S1024x4096_S128x4096_512_0)⟩,
      ⟨Rect.unit (s := S1024x4096) ![384, 0] S128x4096.size inb_S1024x4096_S128x4096_384_0, k0_pay20 (F := Ideal) (rows X 384 inb_S1024x4096_S128x4096_384_0) (k0_pay16 (F := Ideal) (rows X 384 inb_S1024x4096_S128x4096_384_0)) (k0_pay17 (F := Ideal) (rows X 384 inb_S1024x4096_S128x4096_384_0)) k0_pay18 246#32⟩,
      ⟨Rect.unit (s := S1024x4096) ![256, 0] S128x4096.size inb_S1024x4096_S128x4096_256_0, k0_pay14 (F := Ideal) (rows X 256 inb_S1024x4096_S128x4096_256_0) (k0_pay9 (F := Ideal) (rows X 256 inb_S1024x4096_S128x4096_256_0)) (k0_pay10 (F := Ideal) (rows X 256 inb_S1024x4096_S128x4096_256_0)) (k0_pay11 (F := Ideal) (rows X 256 inb_S1024x4096_S128x4096_256_0)) k0_pay12⟩,
      ⟨Rect.unit (s := S1024x4096) ![128, 0] S128x4096.size inb_S1024x4096_S128x4096_128_0, k0_pay7 (F := Ideal) (rows X 128 inb_S1024x4096_S128x4096_128_0) (k0_pay6 (F := Ideal) (rows X 128 inb_S1024x4096_S128x4096_128_0)) 127#32⟩,
      ⟨Rect.unit (s := S1024x4096) ![0, 0] S128x4096.size inb_S1024x4096_S128x4096_0_0, k0_pay3 (F := Ideal) (rows X 0 inb_S1024x4096_S128x4096_0_0)⟩] : List (View.Piece (Elt Ideal) S1024x4096 .fp8e4m3)) := by
  delta runT
  rfl

/-- The pieces the last point stores of the scales. -/
theorem pieces7 (c : Dev nD) (X : FVec Ideal S1024x4096 .f32) : (runT (F := Ideal) c (grid0.coords t15) (ms0_0 t15) (hs0_0 t15) (ms0_1 t15) (hs0_1 t15) (ms0_2 t15) (hs0_2 t15) (ms0_3 t15) (hs0_3 t15) (ms0_4 t15) (hs0_4 t15) (ms0_5 t15) (hs0_5 t15) (ms0_6 t15) (hs0_6 t15) (ms0_7 t15) (hs0_7 t15) scM0_0 (Memref.isWhole_whole _) hc15 X).2.1 =
    ([⟨Rect.unit (s := S1024x1) ![896, 0] S128x1.size inb_S1024x1_S128x1_896_0, k0_pay41 (F := Ideal) (k0_pay36 (F := Ideal) (rows X 896 inb_S1024x4096_S128x4096_896_0)) (k0_pay37 (F := Ideal) (rows X 896 inb_S1024x4096_S128x4096_896_0)) k0_pay38 246#32⟩,
      ⟨Rect.unit (s := S1024x1) ![768, 0] S128x1.size inb_S1024x1_S128x1_768_0, k0_pay35 (F := Ideal) (k0_pay29 (F := Ideal) (rows X 768 inb_S1024x4096_S128x4096_768_0)) (k0_pay30 (F := Ideal) (rows X 768 inb_S1024x4096_S128x4096_768_0)) (k0_pay31 (F := Ideal) (rows X 768 inb_S1024x4096_S128x4096_768_0)) k0_pay32⟩,
      ⟨Rect.unit (s := S1024x1) ![640, 0] S128x1.size inb_S1024x1_S128x1_640_0, k0_pay28 (F := Ideal) (k0_pay25 (F := Ideal) (rows X 640 inb_S1024x4096_S128x4096_640_0))⟩,
      ⟨Rect.unit (s := S1024x1) ![512, 0] S128x1.size inb_S1024x1_S128x1_512_0, k0_pay24 (F := Ideal) (k0_pay22 (F := Ideal) (rows X 512 inb_S1024x4096_S128x4096_512_0))⟩,
      ⟨Rect.unit (s := S1024x1) ![384, 0] S128x1.size inb_S1024x1_S128x1_384_0, k0_pay21 (F := Ideal) (k0_pay16 (F := Ideal) (rows X 384 inb_S1024x4096_S128x4096_384_0)) (k0_pay17 (F := Ideal) (rows X 384 inb_S1024x4096_S128x4096_384_0)) k0_pay18 246#32⟩,
      ⟨Rect.unit (s := S1024x1) ![256, 0] S128x1.size inb_S1024x1_S128x1_256_0, k0_pay15 (F := Ideal) (k0_pay9 (F := Ideal) (rows X 256 inb_S1024x4096_S128x4096_256_0)) (k0_pay10 (F := Ideal) (rows X 256 inb_S1024x4096_S128x4096_256_0)) (k0_pay11 (F := Ideal) (rows X 256 inb_S1024x4096_S128x4096_256_0)) k0_pay12⟩,
      ⟨Rect.unit (s := S1024x1) ![128, 0] S128x1.size inb_S1024x1_S128x1_128_0, k0_pay8 (F := Ideal) (k0_pay5 (F := Ideal) (rows X 128 inb_S1024x4096_S128x4096_128_0))⟩,
      ⟨Rect.unit (s := S1024x1) ![0, 0] S128x1.size inb_S1024x1_S128x1_0_0, k0_pay4 (F := Ideal) (k0_pay2 (F := Ideal) (rows X 0 inb_S1024x4096_S128x4096_0_0))⟩] : List (View.Piece (Elt Ideal) S1024x1 .f32)) := by
  delta runT
  rfl

/-- A block's stored codes as a piece. -/
def pc6 (X : FVec Ideal S1024x4096 .f32) (o : ℕ) (inb : ∀ a, (![o, 0] : Fin 2 → ℕ) a + S128x4096.size a ≤ S1024x4096.size a) : View.Piece (Elt Ideal) S1024x4096 .fp8e4m3 :=
  ⟨Rect.unit (s := S1024x4096) ![o, 0] S128x4096.size inb, k0_pay3 (F := Ideal) (rows X o inb)⟩

/-- A piece of codes is the quantised rows it covers. -/
theorem pc6_ok (X : FVec Ideal S1024x4096 .f32) (o : ℕ) (inb) (x : (pc6 X o inb).1.shape.Idx) :
    (pc6 X o inb).2 x = Cert.FfRefIdeal.Value.QUANT X ((pc6 X o inb).1.emb x) :=
  code_piece X o inb x _ (congrArg (o + ·) (Nat.one_mul _)) ((Nat.zero_add _).trans (Nat.one_mul _))

/-- A block's stored scales as a piece. -/
def pc7 (X : FVec Ideal S1024x4096 .f32) (o : ℕ) (inb : ∀ a, (![o, 0] : Fin 2 → ℕ) a + S128x4096.size a ≤ S1024x4096.size a)
    (inb' : ∀ a, (![o, 0] : Fin 2 → ℕ) a + S128x1.size a ≤ S1024x1.size a) : View.Piece (Elt Ideal) S1024x1 .f32 :=
  ⟨Rect.unit (s := S1024x1) ![o, 0] S128x1.size inb', k0_pay4 (F := Ideal) (k0_pay2 (F := Ideal) (rows X o inb))⟩

/-- A piece of scales is the scales of the rows it covers. -/
theorem pc7_ok (X : FVec Ideal S1024x4096 .f32) (o : ℕ) (inb inb') (x : (pc7 X o inb inb').1.shape.Idx) :
    (pc7 X o inb inb').2 x = Cert.FfRefIdeal.Value.SCALES X ((pc7 X o inb inb').1.emb x) :=
  scale_piece X o inb x _ (congrArg (o + ·) (Nat.one_mul _))

attribute [local irreducible] runT

/-- The last point's code pieces, block by block. -/
theorem list6 (c : Dev nD) (X : FVec Ideal S1024x4096 .f32) : (runT (F := Ideal) c (grid0.coords t15) (ms0_0 t15) (hs0_0 t15) (ms0_1 t15) (hs0_1 t15) (ms0_2 t15) (hs0_2 t15) (ms0_3 t15) (hs0_3 t15) (ms0_4 t15) (hs0_4 t15) (ms0_5 t15) (hs0_5 t15) (ms0_6 t15) (hs0_6 t15) (ms0_7 t15) (hs0_7 t15) scM0_0 (Memref.isWhole_whole _) hc15 X).1 =
    [pc6 X 896 inb_S1024x4096_S128x4096_896_0, pc6 X 768 inb_S1024x4096_S128x4096_768_0, pc6 X 640 inb_S1024x4096_S128x4096_640_0, pc6 X 512 inb_S1024x4096_S128x4096_512_0, pc6 X 384 inb_S1024x4096_S128x4096_384_0, pc6 X 256 inb_S1024x4096_S128x4096_256_0, pc6 X 128 inb_S1024x4096_S128x4096_128_0, pc6 X 0 inb_S1024x4096_S128x4096_0_0] := by
  rw [pieces6]
  simp only [code_eq1, code_eq2, code_eq3, code_eq4, code_eq5, code_eq6, code_eq7]
  rfl

/-- The last point's scale pieces, block by block. -/
theorem list7 (c : Dev nD) (X : FVec Ideal S1024x4096 .f32) : (runT (F := Ideal) c (grid0.coords t15) (ms0_0 t15) (hs0_0 t15) (ms0_1 t15) (hs0_1 t15) (ms0_2 t15) (hs0_2 t15) (ms0_3 t15) (hs0_3 t15) (ms0_4 t15) (hs0_4 t15) (ms0_5 t15) (hs0_5 t15) (ms0_6 t15) (hs0_6 t15) (ms0_7 t15) (hs0_7 t15) scM0_0 (Memref.isWhole_whole _) hc15 X).2.1 =
    [pc7 X 896 inb_S1024x4096_S128x4096_896_0 inb_S1024x1_S128x1_896_0, pc7 X 768 inb_S1024x4096_S128x4096_768_0 inb_S1024x1_S128x1_768_0, pc7 X 640 inb_S1024x4096_S128x4096_640_0 inb_S1024x1_S128x1_640_0, pc7 X 512 inb_S1024x4096_S128x4096_512_0 inb_S1024x1_S128x1_512_0, pc7 X 384 inb_S1024x4096_S128x4096_384_0 inb_S1024x1_S128x1_384_0, pc7 X 256 inb_S1024x4096_S128x4096_256_0 inb_S1024x1_S128x1_256_0, pc7 X 128 inb_S1024x4096_S128x4096_128_0 inb_S1024x1_S128x1_128_0, pc7 X 0 inb_S1024x4096_S128x4096_0_0 inb_S1024x1_S128x1_0_0] := by
  rw [pieces7]
  simp only [scale_eq1, scale_eq2, scale_eq3, scale_eq4, scale_eq5, scale_eq6, scale_eq7]
  rfl

/-- Every piece of the codes is the quantised rows it covers. -/
theorem all6 (c : Dev nD) (X : FVec Ideal S1024x4096 .f32) : ∀ p ∈ (runT (F := Ideal) c (grid0.coords t15) (ms0_0 t15) (hs0_0 t15) (ms0_1 t15) (hs0_1 t15) (ms0_2 t15) (hs0_2 t15) (ms0_3 t15) (hs0_3 t15) (ms0_4 t15) (hs0_4 t15) (ms0_5 t15) (hs0_5 t15) (ms0_6 t15) (hs0_6 t15) (ms0_7 t15) (hs0_7 t15) scM0_0 (Memref.isWhole_whole _) hc15 X).1,
    ∀ x : p.1.shape.Idx, p.2 x = Cert.FfRefIdeal.Value.QUANT X (p.1.emb x) := by
  rw [list6]
  intro p hp
  simp only [List.mem_cons, List.not_mem_nil, or_false] at hp
  rcases hp with h | h | h | h | h | h | h | h
  all_goals
    rw [h]
    exact pc6_ok X _ _

/-- Every piece of the scales is the scales of the rows it covers. -/
theorem all7 (c : Dev nD) (X : FVec Ideal S1024x4096 .f32) : ∀ p ∈ (runT (F := Ideal) c (grid0.coords t15) (ms0_0 t15) (hs0_0 t15) (ms0_1 t15) (hs0_1 t15) (ms0_2 t15) (hs0_2 t15) (ms0_3 t15) (hs0_3 t15) (ms0_4 t15) (hs0_4 t15) (ms0_5 t15) (hs0_5 t15) (ms0_6 t15) (hs0_6 t15) (ms0_7 t15) (hs0_7 t15) scM0_0 (Memref.isWhole_whole _) hc15 X).2.1,
    ∀ x : p.1.shape.Idx, p.2 x = Cert.FfRefIdeal.Value.SCALES X (p.1.emb x) := by
  rw [list7]
  intro p hp
  simp only [List.mem_cons, List.not_mem_nil, or_false] at hp
  rcases hp with h | h | h | h | h | h | h | h
  all_goals
    rw [h]
    exact pc7_ok X _ _ _

/-- The codes the last point leaves are the quantised contents of the scratch. -/
theorem codes_eq (c : Dev nD) (X : FVec Ideal S1024x4096 .f32) : codes (F := Ideal) c X = Cert.FfRefIdeal.Value.QUANT X := by
  funext y
  unfold codes
  exact View.read_writes_apply_of_pieces VO0_6 _ (Cert.FfRefIdeal.Value.QUANT X) _ (all6 c X) y (cover6 (F := Ideal) c X y)

/-- The scales the last point leaves are the scales of the scratch's rows. -/
theorem scales_eq (c : Dev nD) (X : FVec Ideal S1024x4096 .f32) : scales (F := Ideal) c X = Cert.FfRefIdeal.Value.SCALES X := by
  funext y
  unfold scales
  exact View.read_writes_apply_of_pieces VO0_7 _ (Cert.FfRefIdeal.Value.SCALES X) _ (all7 c X) y (cover7 (F := Ideal) c X y)

attribute [local irreducible] codes scales

/-! ## The hidden values -/

/-- A slice's element is the reference's hidden value at the slice's place. -/
theorem slice_at (c : Dev nD) (t : Fin cfg0.N) (R : Fin 1024) (k : Fin 256) (l : Fin 4096) (hl : l.val = t.val * 256 + k.val) :
    k0_pay1 (F := Ideal) (iblk m c 1 t) (iblk m c 0 t) (iblk m c 2 t) (iblk m c 4 t) (iblk m c 0 t) (iblk m c 3 t) (iblk m c 5 t) (ix2 R k)
    = Cert.FfRefIdeal.Value.REFh (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (ix2 R l) := by
  pointwise [k0_pay1, Cert.FfRefIdeal.Value.REFh, Cert.FfRefIdeal.Value.rowS, Cert.FfRefIdeal.Gen.k0_pay4]
  blk_point [iblk, V, idx t]

/-- The scratch's final contents are the reference's hidden values. -/
theorem hid_eq (c : Dev nD) : hid (F := Ideal) m c
    = Cert.FfRefIdeal.Value.REFh (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  funext y
  unfold hid slice
  obtain ⟨y0, y1, rfl⟩ : ∃ (a : Fin 1024) (b : Fin 4096), y = ix2 a b := ⟨y 0, y 1, by funext a; fin_cases a <;> rfl⟩
  exact slice_at m c _ y0 _ y1 (by
    show y1.val = y1.val / 256 * 256 + y1.val % 256
    omega)

/-- The kernel's codes after its run are the reference's. -/
theorem final6 (c : Dev nD) : (dats (F := Ideal) m 0 c).arrAt 6 (cfgs 0).N
    = Cert.FfRefIdeal.Value.QUANT (Cert.FfRefIdeal.Value.REFh (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))) := by
  refine (dats m 0 c).arrAt_eq_of_after_last 6 t15 (by decide +kernel) _ fun j => ?_
  blk_simp
  rw [after0_6]
  unfold out6
  rw [codes_eq, hid_eq]

/-- The kernel's row scales after its run are the reference's. -/
theorem final7 (c : Dev nD) : (dats (F := Ideal) m 0 c).arrAt 7 (cfgs 0).N
    = Cert.FfRefIdeal.Value.SCALES (Cert.FfRefIdeal.Value.REFh (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))) := by
  refine (dats m 0 c).arrAt_eq_of_after_last 7 t15 (by decide +kernel) _ fun j => ?_
  blk_simp
  rw [after0_7]
  unfold out7
  rw [scales_eq, hid_eq]

end Cert.FfIdeal.Value

end
-- ==== Proof.lean ====
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.AttnRefIdeal.Skeleton
public import proofs.«01_k».proof.Proof.Gen.AttnRefIdeal.Launch
public import proofs.«01_k».proof.Proof.Gen.AttnRefIdeal.Points
public import proofs.«01_k».proof.Proof.Gen.AttnRefIdeal.Frame
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvRefIdeal
public import proofs.«01_k».proof.Proof.Gen.QkvRefIdeal.Skeleton
public import proofs.«01_k».proof.Proof.Gen.QkvRefIdeal.Launch
public import proofs.«01_k».proof.Proof.Gen.QkvRefIdeal.Points
public import proofs.«01_k».proof.Proof.Gen.QkvRefIdeal.Frame
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.DownRefIdeal.Skeleton
public import proofs.«01_k».proof.Proof.Gen.DownRefIdeal.Launch
public import proofs.«01_k».proof.Proof.Gen.DownRefIdeal.Points
public import proofs.«01_k».proof.Proof.Gen.DownRefIdeal.Frame
public import proofs.«01_k».proof.Proof.Gen.Oproj
public import proofs.«01_k».proof.Proof.Gen.Oproj.Skeleton
public import proofs.«01_k».proof.Proof.Gen.Oproj.Launch
public import proofs.«01_k».proof.Proof.Gen.Oproj.Points
public import proofs.«01_k».proof.Proof.Gen.Oproj.Frame
public import proofs.«01_k».proof.Proof.Gen.OprojIdeal
public import proofs.«01_k».proof.Proof.Gen.OprojIdeal.Skeleton
public import proofs.«01_k».proof.Proof.Gen.OprojIdeal.Launch
public import proofs.«01_k».proof.Proof.Gen.OprojIdeal.Points
public import proofs.«01_k».proof.Proof.Gen.OprojIdeal.Frame
public import proofs.«01_k».proof.Proof.Gen.OprojRefIdeal
public import proofs.«01_k».proof.Proof.Gen.OprojRefIdeal.Skeleton
public import proofs.«01_k».proof.Proof.Gen.OprojRefIdeal.Launch
public import proofs.«01_k».proof.Proof.Gen.OprojRefIdeal.Points
public import proofs.«01_k».proof.Proof.Gen.OprojRefIdeal.Frame
public import proofs.«01_k».proof.Proof.Gen.Ff
public import proofs.«01_k».proof.Proof.Gen.Ff.Skeleton
public import proofs.«01_k».proof.Proof.Gen.Ff.Launch
public import proofs.«01_k».proof.Proof.Gen.Ff.Points
public import proofs.«01_k».proof.Proof.Gen.Ff.Frame
public import proofs.«01_k».proof.Proof.Gen.FfIdeal
public import proofs.«01_k».proof.Proof.Gen.FfIdeal.Skeleton
public import proofs.«01_k».proof.Proof.Gen.FfIdeal.Launch
public import proofs.«01_k».proof.Proof.Gen.FfIdeal.Points
public import proofs.«01_k».proof.Proof.Gen.FfIdeal.Frame
public import proofs.«01_k».proof.Proof.FfFrame
public import proofs.«01_k».proof.Proof.FfIdealFrame
public import proofs.«01_k».proof.Proof.Gen.FfRefIdeal
public import proofs.«01_k».proof.Proof.Gen.FfRefIdeal.Skeleton
public import proofs.«01_k».proof.Proof.Gen.FfRefIdeal.Launch
public import proofs.«01_k».proof.Proof.Gen.FfRefIdeal.Points
public import proofs.«01_k».proof.Proof.Gen.FfRefIdeal.Frame
public import proofs.«01_k».proof.Proof.DownValue
public import proofs.«01_k».proof.Proof.OprojValue
public import proofs.«01_k».proof.Proof.AttnValue
public import proofs.«01_k».proof.Proof.QkvFinal
public import proofs.«01_k».proof.Proof.FfIdealValue
public import Idealize.ShloMosaic.Adequacy
public import Idealize.ShloMosaic.Init

@[expose] public section

set_option maxRecDepth 16384

noncomputable section

namespace Cert.Proof

open Idealize.ShloMosaic Idealize.SL.Sem

/-- The down projection: kernel and reference end with the same array. -/
theorem down_algebraic : Cert.algebraic_DownIdeal_DownRefIdeal (hDownIdeal := Cert.DownIdeal.Gen.facts) (hDownRefIdeal := Cert.DownRefIdeal.Gen.facts) := by
  pair_intro
  · run_from Cert.DownIdeal.Gen.run_main m g
  · run_from Cert.DownRefIdeal.Gen.run_main m' g'
    rw [Cert.DownRefIdeal.Value.final m' c, Cert.DownIdeal.Value.final m c, (hagree c).1, (hagree c).2.1, (hagree c).2.2.1, (hagree c).2.2.2.1, (hagree c).2.2.2.2]

/-- The attention output projection: kernel and reference end with the same residual, codes and row scales. -/
theorem oproj_algebraic : Cert.algebraic_OprojIdeal_OprojRefIdeal (hOprojIdeal := Cert.OprojIdeal.Gen.facts) (hOprojRefIdeal := Cert.OprojRefIdeal.Gen.facts) := by
  pair_intro
  · run_from Cert.OprojIdeal.Gen.run_main m g
  · run_from Cert.OprojRefIdeal.Gen.run_main m' g'
    · rw [Cert.OprojRefIdeal.Value.final6 m' c, Cert.OprojIdeal.Value.final6 m c, (hagree c).1, (hagree c).2.1, (hagree c).2.2.1, (hagree c).2.2.2.1, (hagree c).2.2.2.2.1]
    · rw [Cert.OprojRefIdeal.Value.final7 m' c, Cert.OprojIdeal.Value.final7 m c, (hagree c).1, (hagree c).2.1, (hagree c).2.2.1, (hagree c).2.2.2.1, (hagree c).2.2.2.2.1, (hagree c).2.2.2.2.2]
    · rw [Cert.OprojRefIdeal.Value.final8 m' c, Cert.OprojIdeal.Value.final8 m c, (hagree c).1, (hagree c).2.1, (hagree c).2.2.1, (hagree c).2.2.2.1, (hagree c).2.2.2.2.1, (hagree c).2.2.2.2.2]

/-- The attention: kernel and reference end with the same codes and row scales. -/
theorem attn_algebraic : Cert.algebraic_AttnIdeal_AttnRefIdeal (hAttnIdeal := Cert.AttnIdeal.Gen.facts) (hAttnRefIdeal := Cert.AttnRefIdeal.Gen.facts) := by
  pair_intro
  · run_from Cert.AttnIdeal.Gen.run_main m g
  · run_from Cert.AttnRefIdeal.Gen.run_main m' g'
    · rw [Cert.AttnRefIdeal.Value.final1 m' c, Cert.AttnIdeal.Value.final2 m c, (hagree c).1, (hagree c).2]
    · rw [Cert.AttnRefIdeal.Value.final2 m' c, Cert.AttnIdeal.Value.final3 m c, (hagree c).1, (hagree c).2]

/-- The reference's keys and values on the same arguments. -/
theorem qkv_kv (m : (ℓ : Loc Cert.QkvIdeal.nD Cert.QkvIdeal.τ Cert.QkvIdeal.sig) → Buf (Elt Ideal) ℓ) (m' : (ℓ : Loc Cert.QkvRefIdeal.nD Cert.QkvRefIdeal.τ Cert.QkvRefIdeal.sig) → Buf (Elt Ideal) ℓ) (c : Dev Cert.QkvIdeal.nD)
    (h0 : m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0))
    (h1 : m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1))
    (h2 : m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2))
    (h5 : m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5))
    (h6 : m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6))
    (h7 : m' ((c.tc : Thread Cert.QkvRefIdeal.nD Cert.QkvRefIdeal.τ).loc Cert.QkvRefIdeal.main_arg7) = m ((c.tc : Thread Cert.QkvIdeal.nD Cert.QkvIdeal.τ).loc Cert.QkvIdeal.main_arg7))
    (h8 : m' ((c.tc : Thread Cert.QkvRefIdeal.nD Cert.QkvRefIdeal.τ).loc Cert.QkvRefIdeal.main_arg8) = m ((c.tc : Thread Cert.QkvIdeal.nD Cert.QkvIdeal.τ).loc Cert.QkvIdeal.main_arg8)) :
    Cert.QkvRefIdeal.Value.outKV ((Cert.QkvRefIdeal.Gen.dats m' 0 c).arrAt 11 (Cert.QkvRefIdeal.cfgs 0).N) ((Cert.QkvRefIdeal.Gen.dats m' 0 c).arrAt 12 (Cert.QkvRefIdeal.cfgs 0).N)
      (Cert.QkvRefIdeal.Value.cosT (Cert.QkvRefIdeal.Value.ANG (m' ((c.tc : Thread Cert.QkvRefIdeal.nD Cert.QkvRefIdeal.τ).loc Cert.QkvRefIdeal.main_arg1))))
      (Cert.QkvRefIdeal.Value.sinT (Cert.QkvRefIdeal.Value.ANG (m' ((c.tc : Thread Cert.QkvRefIdeal.nD Cert.QkvRefIdeal.τ).loc Cert.QkvRefIdeal.main_arg1)))) =
    Cert.QkvRefIdeal.Value.outKV
      (Cert.QkvRefIdeal.Value.linear64 (Cert.QkvRefIdeal.Value.REFq (m ((c.tc : Thread Cert.QkvIdeal.nD Cert.QkvIdeal.τ).loc Cert.QkvIdeal.main_arg0)) (m ((c.tc : Thread Cert.QkvIdeal.nD Cert.QkvIdeal.τ).loc Cert.QkvIdeal.main_arg2))) (Cert.QkvRefIdeal.Value.REFs (m ((c.tc : Thread Cert.QkvIdeal.nD Cert.QkvIdeal.τ).loc Cert.QkvIdeal.main_arg0)) (m ((c.tc : Thread Cert.QkvIdeal.nD Cert.QkvIdeal.τ).loc Cert.QkvIdeal.main_arg2)))
        (m ((c.tc : Thread Cert.QkvIdeal.nD Cert.QkvIdeal.τ).loc Cert.QkvIdeal.main_arg5)) (Cert.QkvRefIdeal.Value.rowSk (m ((c.tc : Thread Cert.QkvIdeal.nD Cert.QkvIdeal.τ).loc Cert.QkvIdeal.main_arg6))))
      (Cert.QkvRefIdeal.Value.linear64 (Cert.QkvRefIdeal.Value.REFq (m ((c.tc : Thread Cert.QkvIdeal.nD Cert.QkvIdeal.τ).loc Cert.QkvIdeal.main_arg0)) (m ((c.tc : Thread Cert.QkvIdeal.nD Cert.QkvIdeal.τ).loc Cert.QkvIdeal.main_arg2))) (Cert.QkvRefIdeal.Value.REFs (m ((c.tc : Thread Cert.QkvIdeal.nD Cert.QkvIdeal.τ).loc Cert.QkvIdeal.main_arg0)) (m ((c.tc : Thread Cert.QkvIdeal.nD Cert.QkvIdeal.τ).loc Cert.QkvIdeal.main_arg2)))
        (m ((c.tc : Thread Cert.QkvIdeal.nD Cert.QkvIdeal.τ).loc Cert.QkvIdeal.main_arg7)) (Cert.QkvRefIdeal.Value.rowSk (m ((c.tc : Thread Cert.QkvIdeal.nD Cert.QkvIdeal.τ).loc Cert.QkvIdeal.main_arg8))))
      (Cert.QkvRefIdeal.Value.cosT (Cert.QkvRefIdeal.Value.ANG (m ((c.tc : Thread Cert.QkvIdeal.nD Cert.QkvIdeal.τ).loc Cert.QkvIdeal.main_arg1)))) (Cert.QkvRefIdeal.Value.sinT (Cert.QkvRefIdeal.Value.ANG (m ((c.tc : Thread Cert.QkvIdeal.nD Cert.QkvIdeal.τ).loc Cert.QkvIdeal.main_arg1)))) := by
  rw [Cert.QkvRefIdeal.Value.final11 m' c, Cert.QkvRefIdeal.Value.final12 m' c, h0, h1, h2, h5, h6, h7, h8]

/-- The projections with the rotary embedding: kernel and reference end with the same codes, row scales, queries and keys and values. -/
theorem qkv_algebraic : Cert.algebraic_QkvIdeal_QkvRefIdeal (hQkvIdeal := Cert.QkvIdeal.Gen.facts) (hQkvRefIdeal := Cert.QkvRefIdeal.Gen.facts) := by
  intro m g m' g' _ hagree
  refine ⟨fun c => (Cert.QkvIdeal.Gen.dats m 0 c).arrAt 9 (Cert.QkvIdeal.cfgs 0).N, fun c => (Cert.QkvIdeal.Gen.dats m 0 c).arrAt 10 (Cert.QkvIdeal.cfgs 0).N,
    fun c => (Cert.QkvIdeal.Gen.dats m 0 c).arrAt 11 (Cert.QkvIdeal.cfgs 0).N, fun c => (Cert.QkvIdeal.Gen.dats m 0 c).arrAt 12 (Cert.QkvIdeal.cfgs 0).N, ?_, ?_⟩
  · exact (θ_run Cert.QkvIdeal.defs _ _).mono (fun _ h c => ⟨(h.1 c).1 9, (h.1 c).1 10, (h.1 c).1 11, (h.1 c).1 12, h.2 c⟩)
      (θ_run_and (Cert.QkvIdeal.Gen.run_main m g) (Cert.QkvIdeal.Gen.unchanged m g))
  · refine (θ_run Cert.QkvRefIdeal.defs _ _).mono (fun _ h c => ⟨((h.1 c).1 8).trans ?_, ((h.1 c).1 9).trans ?_,
        ((h.1 c).2 Cert.QkvRefIdeal.main_v56 (Pipeline.mem_restRefs_of Cert.QkvRefIdeal.main_v56 (by decide) (by decide))).trans ?_,
        ((h.1 c).2 Cert.QkvRefIdeal.main_v55 (Pipeline.mem_restRefs_of Cert.QkvRefIdeal.main_v55 (by decide) (by decide))).trans ?_, h.2 c⟩)
      (θ_run_and (Cert.QkvRefIdeal.Gen.run_main m' g') (Cert.QkvRefIdeal.Gen.unchanged m' g'))
    all_goals obtain ⟨h0, h1, h2, h3, h4, h5, h6, h7, h8⟩ := hagree c
    all_goals beta_reduce
    · rw [Cert.QkvRefIdeal.Value.final8 m' c, Cert.QkvIdeal.Value.final9 m c, h0, h2]
    · rw [Cert.QkvRefIdeal.Value.final9 m' c, Cert.QkvIdeal.Value.final10 m c, h0, h2]
    · rw [Cert.QkvRefIdeal.Value.res_q m' c, Cert.QkvRefIdeal.Value.final10 m' c, Cert.QkvIdeal.Value.final11 m c, h0, h1, h2, h3, h4]
    · exact (Cert.QkvRefIdeal.Value.res_kv m' c).trans ((qkv_kv m m' c h0 h1 h2 h5 h6 h7 h8).trans (Cert.QkvIdeal.Value.final12 m c).symm)

/-- The feed-forward's first half: kernel and reference end with the same codes and row scales of the hidden values. -/
theorem ff_algebraic : Cert.algebraic_FfIdeal_FfRefIdeal (hFfIdeal := Cert.FfIdeal.Gen.facts) (hFfRefIdeal := Cert.FfRefIdeal.Gen.facts) := by
  pair_intro
  · run_from Cert.FfIdeal.Gen.run_main m g
  · run_from Cert.FfRefIdeal.Gen.run_main m' g'
    · rw [Cert.FfRefIdeal.Value.final6 m' c, Cert.FfIdeal.Value.final6 m c, (hagree c).1, (hagree c).2.1, (hagree c).2.2.1, (hagree c).2.2.2.1, (hagree c).2.2.2.2.1, (hagree c).2.2.2.2.2]
    · rw [Cert.FfRefIdeal.Value.final7 m' c, Cert.FfIdeal.Value.final7 m c, (hagree c).1, (hagree c).2.1, (hagree c).2.2.1, (hagree c).2.2.2.1, (hagree c).2.2.2.2.1, (hagree c).2.2.2.2.2]

/-- The statement of `Defs.lean`: each program's facts, its frame, and each kernel's agreement with its reference. -/
theorem claim : Cert.Claim := ⟨Cert.Down.Gen.facts, Cert.DownIdeal.Gen.facts, Cert.DownRefIdeal.Gen.facts,
  Cert.Oproj.Gen.facts, Cert.OprojIdeal.Gen.facts, Cert.OprojRefIdeal.Gen.facts,
  Cert.Attn.Gen.facts, Cert.AttnIdeal.Gen.facts, Cert.AttnRefIdeal.Gen.facts,
  Cert.Qkv.Gen.facts, Cert.QkvIdeal.Gen.facts, Cert.QkvRefIdeal.Gen.facts,
  Cert.Ff.Gen.facts, Cert.FfIdeal.Gen.facts, Cert.FfRefIdeal.Gen.facts,
  fun m ρ _ => Cert.Down.Gen.frame m ρ, fun m ρ _ => Cert.DownIdeal.Gen.frame m ρ, fun m ρ _ => Cert.DownRefIdeal.Gen.frame m ρ,
  fun m ρ _ => Cert.Oproj.Gen.frame m ρ, fun m ρ _ => Cert.OprojIdeal.Gen.frame m ρ, fun m ρ _ => Cert.OprojRefIdeal.Gen.frame m ρ,
  fun m ρ _ => Cert.Attn.Gen.frame m ρ, fun m ρ _ => Cert.AttnIdeal.Gen.frame m ρ, fun m ρ _ => Cert.AttnRefIdeal.Gen.frame m ρ,
  fun m ρ _ => Cert.Qkv.Gen.frame m ρ, fun m ρ _ => Cert.QkvIdeal.Gen.frame m ρ, fun m ρ _ => Cert.QkvRefIdeal.Gen.frame m ρ,
  fun m ρ _ => Cert.Ff.Gen.frame m ρ, fun m ρ _ => Cert.FfIdeal.Gen.frame m ρ, fun m ρ _ => Cert.FfRefIdeal.Gen.frame m ρ,
  trivial, down_algebraic, trivial, oproj_algebraic, trivial, attn_algebraic, trivial, qkv_algebraic, trivial, ff_algebraic⟩

end Cert.Proof

end
